-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_species_and_zero_bias [hPre_species_and_zero_bias : Cert.Pre_species_and_zero_bias.Facts] (m : (ℓ : Loc Cert.KernelIdeal.nD Cert.KernelIdeal.τ Cert.KernelIdeal.sig) → Buf (Elt Ideal) ℓ) : Prop :=
  ∀ c : Dev Cert.KernelIdeal.nD,
    (Cert.Pre_species_and_zero_bias.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_species_and_zero_bias [hPre_species_and_zero_bias : Cert.Pre_species_and_zero_bias.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_species_and_zero_bias.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ r.2.sem = fun _ => 0)

def quiescent_KernelIdeal_pre_species_and_zero_bias [hKernelIdeal : Cert.KernelIdeal.Facts] [hPre_species_and_zero_bias : Cert.Pre_species_and_zero_bias.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_species_and_zero_bias m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))
      ∧ r.2.sem = fun _ => 0)

def quiescent_ReferenceIdeal_pre_species_and_zero_bias [hReferenceIdeal : Cert.ReferenceIdeal.Facts] [hPre_species_and_zero_bias : Cert.Pre_species_and_zero_bias.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_species_and_zero_bias m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))
      ∧ r.2.sem = fun _ => 0)

def preserves_Kernel_KernelIdeal : Prop :=
  True

def algebraic_KernelIdeal_ReferenceIdeal_pre_species_and_zero_bias [hKernelIdeal : Cert.KernelIdeal.Facts] [hReferenceIdeal : Cert.ReferenceIdeal.Facts] [hPre_species_and_zero_bias : Cert.Pre_species_and_zero_bias.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_species_and_zero_bias m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v209) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_species_and_zero_bias : Cert.Pre_species_and_zero_bias.Facts),
    quiescent_Kernel (hKernel := hKernel)
    ∧ quiescent_KernelIdeal (hKernelIdeal := hKernelIdeal)
    ∧ quiescent_KernelIdeal_pre_species_and_zero_bias (hKernelIdeal := hKernelIdeal) (hPre_species_and_zero_bias := hPre_species_and_zero_bias)
    ∧ quiescent_ReferenceIdeal (hReferenceIdeal := hReferenceIdeal)
    ∧ quiescent_ReferenceIdeal_pre_species_and_zero_bias (hReferenceIdeal := hReferenceIdeal) (hPre_species_and_zero_bias := hPre_species_and_zero_bias)
    ∧ preserves_Kernel_KernelIdeal
    ∧ algebraic_KernelIdeal_ReferenceIdeal_pre_species_and_zero_bias (hKernelIdeal := hKernelIdeal) (hReferenceIdeal := hReferenceIdeal) (hPre_species_and_zero_bias := hPre_species_and_zero_bias)
-- ==== Pre_species_and_zero_bias.lean ====
abbrev S8x286x3 : Shape := ⟨3, ![8, 286, 3]⟩
abbrev S8x286x1 : Shape := ⟨3, ![8, 286, 1]⟩
abbrev S6x4 : Shape := ⟨2, ![6, 4]⟩
abbrev S3x32 : Shape := ⟨2, ![3, 32]⟩
abbrev S32 : Shape := ⟨1, ![32]⟩
abbrev S32x32 : Shape := ⟨2, ![32, 32]⟩
abbrev S32x64 : Shape := ⟨2, ![32, 64]⟩
abbrev S64 : Shape := ⟨1, ![64]⟩
abbrev S24x24 : Shape := ⟨2, ![24, 24]⟩
abbrev S24 : Shape := ⟨1, ![24]⟩
abbrev S24x48 : Shape := ⟨2, ![24, 48]⟩
abbrev S48 : Shape := ⟨1, ![48]⟩
abbrev S_ : Shape := ⟨0, ![]⟩

class Facts : Prop where
  bcast_S_S8x286x1 : S_.BroadcastsInDim S8x286x1 (![] : Fin 0 → Fin S8x286x1.rank)
  reducesTo_S8x286x1_S_d0_1_2 : S8x286x1.ReducesTo [0, 1, 2] S_
  h_S_ : 0 < S_.numel
  bcast_S_S32 : S_.BroadcastsInDim S32 (![] : Fin 0 → Fin S32.rank)
  reducesTo_S32_S_d0 : S32.ReducesTo [0] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v15 : IVec S64 1) : IVec S_ 1 :=
  let main_c_6 : IVec S_ 1 := constantI S_ 1 1#1
  let main_v16 : IVec S_ 1 := (fun x v => Host.reduce IntOp.andi x v reducesTo_S64_S_d0 h_S_) main_v15 main_c_6
  let main_v17 : IVec S_ 1 := andi main_v13 main_v16
  main_v17

def fn {F : FTy → Type} [FloatOps F] (main_arg0 : FVec F S8x286x3 .f32) (main_arg1 : IVec S8x286x1 32) (main_arg2 : FVec F S6x4 .f32) (main_arg3 : FVec F S3x32 .f32) (main_arg4 : FVec F S32 .f32) (main_arg5 : FVec F S32x32 .f32) (main_arg6 : FVec F S32 .f32) (main_arg7 : FVec F S3x32 .f32) (main_arg8 : FVec F S32 .f32) (main_arg9 : FVec F S32x64 .f32) (main_arg10 : FVec F S64 .f32) (main_arg11 : FVec F S3x32 .f32) (main_arg12 : FVec F S32 .f32) (main_arg13 : FVec F S32x64 .f32) (main_arg14 : FVec F S64 .f32) (main_arg15 : FVec F S24x24 .f32) (main_arg16 : FVec F S24 .f32) (main_arg17 : FVec F S24 .f32) (main_arg18 : FVec F S24 .f32) (main_arg19 : FVec F S24x48 .f32) (main_arg20 : FVec F S48 .f32) (main_arg21 : FVec F S48 .f32) (main_arg22 : FVec F S48 .f32) : IVec S_ 1 :=
  let main_c : IVec S_ 32 := constantI S_ 32 0#32
  let main_v0 : IVec S8x286x1 32 := broadcastInDim S8x286x1 ![] bcast_S_S8x286x1 main_c
  let main_v1 : IVec S8x286x1 1 := cmpi .sge main_arg1 main_v0
  let main_c_0 : IVec S_ 32 := constantI S_ 32 6#32
  let main_v2 : IVec S8x286x1 32 := broadcastInDim S8x286x1 ![] bcast_S_S8x286x1 main_c_0
  let main_v3 : IVec S8x286x1 1 := cmpi .slt main_arg1 main_v2
  let main_v4 : IVec S8x286x1 1 := andi main_v1 main_v3
  let main_c_1 : IVec S_ 1 := constantI S_ 1 1#1
  let main_v5 : IVec S_ 1 := (fun x v => Host.reduce IntOp.andi x v reducesTo_S8x286x1_S_d0_1_2 h_S_) main_v4 main_c_1
  let main_cst : FVec F S_ .f32 := constant S_ .f32 0x00000000#32
  let main_v6 : FVec F S32 .f32 := broadcastInDim S32 ![] bcast_S_S32 main_cst
  let main_v7 : IVec S32 1 := cmpf .oeq main_arg6 main_v6
  let main_c_2 : IVec S_ 1 := constantI S_ 1 1#1
  let main_v8 : IVec S_ 1 := (fun x v => Host.reduce IntOp.andi x v reducesTo_S32_S_d0 h_S_) main_v7 main_c_2
  let main_v9 : IVec S_ 1 := andi main_v5 main_v8
  let main_cst_3 : FVec F S_ .f32 := constant S_ .f32 0x00000000#32
  let main_v10 : FVec F S64 .f32 := broadcastInDim S64 ![] bcast_S_S64 main_cst_3
  let main_v11 : IVec S64 1 := cmpf .oeq main_arg10 main_v10
  let main_c_4 : IVec S_ 1 := constantI S_ 1 1#1
  let main_v12 : IVec S_ 1 := (fun x v => Host.reduce IntOp.andi x v reducesTo_S64_S_d0 h_S_) main_v11 main_c_4
  let main_v13 : IVec S_ 1 := andi main_v9 main_v12
  let main_cst_5 : FVec F S_ .f32 := constant S_ .f32 0x00000000#32
  let main_v14 : FVec F S64 .f32 := broadcastInDim S64 ![] bcast_S_S64 main_cst_5
  let main_v15 : IVec S64 1 := cmpf .oeq main_arg14 main_v14
  fn_part1 (F := F) main_v13 main_v15
-- ==== Kernel.lean ====
abbrev S8x286x3 : Shape := ⟨3, ![8, 286, 3]⟩
abbrev S8x286x1 : Shape := ⟨3, ![8, 286, 1]⟩
abbrev S6x4 : Shape := ⟨2, ![6, 4]⟩
abbrev S3x32 : Shape := ⟨2, ![3, 32]⟩
abbrev S32 : Shape := ⟨1, ![32]⟩
abbrev S32x32 : Shape := ⟨2, ![32, 32]⟩
abbrev S32x64 : Shape := ⟨2, ![32, 64]⟩
abbrev S64 : Shape := ⟨1, ![64]⟩
abbrev S24x24 : Shape := ⟨2, ![24, 24]⟩
abbrev S24 : Shape := ⟨1, ![24]⟩
abbrev S24x48 : Shape := ⟨2, ![24, 48]⟩
abbrev S48 : Shape := ⟨1, ![48]⟩
abbrev S_ : Shape := ⟨0, ![]⟩
abbrev S8x288x3 : Shape := ⟨3, ![8, 288, 3]⟩
abbrev S8x384x3 : Shape := ⟨3, ![8, 384, 3]⟩
abbrev S8x288x384x3 : Shape := ⟨4, ![8, 288, 384, 3]⟩
abbrev S8x110592x3 : Shape := ⟨3, ![8, 110592, 3]⟩
abbrev S1x8x1x384x1x3 : Shape := ⟨6, ![1, 8, 1, 384, 1, 3]⟩
abbrev S1x8x288x384x1x3 : Shape := ⟨6, ![1, 8, 288, 384, 1, 3]⟩
abbrev S8x110592x2 : Shape := ⟨3, ![8, 110592, 2]⟩
abbrev S8x110592x8 : Shape := ⟨3, ![8, 110592, 8]⟩
abbrev S144x6144x8 : Shape := ⟨3, ![144, 6144, 8]⟩
abbrev S8x286 : Shape := ⟨2, ![8, 286]⟩
abbrev S8x384 : Shape := ⟨2, ![8, 384]⟩
abbrev S8x384x1 : Shape := ⟨3, ![8, 384, 1]⟩
abbrev S3x96 : Shape := ⟨2, ![3, 96]⟩
abbrev S96 : Shape := ⟨1, ![96]⟩
abbrev S1x96 : Shape := ⟨2, ![1, 96]⟩
abbrev S32x8x4 : Shape := ⟨3, ![32, 8, 4]⟩
abbrev S32x4x8 : Shape := ⟨3, ![32, 4, 8]⟩
abbrev S8x8 : Shape := ⟨2, ![8, 8]⟩
abbrev S1x8x1x8 : Shape := ⟨4, ![1, 8, 1, 8]⟩
abbrev S4x8x1x8 : Shape := ⟨4, ![4, 8, 1, 8]⟩
abbrev S32x8 : Shape := ⟨2, ![32, 8]⟩
abbrev S32x8x8 : Shape := ⟨3, ![32, 8, 8]⟩
abbrev S8x8x1x8 : Shape := ⟨4, ![8, 8, 1, 8]⟩
abbrev S64x8 : Shape := ⟨2, ![64, 8]⟩
abbrev S8x1x24 : Shape := ⟨3, ![8, 1, 24]⟩
abbrev S1x6144x8 : Shape := ⟨3, ![1, 6144, 8]⟩
abbrev S1x384x1 : Shape := ⟨3, ![1, 384, 1]⟩
abbrev S1x1x24 : Shape := ⟨3, ![1, 1, 24]⟩
abbrev S110592x128 : Shape := ⟨2, ![110592, 128]⟩
abbrev S288x1 : Shape := ⟨2, ![288, 1]⟩
abbrev S384x8 : Shape := ⟨2, ![384, 8]⟩
abbrev S1x24 : Shape := ⟨2, ![1, 24]⟩
abbrev S6144x8 : Shape := ⟨2, ![6144, 8]⟩
abbrev S6144x1 : Shape := ⟨2, ![6144, 1]⟩
abbrev S16x384x1 : Shape := ⟨3, ![16, 384, 1]⟩
abbrev S16x1 : Shape := ⟨2, ![16, 1]⟩
abbrev S1x3 : Shape := ⟨2, ![1, 3]⟩
abbrev S6144x3 : Shape := ⟨2, ![6144, 3]⟩
abbrev S6144x96 : Shape := ⟨2, ![6144, 96]⟩
abbrev S6144x32 : Shape := ⟨2, ![6144, 32]⟩
abbrev S6144x128 : Shape := ⟨2, ![6144, 128]⟩
abbrev S384x1 : Shape := ⟨2, ![384, 1]⟩
abbrev S384x6 : Shape := ⟨2, ![384, 6]⟩
abbrev S384x4 : Shape := ⟨2, ![384, 4]⟩
abbrev S384x32 : Shape := ⟨2, ![384, 32]⟩
abbrev S16x384x32 : Shape := ⟨3, ![16, 384, 32]⟩
abbrev S1x384x32 : Shape := ⟨3, ![1, 384, 32]⟩
abbrev S16x32 : Shape := ⟨2, ![16, 32]⟩
abbrev S16x8 : Shape := ⟨2, ![16, 8]⟩
abbrev S1x8 : Shape := ⟨2, ![1, 8]⟩
abbrev S8 : Shape := ⟨1, ![8]⟩
abbrev S384x64 : Shape := ⟨2, ![384, 64]⟩
abbrev S6144x64 : Shape := ⟨2, ![6144, 64]⟩
abbrev S16x384x64 : Shape := ⟨3, ![16, 384, 64]⟩
abbrev S1x384x64 : Shape := ⟨3, ![1, 384, 64]⟩
abbrev S16x64 : Shape := ⟨2, ![16, 64]⟩
abbrev S8x24 : Shape := ⟨2, ![8, 24]⟩
abbrev S1x48 : Shape := ⟨2, ![1, 48]⟩
abbrev S8x48 : Shape := ⟨2, ![8, 48]⟩

abbrev nBuf : Space → Nat
  | .hbm => 107
  | .vmem => 30
  | .smem => 0
  | _ => 0

abbrev bufTy : (tb : Table) → Fin (tcTables nBuf tb) → BufTy
  | .hbm, ⟨0, _⟩ => ⟨S8x286x3, .f32⟩
  | .hbm, ⟨1, _⟩ => ⟨S8x286x1, .i32⟩
  | .hbm, ⟨2, _⟩ => ⟨S6x4, .f32⟩
  | .hbm, ⟨3, _⟩ => ⟨S3x32, .f32⟩
  | .hbm, ⟨4, _⟩ => ⟨S32, .f32⟩
  | .hbm, ⟨5, _⟩ => ⟨S32x32, .f32⟩
  | .hbm, ⟨6, _⟩ => ⟨S32, .f32⟩
  | .hbm, ⟨7, _⟩ => ⟨S3x32, .f32⟩
  | .hbm, ⟨8, _⟩ => ⟨S32, .f32⟩
  | .hbm, ⟨9, _⟩ => ⟨S32x64, .f32⟩
  | .hbm, ⟨10, _⟩ => ⟨S64, .f32⟩
  | .hbm, ⟨11, _⟩ => ⟨S3x32, .f32⟩
  | .hbm, ⟨12, _⟩ => ⟨S32, .f32⟩
  | .hbm, ⟨13, _⟩ => ⟨S32x64, .f32⟩
  | .hbm, ⟨14, _⟩ => ⟨S64, .f32⟩
  | .hbm, ⟨15, _⟩ => ⟨S24x24, .f32⟩
  | .hbm, ⟨16, _⟩ => ⟨S24, .f32⟩
  | .hbm, ⟨17, _⟩ => ⟨S24, .f32⟩
  | .hbm, ⟨18, _⟩ => ⟨S24, .f32⟩
  | .hbm, ⟨19, _⟩ => ⟨S24x48, .f32⟩
  | .hbm, ⟨20, _⟩ => ⟨S48, .f32⟩
  | .hbm, ⟨21, _⟩ => ⟨S48, .f32⟩
  | .hbm, ⟨22, _⟩ => ⟨S48, .f32⟩
  | .hbm, ⟨23, _⟩ => ⟨S_, .i32⟩
  | .hbm, ⟨24, _⟩ => ⟨S_, .f32⟩
  | .hbm, ⟨25, _⟩ => ⟨S8x288x3, .f32⟩
  | .hbm, ⟨26, _⟩ => ⟨S_, .i32⟩
  | .hbm, ⟨27, _⟩ => ⟨S_, .f32⟩
  | .hbm, ⟨28, _⟩ => ⟨S8x384x3, .f32⟩
  | .hbm, ⟨29, _⟩ => ⟨S8x288x384x3, .f32⟩
  | .hbm, ⟨30, _⟩ => ⟨S8x110592x3, .f32⟩
  | .hbm, ⟨31, _⟩ => ⟨S1x8x1x384x1x3, .f32⟩
  | .hbm, ⟨32, _⟩ => ⟨S1x8x288x384x1x3, .f32⟩
  | .hbm, ⟨33, _⟩ => ⟨S8x110592x3, .f32⟩
  | .hbm, ⟨34, _⟩ => ⟨S8x110592x2, .f32⟩
  | .hbm, ⟨35, _⟩ => ⟨S_, .f32⟩
  | .hbm, ⟨36, _⟩ => ⟨S8x110592x2, .f32⟩
  | .hbm, ⟨37, _⟩ => ⟨S8x110592x8, .f32⟩
  | .hbm, ⟨38, _⟩ => ⟨S144x6144x8, .f32⟩
  | .hbm, ⟨39, _⟩ => ⟨S8x286, .i32⟩
  | .hbm, ⟨40, _⟩ => ⟨S_, .i32⟩
  | .hbm, ⟨41, _⟩ => ⟨S_, .i32⟩
  | .hbm, ⟨42, _⟩ => ⟨S8x384, .i32⟩
  | .hbm, ⟨43, _⟩ => ⟨S8x384x1, .i32⟩
  | .hbm, ⟨44, _⟩ => ⟨S3x96, .f32⟩
  | .hbm, ⟨45, _⟩ => ⟨S3x96, .bf16⟩
  | .hbm, ⟨46, _⟩ => ⟨S3x96, .f32⟩
  | .hbm, ⟨47, _⟩ => ⟨S96, .f32⟩
  | .hbm, ⟨48, _⟩ => ⟨S1x96, .f32⟩
  | .hbm, ⟨49, _⟩ => ⟨S32x8x4, .f32⟩
  | .hbm, ⟨50, _⟩ => ⟨S32x4x8, .f32⟩
  | .hbm, ⟨51, _⟩ => ⟨S32x32, .f32⟩
  | .hbm, ⟨52, _⟩ => ⟨S32x32, .bf16⟩
  | .hbm, ⟨53, _⟩ => ⟨S32x32, .f32⟩
  | .hbm, ⟨54, _⟩ => ⟨S8x8, .i32⟩
  | .hbm, ⟨55, _⟩ => ⟨S8x8, .i32⟩
  | .hbm, ⟨56, _⟩ => ⟨S_, .i32⟩
  | .hbm, ⟨57, _⟩ => ⟨S8x8, .i32⟩
  | .hbm, ⟨58, _⟩ => ⟨S8x8, .i32⟩
  | .hbm, ⟨59, _⟩ => ⟨S8x8, .i1⟩
  | .hbm, ⟨60, _⟩ => ⟨S8x8, .f32⟩
  | .hbm, ⟨61, _⟩ => ⟨S1x8x1x8, .f32⟩
  | .hbm, ⟨62, _⟩ => ⟨S4x8x1x8, .f32⟩
  | .hbm, ⟨63, _⟩ => ⟨S32x8, .f32⟩
  | .hbm, ⟨64, _⟩ => ⟨S32x8x8, .f32⟩
  | .hbm, ⟨65, _⟩ => ⟨S32x8x8, .f32⟩
  | .hbm, ⟨66, _⟩ => ⟨S32x64, .f32⟩
  | .hbm, ⟨67, _⟩ => ⟨S32x64, .bf16⟩
  | .hbm, ⟨68, _⟩ => ⟨S32x64, .f32⟩
  | .hbm, ⟨69, _⟩ => ⟨S8x8, .i32⟩
  | .hbm, ⟨70, _⟩ => ⟨S8x8, .i32⟩
  | .hbm, ⟨71, _⟩ => ⟨S_, .i32⟩
  | .hbm, ⟨72, _⟩ => ⟨S8x8, .i32⟩
  | .hbm, ⟨73, _⟩ => ⟨S8x8, .i32⟩
  | .hbm, ⟨74, _⟩ => ⟨S8x8, .i1⟩
  | .hbm, ⟨75, _⟩ => ⟨S8x8, .f32⟩
  | .hbm, ⟨76, _⟩ => ⟨S1x8x1x8, .f32⟩
  | .hbm, ⟨77, _⟩ => ⟨S8x8x1x8, .f32⟩
  | .hbm, ⟨78, _⟩ => ⟨S64x8, .f32⟩
  | .hbm, ⟨79, _⟩ => ⟨S32x8x8, .f32⟩
  | .hbm, ⟨80, _⟩ => ⟨S32x8x8, .f32⟩
  | .hbm, ⟨81, _⟩ => ⟨S32x64, .f32⟩
  | .hbm, ⟨82, _⟩ => ⟨S32x64, .bf16⟩
  | .hbm, ⟨83, _⟩ => ⟨S32x64, .f32⟩
  | .hbm, ⟨84, _⟩ => ⟨S8x8, .i32⟩
  | .hbm, ⟨85, _⟩ => ⟨S8x8, .i32⟩
  | .hbm, ⟨86, _⟩ => ⟨S_, .i32⟩
  | .hbm, ⟨87, _⟩ => ⟨S8x8, .i32⟩
  | .hbm, ⟨88, _⟩ => ⟨S8x8, .i32⟩
  | .hbm, ⟨89, _⟩ => ⟨S8x8, .i1⟩
  | .hbm, ⟨90, _⟩ => ⟨S8x8, .f32⟩
  | .hbm, ⟨91, _⟩ => ⟨S1x8x1x8, .f32⟩
  | .hbm, ⟨92, _⟩ => ⟨S8x8x1x8, .f32⟩
  | .hbm, ⟨93, _⟩ => ⟨S64x8, .f32⟩
  | .hbm, ⟨94, _⟩ => ⟨S8x1x24, .f32⟩
  | .hbm, ⟨95, _⟩ => ⟨S8x24, .f32⟩
  | .hbm, ⟨96, _⟩ => ⟨S24x24, .bf16⟩
  | .hbm, ⟨97, _⟩ => ⟨S24x24, .f32⟩
  | .hbm, ⟨98, _⟩ => ⟨S1x24, .f32⟩
  | .hbm, ⟨99, _⟩ => ⟨S1x24, .f32⟩
  | .hbm, ⟨100, _⟩ => ⟨S1x24, .f32⟩
  | .hbm, ⟨101, _⟩ => ⟨S24x48, .bf16⟩
  | .hbm, ⟨102, _⟩ => ⟨S24x48, .f32⟩
  | .hbm, ⟨103, _⟩ => ⟨S1x48, .f32⟩
  | .hbm, ⟨104, _⟩ => ⟨S1x48, .f32⟩
  | .hbm, ⟨105, _⟩ => ⟨S1x48, .f32⟩
  | .hbm, ⟨106, _⟩ => ⟨S8x48, .f32⟩
  | .local _ .vmem, ⟨0, _⟩ => ⟨S1x6144x8, .f32⟩
  | .local _ .vmem, ⟨1, _⟩ => ⟨S1x6144x8, .f32⟩
  | .local _ .vmem, ⟨2, _⟩ => ⟨S1x384x1, .i32⟩
  | .local _ .vmem, ⟨3, _⟩ => ⟨S1x384x1, .i32⟩
  | .local _ .vmem, ⟨4, _⟩ => ⟨S6x4, .f32⟩
  | .local _ .vmem, ⟨5, _⟩ => ⟨S3x96, .f32⟩
  | .local _ .vmem, ⟨6, _⟩ => ⟨S1x96, .f32⟩
  | .local _ .vmem, ⟨7, _⟩ => ⟨S32x32, .f32⟩
  | .local _ .vmem, ⟨8, _⟩ => ⟨S32x8, .f32⟩
  | .local _ .vmem, ⟨9, _⟩ => ⟨S32x64, .f32⟩
  | .local _ .vmem, ⟨10, _⟩ => ⟨S64x8, .f32⟩
  | .local _ .vmem, ⟨11, _⟩ => ⟨S32x64, .f32⟩
  | .local _ .vmem, ⟨12, _⟩ => ⟨S64x8, .f32⟩
  | .local _ .vmem, ⟨13, _⟩ => ⟨S1x1x24, .f32⟩
  | .local _ .vmem, ⟨14, _⟩ => ⟨S1x1x24, .f32⟩
  | .local _ .vmem, ⟨15, _⟩ => ⟨S110592x128, .bf16⟩
  | .local _ .vmem, ⟨16, _⟩ => ⟨S288x1, .f32⟩
  | .local _ .vmem, ⟨17, _⟩ => ⟨S384x8, .f32⟩
  | .local _ .vmem, ⟨18, _⟩ => ⟨S384x8, .f32⟩
  | .local _ .vmem, ⟨19, _⟩ => ⟨S1x24, .f32⟩
  | .local _ .vmem, ⟨20, _⟩ => ⟨S8x24, .f32⟩
  | .local _ .vmem, ⟨21, _⟩ => ⟨S24x24, .f32⟩
  | .local _ .vmem, ⟨22, _⟩ => ⟨S1x24, .f32⟩
  | .local _ .vmem, ⟨23, _⟩ => ⟨S1x24, .f32⟩
  | .local _ .vmem, ⟨24, _⟩ => ⟨S1x24, .f32⟩
  | .local _ .vmem, ⟨25, _⟩ => ⟨S24x48, .f32⟩
  | .local _ .vmem, ⟨26, _⟩ => ⟨S1x48, .f32⟩
  | .local _ .vmem, ⟨27, _⟩ => ⟨S1x48, .f32⟩
  | .local _ .vmem, ⟨28, _⟩ => ⟨S1x48, .f32⟩
  | .local _ .vmem, ⟨29, _⟩ => ⟨S8x48, .f32⟩
  | _, _ => ⟨S8x286x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_c : Ref sig .tc := ⟨.hbm, 23, rfl⟩
abbrev main_call0_v0 : Ref sig .tc := ⟨.hbm, 24, rfl⟩
abbrev main_v0 : Ref sig .tc := ⟨.hbm, 25, rfl⟩
abbrev main_c_0 : Ref sig .tc := ⟨.hbm, 26, rfl⟩
abbrev main_call1_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_cst : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_c_1 : Ref sig .tc := ⟨.hbm, 40, rfl⟩
abbrev main_call2_v0 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_c_2 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_c_3 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_c_4 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc1_stg0_0 : Ref sig .tc := ⟨.vmem, 20, rfl⟩
abbrev cc1_stg1_0 : Ref sig .tc := ⟨.vmem, 21, rfl⟩
abbrev cc1_stg2_0 : Ref sig .tc := ⟨.vmem, 22, rfl⟩
abbrev cc1_stg3_0 : Ref sig .tc := ⟨.vmem, 23, rfl⟩
abbrev cc1_stg4_0 : Ref sig .tc := ⟨.vmem, 24, rfl⟩
abbrev cc1_stg5_0 : Ref sig .tc := ⟨.vmem, 25, rfl⟩
abbrev cc1_stg6_0 : Ref sig .tc := ⟨.vmem, 26, rfl⟩
abbrev cc1_stg7_0 : Ref sig .tc := ⟨.vmem, 27, rfl⟩
abbrev cc1_stg8_0 : Ref sig .tc := ⟨.vmem, 28, rfl⟩
abbrev cc1_stg9_0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14
abbrev cc1_sem0_0 : DmaSem sig := 15
abbrev cc1_sem1_0 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem8_0 : DmaSem sig := 23
abbrev cc1_sem9_0 : DmaSem sig := 24

abbrev nD : Nat := 1
abbrev τ : Topo := Topo.v7x

variable {F : FTy → Type} [FloatOps F]

abbrev grid0 : Pipeline.Grid := ⟨2, ![8, 73], ![false, false]⟩

def k0_cond1 (i : grid0.Coords) : BitVec 1 :=
  let arg1 : BitVec 32 := BitVec.ofNat 32 (i 1).val
  let c18_i32 : BitVec 32 := 18#32
  let v0 : BitVec 1 := Scalar.cmpi .slt arg1 c18_i32
  let v1 : BitVec 32 := Scalar.extui v0
  let c0_i32 : BitVec 32 := 0#32
  let v2 : BitVec 1 := Scalar.cmpi .ne v1 c0_i32
  v2

def k0_off1 (i : grid0.Coords) : Fin 2 → Nat :=
  let arg1 : BitVec 32 := BitVec.ofNat 32 (i 1).val
  let c16_i32 : BitVec 32 := 16#32
  let v76 : BitVec 32 := Scalar.muli arg1 c16_i32
  let v77 : Index := Scalar.indexCast v76
  let c0_23 : Index := 0#32
  ![v77.toNat, 0]
def k0_off2 (i : grid0.Coords) : Fin 2 → Nat :=
  let arg1 : BitVec 32 := BitVec.ofNat 32 (i 1).val
  let c6144_i32 : BitVec 32 := 6144#32
  let v126 : BitVec 32 := Scalar.muli arg1 c6144_i32
  let v127 : Index := Scalar.indexCast v126
  let c0_39 : Index := 0#32
  ![v127.toNat, 0]
def k0_cond3 (i : grid0.Coords) : BitVec 1 :=
  let arg1 : BitVec 32 := BitVec.ofNat 32 (i 1).val
  let c18_i32_2 : BitVec 32 := 18#32
  let v6 : BitVec 1 := Scalar.cmpi .sge arg1 c18_i32_2
  let c36_i32 : BitVec 32 := 36#32
  let v7 : BitVec 1 := Scalar.cmpi .slt arg1 c36_i32
  let v8 : BitVec 1 := Scalar.andi v6 v7
  let v9 : BitVec 32 := Scalar.extui v8
  let c0_i32_3 : BitVec 32 := 0#32
  let v10 : BitVec 1 := Scalar.cmpi .ne v9 c0_i32_3
  v10

def k0_off3 (i : grid0.Coords) : Fin 2 → Nat :=
  let arg1 : BitVec 32 := BitVec.ofNat 32 (i 1).val
  let c18_i32_10 : BitVec 32 := 18#32
  let v24 : BitVec 32 := Scalar.subi arg1 c18_i32_10
  let c6144_i32 : BitVec 32 := 6144#32
  let v42 : BitVec 32 := Scalar.muli v24 c6144_i32
  let v43 : Index := Scalar.indexCast v42
  let c0_16 : Index := 0#32
  ![v43.toNat, 0]
def k0_off4 (i : grid0.Coords) : Fin 2 → Nat :=
  let arg1 : BitVec 32 := BitVec.ofNat 32 (i 1).val
  let c18_i32_10 : BitVec 32 := 18#32
  let v24 : BitVec 32 := Scalar.subi arg1 c18_i32_10
  let c16_i32 : BitVec 32 := 16#32
  let v55 : BitVec 32 := Scalar.muli v24 c16_i32
  let v56 : Index := Scalar.indexCast v55
  let c0_19 : Index := 0#32
  ![v56.toNat, 0]
def k0_off5 (i : grid0.Coords) : Fin 2 → Nat :=
  let arg1 : BitVec 32 := BitVec.ofNat 32 (i 1).val
  let c18_i32_10 : BitVec 32 := 18#32
  let v24 : BitVec 32 := Scalar.subi arg1 c18_i32_10
  let c16_i32_20 : BitVec 32 := 16#32
  let v60 : BitVec 32 := Scalar.muli v24 c16_i32_20
  let v61 : Index := Scalar.indexCast v60
  let c0_21 : Index := 0#32
  ![v61.toNat, 0]
def k0_cond4 (i : grid0.Coords) : BitVec 1 :=
  let arg1 : BitVec 32 := BitVec.ofNat 32 (i 1).val
  let c36_i32_4 : BitVec 32 := 36#32
  let v11 : BitVec 1 := Scalar.cmpi .sge arg1 c36_i32_4
  let c54_i32 : BitVec 32 := 54#32
  let v12 : BitVec 1 := Scalar.cmpi .slt arg1 c54_i32
  let v13 : BitVec 1 := Scalar.andi v11 v12
  let v14 : BitVec 32 := Scalar.extui v13
  let c0_i32_5 : BitVec 32 := 0#32
  let v15 : BitVec 1 := Scalar.cmpi .ne v14 c0_i32_5
  v15

def k0_off6 (i : grid0.Coords) : Fin 2 → Nat :=
  let arg1 : BitVec 32 := BitVec.ofNat 32 (i 1).val
  let c36_i32_10 : BitVec 32 := 36#32
  let v24 : BitVec 32 := Scalar.subi arg1 c36_i32_10
  let c6144_i32 : BitVec 32 := 6144#32
  let v49 : BitVec 32 := Scalar.muli v24 c6144_i32
  let v50 : Index := Scalar.indexCast v49
  let c32 : Index := 32#32
  ![v50.toNat, 32]
def k0_off7 (i : grid0.Coords) : Fin 2 → Nat :=
  let arg1 : BitVec 32 := BitVec.ofNat 32 (i 1).val
  let c36_i32_10 : BitVec 32 := 36#32
  let v24 : BitVec 32 := Scalar.subi arg1 c36_i32_10
  let c16_i32 : BitVec 32 := 16#32
  let v62 : BitVec 32 := Scalar.muli v24 c16_i32
  let v63 : Index := Scalar.indexCast v62
  let c0_18 : Index := 0#32
  ![v63.toNat, 0]
def k0_off8 (i : grid0.Coords) : Fin 2 → Nat :=
  let arg1 : BitVec 32 := BitVec.ofNat 32 (i 1).val
  let c36_i32_10 : BitVec 32 := 36#32
  let v24 : BitVec 32 := Scalar.subi arg1 c36_i32_10
  let c16_i32_19 : BitVec 32 := 16#32
  let v67 : BitVec 32 := Scalar.muli v24 c16_i32_19
  let v68 : Index := Scalar.indexCast v67
  let c0_20 : Index := 0#32
  ![v68.toNat, 0]
def k0_cond5 (i : grid0.Coords) : BitVec 1 :=
  let arg1 : BitVec 32 := BitVec.ofNat 32 (i 1).val
  let c54_i32_6 : BitVec 32 := 54#32
  let v16 : BitVec 1 := Scalar.cmpi .sge arg1 c54_i32_6
  let c72_i32 : BitVec 32 := 72#32
  let v17 : BitVec 1 := Scalar.cmpi .slt arg1 c72_i32
  let v18 : BitVec 1 := Scalar.andi v16 v17
  let v19 : BitVec 32 := Scalar.extui v18
  let c0_i32_7 : BitVec 32 := 0#32
  let v20 : BitVec 1 := Scalar.cmpi .ne v19 c0_i32_7
  v20

def k0_off9 (i : grid0.Coords) : Fin 2 → Nat :=
  let arg1 : BitVec 32 := BitVec.ofNat 32 (i 1).val
  let c54_i32_10 : BitVec 32 := 54#32
  let v24 : BitVec 32 := Scalar.subi arg1 c54_i32_10
  let c6144_i32 : BitVec 32 := 6144#32
  let v49 : BitVec 32 := Scalar.muli v24 c6144_i32
  let v50 : Index := Scalar.indexCast v49
  let c64 : Index := 64#32
  ![v50.toNat, 64]
def k0_off10 (i : grid0.Coords) : Fin 2 → Nat :=
  let arg1 : BitVec 32 := BitVec.ofNat 32 (i 1).val
  let c54_i32_10 : BitVec 32 := 54#32
  let v24 : BitVec 32 := Scalar.subi arg1 c54_i32_10
  let c16_i32 : BitVec 32 := 16#32
  let v62 : BitVec 32 := Scalar.muli v24 c16_i32
  let v63 : Index := Scalar.indexCast v62
  let c0_18 : Index := 0#32
  ![v63.toNat, 0]
def k0_cond6 (i : grid0.Coords) : BitVec 1 :=
  let arg1 : BitVec 32 := BitVec.ofNat 32 (i 1).val
  let c72_i32_8 : BitVec 32 := 72#32
  let v21 : BitVec 1 := Scalar.cmpi .eq arg1 c72_i32_8
  let v22 : BitVec 32 := Scalar.extui v21
  let c0_i32_9 : BitVec 32 := 0#32
  let v23 : BitVec 1 := Scalar.cmpi .ne v22 c0_i32_9
  v23

def cc0_transform_0 (i : grid0.Coords) : Fin 3 → Nat :=
  let arg0 : BitVec 32 := BitVec.ofNat 32 (i 0).val
  let arg1 : BitVec 32 := BitVec.ofNat 32 (i 1).val
  let c18_i32 : BitVec 32 := 18#32
  let v0 : BitVec 32 := Scalar.muli arg0 c18_i32
  let c17_i32 : BitVec 32 := 17#32
  let v1 : BitVec 32 := Scalar.minsi arg1 c17_i32
  let v2 : BitVec 32 := Scalar.addi v0 v1
  let c0_i32 : BitVec 32 := 0#32
  let c0_i32_0 : BitVec 32 := 0#32
  let c0_i32_1 : BitVec 32 := 0#32
  ![v2.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x6144x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x384x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S6x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S3x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S32x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S32x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S32x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S64x8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S32x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S64x8 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x1x24 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev grid1 : Pipeline.Grid := .none

abbrev stage1_0 : Fin 1 → Memref sig .tc .vmem S8x24 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S24x24 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x24 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1x24 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S1x24 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S24x48 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S1x48 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S1x48 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S1x48 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))

abbrev stage1_9 : Fin 1 → Memref sig .tc .vmem S8x48 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
-- ==== ReferenceIdeal.lean ====
abbrev S8x286x3 : Shape := ⟨3, ![8, 286, 3]⟩
abbrev S8x286x1 : Shape := ⟨3, ![8, 286, 1]⟩
abbrev S6x4 : Shape := ⟨2, ![6, 4]⟩
abbrev S3x32 : Shape := ⟨2, ![3, 32]⟩
abbrev S32 : Shape := ⟨1, ![32]⟩
abbrev S32x32 : Shape := ⟨2, ![32, 32]⟩
abbrev S32x64 : Shape := ⟨2, ![32, 64]⟩
abbrev S64 : Shape := ⟨1, ![64]⟩
abbrev S24x24 : Shape := ⟨2, ![24, 24]⟩
abbrev S24 : Shape := ⟨1, ![24]⟩
abbrev S24x48 : Shape := ⟨2, ![24, 48]⟩
abbrev S48 : Shape := ⟨1, ![48]⟩
abbrev S3 : Shape := ⟨1, ![3]⟩
abbrev S8x286 : Shape := ⟨2, ![8, 286]⟩
abbrev S_ : Shape := ⟨0, ![]⟩
abbrev S1 : Shape := ⟨1, ![1]⟩
abbrev S1x1x1 : Shape := ⟨3, ![1, 1, 1]⟩
abbrev S8x286x4 : Shape := ⟨3, ![8, 286, 4]⟩
abbrev S8x286x1x3 : Shape := ⟨4, ![8, 286, 1, 3]⟩
abbrev S8x1x286x3 : Shape := ⟨4, ![8, 1, 286, 3]⟩
abbrev S8x286x286x3 : Shape := ⟨4, ![8, 286, 286, 3]⟩
abbrev S8x286x286 : Shape := ⟨3, ![8, 286, 286]⟩
abbrev S8x286x286x1 : Shape := ⟨4, ![8, 286, 286, 1]⟩
abbrev S1x1x1x3 : Shape := ⟨4, ![1, 1, 1, 3]⟩
abbrev S8x286x286x32 : Shape := ⟨4, ![8, 286, 286, 32]⟩
abbrev S1x1x1x32 : Shape := ⟨4, ![1, 1, 1, 32]⟩
abbrev S8x286x286x8x4 : Shape := ⟨5, ![8, 286, 286, 8, 4]⟩
abbrev S8x286x286x1x1 : Shape := ⟨5, ![8, 286, 286, 1, 1]⟩
abbrev S8x286x8 : Shape := ⟨3, ![8, 286, 8]⟩
abbrev S8x286x286x64 : Shape := ⟨4, ![8, 286, 286, 64]⟩
abbrev S1x1x1x64 : Shape := ⟨4, ![1, 1, 1, 64]⟩
abbrev S8x286x286x8x8 : Shape := ⟨5, ![8, 286, 286, 8, 8]⟩
abbrev S8x286x24 : Shape := ⟨3, ![8, 286, 24]⟩
abbrev S8x24 : Shape := ⟨2, ![8, 24]⟩
abbrev S1x24 : Shape := ⟨2, ![1, 24]⟩
abbrev S8x48 : Shape := ⟨2, ![8, 48]⟩
abbrev S1x48 : Shape := ⟨2, ![1, 48]⟩

abbrev nBuf : Space → Nat
  | .hbm => 399
  | .vmem => 0
  | .smem => 0
  | _ => 0

abbrev hbmTy0_0 (i : Nat) : BufTy := match i % 128 with
  | 0 => ⟨S8x286x3, .f32⟩
  | 1 => ⟨S8x286x1, .i32⟩
  | 2 => ⟨S6x4, .f32⟩
  | 3 => ⟨S3x32, .f32⟩
  | 4 => ⟨S32, .f32⟩
  | 5 => ⟨S32x32, .f32⟩
  | 6 => ⟨S32, .f32⟩
  | 7 => ⟨S3x32, .f32⟩
  | 8 => ⟨S32, .f32⟩
  | 9 => ⟨S32x64, .f32⟩
  | 10 => ⟨S64, .f32⟩
  | 11 => ⟨S3x32, .f32⟩
  | 12 => ⟨S32, .f32⟩
  | 13 => ⟨S32x64, .f32⟩
  | 14 => ⟨S64, .f32⟩
  | 15 => ⟨S24x24, .f32⟩
  | 16 => ⟨S24, .f32⟩
  | 17 => ⟨S24, .f32⟩
  | 18 => ⟨S24, .f32⟩
  | 19 => ⟨S24x48, .f32⟩
  | 20 => ⟨S48, .f32⟩
  | 21 => ⟨S48, .f32⟩
  | 22 => ⟨S48, .f32⟩
  | 23 => ⟨S3, .f32⟩
  | 24 => ⟨S8x286, .i32⟩
  | 25 => ⟨S_, .i32⟩
  | 26 => ⟨S8x286, .i32⟩
  | 27 => ⟨S8x286, .i1⟩
  | 28 => ⟨S_, .i32⟩
  | 29 => ⟨S8x286, .i32⟩
  | 30 => ⟨S8x286, .i32⟩
  | 31 => ⟨S8x286, .i32⟩
  | 32 => ⟨S8x286x1, .i32⟩
  | 33 => ⟨S1, .i32⟩
  | 34 => ⟨S_, .i32⟩
  | 35 => ⟨S8x286x1, .i32⟩
  | 36 => ⟨S8x286x1, .i1⟩
  | 37 => ⟨S1x1x1, .i32⟩
  | 38 => ⟨S8x286x1, .i32⟩
  | 39 => ⟨S8x286x1, .i1⟩
  | 40 => ⟨S8x286x1, .i1⟩
  | 41 => ⟨S_, .i1⟩
  | 42 => ⟨S8x286, .i1⟩
  | 43 => ⟨S8x286x4, .f32⟩
  | 44 => ⟨S8x286x4, .i1⟩
  | 45 => ⟨S_, .f32⟩
  | 46 => ⟨S8x286x4, .f32⟩
  | 47 => ⟨S8x286x4, .f32⟩
  | 48 => ⟨S8x286x1x3, .f32⟩
  | 49 => ⟨S8x1x286x3, .f32⟩
  | 50 => ⟨S8x286x286x3, .f32⟩
  | 51 => ⟨S8x286x286x3, .f32⟩
  | 52 => ⟨S8x286x286x3, .f32⟩
  | 53 => ⟨S8x286x286x3, .f32⟩
  | 54 => ⟨S_, .f32⟩
  | 55 => ⟨S8x286x286, .f32⟩
  | 56 => ⟨S_, .f32⟩
  | 57 => ⟨S8x286x286, .f32⟩
  | 58 => ⟨S8x286x286, .f32⟩
  | 59 => ⟨S8x286x286, .f32⟩
  | 60 => ⟨S_, .f32⟩
  | 61 => ⟨S8x286x286, .f32⟩
  | 62 => ⟨S8x286x286, .i1⟩
  | 63 => ⟨S8x286x286, .f32⟩
  | 64 => ⟨S8x286x286x1, .f32⟩
  | 65 => ⟨S1x1x1x3, .f32⟩
  | 66 => ⟨S8x286x286x3, .f32⟩
  | 67 => ⟨S8x286x286x3, .f32⟩
  | 68 => ⟨S8x286x286x3, .f32⟩
  | 69 => ⟨S_, .f32⟩
  | 70 => ⟨S8x286x286x3, .f32⟩
  | 71 => ⟨S8x286x286x3, .f32⟩
  | 72 => ⟨S8x286x286x3, .f32⟩
  | 73 => ⟨S_, .f32⟩
  | 74 => ⟨S8x286x286x3, .f32⟩
  | 75 => ⟨S8x286x286x3, .i1⟩
  | 76 => ⟨S_, .f32⟩
  | 77 => ⟨S8x286x286x3, .f32⟩
  | 78 => ⟨S8x286x286x3, .f32⟩
  | 79 => ⟨S8x286x286x3, .f32⟩
  | 80 => ⟨S8x286x286x3, .f32⟩
  | 81 => ⟨S_, .f32⟩
  | 82 => ⟨S_, .f32⟩
  | 83 => ⟨S8x286x286x3, .f32⟩
  | 84 => ⟨S8x286x286x3, .f32⟩
  | 85 => ⟨S8x286x286x32, .f32⟩
  | 86 => ⟨S1x1x1x32, .f32⟩
  | 87 => ⟨S8x286x286x32, .f32⟩
  | 88 => ⟨S8x286x286x32, .f32⟩
  | 89 => ⟨S_, .f32⟩
  | 90 => ⟨S8x286x286x32, .f32⟩
  | 91 => ⟨S8x286x286x32, .f32⟩
  | 92 => ⟨S_, .f32⟩
  | 93 => ⟨S8x286x286x32, .f32⟩
  | 94 => ⟨S8x286x286x32, .f32⟩
  | 95 => ⟨S8x286x286x32, .f32⟩
  | 96 => ⟨S8x286x286x32, .f32⟩
  | 97 => ⟨S8x286x286x32, .i1⟩
  | 98 => ⟨S8x286x286x32, .f32⟩
  | 99 => ⟨S8x286x286x32, .f32⟩
  | 100 => ⟨S8x286x286x32, .f32⟩
  | 101 => ⟨S8x286x286x32, .f32⟩
  | 102 => ⟨S8x286x286x32, .f32⟩
  | 103 => ⟨S8x286x286x32, .f32⟩
  | 104 => ⟨S8x286x286x32, .f32⟩
  | 105 => ⟨S8x286x286x32, .f32⟩
  | 106 => ⟨S_, .f32⟩
  | 107 => ⟨S8x286x286x32, .f32⟩
  | 108 => ⟨S8x286x286x32, .f32⟩
  | 109 => ⟨S8x286x286x32, .f32⟩
  | 110 => ⟨S1x1x1x32, .f32⟩
  | 111 => ⟨S8x286x286x32, .f32⟩
  | 112 => ⟨S8x286x286x32, .f32⟩
  | 113 => ⟨S8x286x286x8x4, .f32⟩
  | 114 => ⟨S8x286x286x1x1, .f32⟩
  | 115 => ⟨S8x286x286x8x4, .f32⟩
  | 116 => ⟨S8x286x286x8x4, .f32⟩
  | 117 => ⟨S8x286x8, .f32⟩
  | 118 => ⟨S_, .f32⟩
  | 119 => ⟨S8x286, .f32⟩
  | 120 => ⟨S_, .f32⟩
  | 121 => ⟨S8x286, .f32⟩
  | 122 => ⟨S8x286, .f32⟩
  | 123 => ⟨S8x286x1, .f32⟩
  | 124 => ⟨S8x286x8, .f32⟩
  | 125 => ⟨S8x286x8, .f32⟩
  | 126 => ⟨S8x286x1x3, .f32⟩
  | 127 => ⟨S8x1x286x3, .f32⟩
  | _ => ⟨S8x286x3, .f32⟩

abbrev hbmTy0_1 (i : Nat) : BufTy := match i % 128 with
  | 0 => ⟨S8x286x286x3, .f32⟩
  | 1 => ⟨S8x286x286x3, .f32⟩
  | 2 => ⟨S8x286x286x3, .f32⟩
  | 3 => ⟨S8x286x286x3, .f32⟩
  | 4 => ⟨S_, .f32⟩
  | 5 => ⟨S8x286x286, .f32⟩
  | 6 => ⟨S_, .f32⟩
  | 7 => ⟨S8x286x286, .f32⟩
  | 8 => ⟨S8x286x286, .f32⟩
  | 9 => ⟨S8x286x286, .f32⟩
  | 10 => ⟨S_, .f32⟩
  | 11 => ⟨S8x286x286, .f32⟩
  | 12 => ⟨S8x286x286, .i1⟩
  | 13 => ⟨S8x286x286, .f32⟩
  | 14 => ⟨S8x286x286x1, .f32⟩
  | 15 => ⟨S1x1x1x3, .f32⟩
  | 16 => ⟨S8x286x286x3, .f32⟩
  | 17 => ⟨S8x286x286x3, .f32⟩
  | 18 => ⟨S8x286x286x3, .f32⟩
  | 19 => ⟨S_, .f32⟩
  | 20 => ⟨S8x286x286x3, .f32⟩
  | 21 => ⟨S8x286x286x3, .f32⟩
  | 22 => ⟨S8x286x286x3, .f32⟩
  | 23 => ⟨S_, .f32⟩
  | 24 => ⟨S8x286x286x3, .f32⟩
  | 25 => ⟨S8x286x286x3, .i1⟩
  | 26 => ⟨S_, .f32⟩
  | 27 => ⟨S8x286x286x3, .f32⟩
  | 28 => ⟨S8x286x286x3, .f32⟩
  | 29 => ⟨S8x286x286x3, .f32⟩
  | 30 => ⟨S8x286x286x3, .f32⟩
  | 31 => ⟨S_, .f32⟩
  | 32 => ⟨S_, .f32⟩
  | 33 => ⟨S8x286x286x3, .f32⟩
  | 34 => ⟨S8x286x286x3, .f32⟩
  | 35 => ⟨S8x286x286x32, .f32⟩
  | 36 => ⟨S1x1x1x32, .f32⟩
  | 37 => ⟨S8x286x286x32, .f32⟩
  | 38 => ⟨S8x286x286x32, .f32⟩
  | 39 => ⟨S_, .f32⟩
  | 40 => ⟨S8x286x286x32, .f32⟩
  | 41 => ⟨S8x286x286x32, .f32⟩
  | 42 => ⟨S_, .f32⟩
  | 43 => ⟨S8x286x286x32, .f32⟩
  | 44 => ⟨S8x286x286x32, .f32⟩
  | 45 => ⟨S8x286x286x32, .f32⟩
  | 46 => ⟨S8x286x286x32, .f32⟩
  | 47 => ⟨S8x286x286x32, .i1⟩
  | 48 => ⟨S8x286x286x32, .f32⟩
  | 49 => ⟨S8x286x286x32, .f32⟩
  | 50 => ⟨S8x286x286x32, .f32⟩
  | 51 => ⟨S8x286x286x32, .f32⟩
  | 52 => ⟨S8x286x286x32, .f32⟩
  | 53 => ⟨S8x286x286x32, .f32⟩
  | 54 => ⟨S8x286x286x32, .f32⟩
  | 55 => ⟨S8x286x286x32, .f32⟩
  | 56 => ⟨S_, .f32⟩
  | 57 => ⟨S8x286x286x32, .f32⟩
  | 58 => ⟨S8x286x286x32, .f32⟩
  | 59 => ⟨S8x286x286x64, .f32⟩
  | 60 => ⟨S1x1x1x64, .f32⟩
  | 61 => ⟨S8x286x286x64, .f32⟩
  | 62 => ⟨S8x286x286x64, .f32⟩
  | 63 => ⟨S8x286x286x8x8, .f32⟩
  | 64 => ⟨S8x286x286x1x1, .f32⟩
  | 65 => ⟨S8x286x286x8x8, .f32⟩
  | 66 => ⟨S8x286x286x8x8, .f32⟩
  | 67 => ⟨S8x286x8, .f32⟩
  | 68 => ⟨S_, .f32⟩
  | 69 => ⟨S8x286, .f32⟩
  | 70 => ⟨S_, .f32⟩
  | 71 => ⟨S8x286, .f32⟩
  | 72 => ⟨S8x286, .f32⟩
  | 73 => ⟨S8x286x1, .f32⟩
  | 74 => ⟨S8x286x8, .f32⟩
  | 75 => ⟨S8x286x8, .f32⟩
  | 76 => ⟨S8x286x1x3, .f32⟩
  | 77 => ⟨S8x1x286x3, .f32⟩
  | 78 => ⟨S8x286x286x3, .f32⟩
  | 79 => ⟨S8x286x286x3, .f32⟩
  | 80 => ⟨S8x286x286x3, .f32⟩
  | 81 => ⟨S8x286x286x3, .f32⟩
  | 82 => ⟨S_, .f32⟩
  | 83 => ⟨S8x286x286, .f32⟩
  | 84 => ⟨S_, .f32⟩
  | 85 => ⟨S8x286x286, .f32⟩
  | 86 => ⟨S8x286x286, .f32⟩
  | 87 => ⟨S8x286x286, .f32⟩
  | 88 => ⟨S_, .f32⟩
  | 89 => ⟨S8x286x286, .f32⟩
  | 90 => ⟨S8x286x286, .i1⟩
  | 91 => ⟨S8x286x286, .f32⟩
  | 92 => ⟨S8x286x286x1, .f32⟩
  | 93 => ⟨S1x1x1x3, .f32⟩
  | 94 => ⟨S8x286x286x3, .f32⟩
  | 95 => ⟨S8x286x286x3, .f32⟩
  | 96 => ⟨S8x286x286x3, .f32⟩
  | 97 => ⟨S_, .f32⟩
  | 98 => ⟨S8x286x286x3, .f32⟩
  | 99 => ⟨S8x286x286x3, .f32⟩
  | 100 => ⟨S8x286x286x3, .f32⟩
  | 101 => ⟨S_, .f32⟩
  | 102 => ⟨S8x286x286x3, .f32⟩
  | 103 => ⟨S8x286x286x3, .i1⟩
  | 104 => ⟨S_, .f32⟩
  | 105 => ⟨S8x286x286x3, .f32⟩
  | 106 => ⟨S8x286x286x3, .f32⟩
  | 107 => ⟨S8x286x286x3, .f32⟩
  | 108 => ⟨S8x286x286x3, .f32⟩
  | 109 => ⟨S_, .f32⟩
  | 110 => ⟨S_, .f32⟩
  | 111 => ⟨S8x286x286x3, .f32⟩
  | 112 => ⟨S8x286x286x3, .f32⟩
  | 113 => ⟨S8x286x286x32, .f32⟩
  | 114 => ⟨S1x1x1x32, .f32⟩
  | 115 => ⟨S8x286x286x32, .f32⟩
  | 116 => ⟨S8x286x286x32, .f32⟩
  | 117 => ⟨S_, .f32⟩
  | 118 => ⟨S8x286x286x32, .f32⟩
  | 119 => ⟨S8x286x286x32, .f32⟩
  | 120 => ⟨S_, .f32⟩
  | 121 => ⟨S8x286x286x32, .f32⟩
  | 122 => ⟨S8x286x286x32, .f32⟩
  | 123 => ⟨S8x286x286x32, .f32⟩
  | 124 => ⟨S8x286x286x32, .f32⟩
  | 125 => ⟨S8x286x286x32, .i1⟩
  | 126 => ⟨S8x286x286x32, .f32⟩
  | 127 => ⟨S8x286x286x32, .f32⟩
  | _ => ⟨S8x286x3, .f32⟩

abbrev hbmTy0_2 (i : Nat) : BufTy := match i % 128 with
  | 0 => ⟨S8x286x286x32, .f32⟩
  | 1 => ⟨S8x286x286x32, .f32⟩
  | 2 => ⟨S8x286x286x32, .f32⟩
  | 3 => ⟨S8x286x286x32, .f32⟩
  | 4 => ⟨S8x286x286x32, .f32⟩
  | 5 => ⟨S8x286x286x32, .f32⟩
  | 6 => ⟨S_, .f32⟩
  | 7 => ⟨S8x286x286x32, .f32⟩
  | 8 => ⟨S8x286x286x32, .f32⟩
  | 9 => ⟨S8x286x286x64, .f32⟩
  | 10 => ⟨S1x1x1x64, .f32⟩
  | 11 => ⟨S8x286x286x64, .f32⟩
  | 12 => ⟨S8x286x286x64, .f32⟩
  | 13 => ⟨S8x286x286x8x8, .f32⟩
  | 14 => ⟨S8x286x286x1x1, .f32⟩
  | 15 => ⟨S8x286x286x8x8, .f32⟩
  | 16 => ⟨S8x286x286x8x8, .f32⟩
  | 17 => ⟨S8x286x8, .f32⟩
  | 18 => ⟨S_, .f32⟩
  | 19 => ⟨S8x286, .f32⟩
  | 20 => ⟨S_, .f32⟩
  | 21 => ⟨S8x286, .f32⟩
  | 22 => ⟨S8x286, .f32⟩
  | 23 => ⟨S8x286x1, .f32⟩
  | 24 => ⟨S8x286x8, .f32⟩
  | 25 => ⟨S8x286x8, .f32⟩
  | 26 => ⟨S8x286x24, .f32⟩
  | 27 => ⟨S8x286x24, .f32⟩
  | 28 => ⟨S_, .f32⟩
  | 29 => ⟨S8x24, .f32⟩
  | 30 => ⟨S8x24, .f32⟩
  | 31 => ⟨S8x24, .f32⟩
  | 32 => ⟨S1x24, .f32⟩
  | 33 => ⟨S8x24, .f32⟩
  | 34 => ⟨S8x24, .f32⟩
  | 35 => ⟨S_, .f32⟩
  | 36 => ⟨S24, .f32⟩
  | 37 => ⟨S_, .f32⟩
  | 38 => ⟨S24, .f32⟩
  | 39 => ⟨S24, .f32⟩
  | 40 => ⟨S_, .i32⟩
  | 41 => ⟨S_, .f32⟩
  | 42 => ⟨S24, .f32⟩
  | 43 => ⟨S1x24, .f32⟩
  | 44 => ⟨S_, .f32⟩
  | 45 => ⟨S1x24, .f32⟩
  | 46 => ⟨S1x24, .f32⟩
  | 47 => ⟨S8x24, .f32⟩
  | 48 => ⟨S8x24, .f32⟩
  | 49 => ⟨S8x24, .f32⟩
  | 50 => ⟨S_, .f32⟩
  | 51 => ⟨S_, .f32⟩
  | 52 => ⟨S_, .f32⟩
  | 53 => ⟨S_, .f32⟩
  | 54 => ⟨S24, .f32⟩
  | 55 => ⟨S24, .f32⟩
  | 56 => ⟨S24, .f32⟩
  | 57 => ⟨S_, .f32⟩
  | 58 => ⟨S_, .i1⟩
  | 59 => ⟨S_, .f32⟩
  | 60 => ⟨S_, .f32⟩
  | 61 => ⟨S24, .f32⟩
  | 62 => ⟨S24, .f32⟩
  | 63 => ⟨S1x24, .f32⟩
  | 64 => ⟨S8x24, .f32⟩
  | 65 => ⟨S8x24, .f32⟩
  | 66 => ⟨S1x24, .f32⟩
  | 67 => ⟨S8x24, .f32⟩
  | 68 => ⟨S8x24, .f32⟩
  | 69 => ⟨S_, .f32⟩
  | 70 => ⟨S24, .f32⟩
  | 71 => ⟨S24, .f32⟩
  | 72 => ⟨S24, .f32⟩
  | 73 => ⟨S1x24, .f32⟩
  | 74 => ⟨S8x24, .f32⟩
  | 75 => ⟨S8x24, .f32⟩
  | 76 => ⟨S1x24, .f32⟩
  | 77 => ⟨S8x24, .f32⟩
  | 78 => ⟨S8x24, .f32⟩
  | 79 => ⟨S_, .f32⟩
  | 80 => ⟨S_, .f32⟩
  | 81 => ⟨S8x24, .f32⟩
  | 82 => ⟨S8x24, .i1⟩
  | 83 => ⟨S_, .f32⟩
  | 84 => ⟨S8x24, .f32⟩
  | 85 => ⟨S8x24, .f32⟩
  | 86 => ⟨S8x24, .f32⟩
  | 87 => ⟨S8x48, .f32⟩
  | 88 => ⟨S1x48, .f32⟩
  | 89 => ⟨S8x48, .f32⟩
  | 90 => ⟨S8x48, .f32⟩
  | 91 => ⟨S_, .f32⟩
  | 92 => ⟨S48, .f32⟩
  | 93 => ⟨S_, .f32⟩
  | 94 => ⟨S48, .f32⟩
  | 95 => ⟨S48, .f32⟩
  | 96 => ⟨S_, .i32⟩
  | 97 => ⟨S_, .f32⟩
  | 98 => ⟨S48, .f32⟩
  | 99 => ⟨S1x48, .f32⟩
  | 100 => ⟨S_, .f32⟩
  | 101 => ⟨S1x48, .f32⟩
  | 102 => ⟨S1x48, .f32⟩
  | 103 => ⟨S8x48, .f32⟩
  | 104 => ⟨S8x48, .f32⟩
  | 105 => ⟨S8x48, .f32⟩
  | 106 => ⟨S_, .f32⟩
  | 107 => ⟨S_, .f32⟩
  | 108 => ⟨S_, .f32⟩
  | 109 => ⟨S_, .f32⟩
  | 110 => ⟨S48, .f32⟩
  | 111 => ⟨S48, .f32⟩
  | 112 => ⟨S48, .f32⟩
  | 113 => ⟨S_, .f32⟩
  | 114 => ⟨S_, .i1⟩
  | 115 => ⟨S_, .f32⟩
  | 116 => ⟨S_, .f32⟩
  | 117 => ⟨S48, .f32⟩
  | 118 => ⟨S48, .f32⟩
  | 119 => ⟨S1x48, .f32⟩
  | 120 => ⟨S8x48, .f32⟩
  | 121 => ⟨S8x48, .f32⟩
  | 122 => ⟨S1x48, .f32⟩
  | 123 => ⟨S8x48, .f32⟩
  | 124 => ⟨S8x48, .f32⟩
  | 125 => ⟨S_, .f32⟩
  | 126 => ⟨S48, .f32⟩
  | 127 => ⟨S48, .f32⟩
  | _ => ⟨S8x286x3, .f32⟩

abbrev hbmTy0_3 (i : Nat) : BufTy := match i % 128 with
  | 0 => ⟨S48, .f32⟩
  | 1 => ⟨S1x48, .f32⟩
  | 2 => ⟨S8x48, .f32⟩
  | 3 => ⟨S8x48, .f32⟩
  | 4 => ⟨S1x48, .f32⟩
  | 5 => ⟨S8x48, .f32⟩
  | 6 => ⟨S8x48, .f32⟩
  | 7 => ⟨S_, .f32⟩
  | 8 => ⟨S_, .f32⟩
  | 9 => ⟨S8x48, .f32⟩
  | 10 => ⟨S8x48, .i1⟩
  | 11 => ⟨S_, .f32⟩
  | 12 => ⟨S8x48, .f32⟩
  | 13 => ⟨S8x48, .f32⟩
  | 14 => ⟨S8x48, .f32⟩
  | _ => ⟨S8x286x3, .f32⟩

abbrev hbmTy (i : Nat) : BufTy := match i / 128 with
  | 0 => hbmTy0_0 i
  | 1 => hbmTy0_1 i
  | 2 => hbmTy0_2 i
  | 3 => hbmTy0_3 i
  | _ => ⟨S8x286x3, .f32⟩

abbrev bufTy : (tb : Table) → Fin (tcTables nBuf tb) → BufTy
  | .hbm, ⟨i, _⟩ => hbmTy i
  | _, _ => ⟨S8x286x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_cst : Ref sig .tc := ⟨.hbm, 23, rfl⟩
abbrev main_v0 : Ref sig .tc := ⟨.hbm, 24, rfl⟩
abbrev main_call0_c : Ref sig .tc := ⟨.hbm, 25, rfl⟩
abbrev main_call0_v0 : Ref sig .tc := ⟨.hbm, 26, rfl⟩
abbrev main_call0_v1 : Ref sig .tc := ⟨.hbm, 27, rfl⟩
abbrev main_call0_c_0 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_c_1 : Ref sig .tc := ⟨.hbm, 33, rfl⟩
abbrev main_call0_c_2 : Ref sig .tc := ⟨.hbm, 34, rfl⟩
abbrev main_call0_v6 : Ref sig .tc := ⟨.hbm, 35, rfl⟩
abbrev main_call0_v7 : Ref sig .tc := ⟨.hbm, 36, rfl⟩
abbrev main_call0_v8 : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_c_3 : Ref sig .tc := ⟨.hbm, 41, rfl⟩
abbrev main_call0_v12 : Ref sig .tc := ⟨.hbm, 42, rfl⟩
abbrev main_call0_v13 : Ref sig .tc := ⟨.hbm, 43, rfl⟩
abbrev main_call0_v14 : Ref sig .tc := ⟨.hbm, 44, rfl⟩
abbrev main_call0_cst : Ref sig .tc := ⟨.hbm, 45, rfl⟩
abbrev main_call0_v15 : Ref sig .tc := ⟨.hbm, 46, rfl⟩
abbrev main_v1 : Ref sig .tc := ⟨.hbm, 47, rfl⟩
abbrev main_v2 : Ref sig .tc := ⟨.hbm, 48, rfl⟩
abbrev main_v3 : Ref sig .tc := ⟨.hbm, 49, rfl⟩
abbrev main_v4 : Ref sig .tc := ⟨.hbm, 50, rfl⟩
abbrev main_v5 : Ref sig .tc := ⟨.hbm, 51, rfl⟩
abbrev main_v6 : Ref sig .tc := ⟨.hbm, 52, rfl⟩
abbrev main_v7 : Ref sig .tc := ⟨.hbm, 53, rfl⟩
abbrev main_cst_0 : Ref sig .tc := ⟨.hbm, 54, rfl⟩
abbrev main_v8 : Ref sig .tc := ⟨.hbm, 55, rfl⟩
abbrev main_cst_1 : Ref sig .tc := ⟨.hbm, 56, rfl⟩
abbrev main_v9 : Ref sig .tc := ⟨.hbm, 57, rfl⟩
abbrev main_v10 : Ref sig .tc := ⟨.hbm, 58, rfl⟩
abbrev main_v11 : Ref sig .tc := ⟨.hbm, 59, rfl⟩
abbrev main_cst_2 : Ref sig .tc := ⟨.hbm, 60, rfl⟩
abbrev main_v12 : Ref sig .tc := ⟨.hbm, 61, rfl⟩
abbrev main_v13 : Ref sig .tc := ⟨.hbm, 62, rfl⟩
abbrev main_v14 : Ref sig .tc := ⟨.hbm, 63, rfl⟩
abbrev main_v15 : Ref sig .tc := ⟨.hbm, 64, rfl⟩
abbrev main_v16 : Ref sig .tc := ⟨.hbm, 65, rfl⟩
abbrev main_v17 : Ref sig .tc := ⟨.hbm, 66, rfl⟩
abbrev main_v18 : Ref sig .tc := ⟨.hbm, 67, rfl⟩
abbrev main_v19 : Ref sig .tc := ⟨.hbm, 68, rfl⟩
abbrev main_cst_3 : Ref sig .tc := ⟨.hbm, 69, rfl⟩
abbrev main_v20 : Ref sig .tc := ⟨.hbm, 70, rfl⟩
abbrev main_v21 : Ref sig .tc := ⟨.hbm, 71, rfl⟩
abbrev main_v22 : Ref sig .tc := ⟨.hbm, 72, rfl⟩
abbrev main_cst_4 : Ref sig .tc := ⟨.hbm, 73, rfl⟩
abbrev main_v23 : Ref sig .tc := ⟨.hbm, 74, rfl⟩
abbrev main_v24 : Ref sig .tc := ⟨.hbm, 75, rfl⟩
abbrev main_cst_5 : Ref sig .tc := ⟨.hbm, 76, rfl⟩
abbrev main_v25 : Ref sig .tc := ⟨.hbm, 77, rfl⟩
abbrev main_v26 : Ref sig .tc := ⟨.hbm, 78, rfl⟩
abbrev main_v27 : Ref sig .tc := ⟨.hbm, 79, rfl⟩
abbrev main_v28 : Ref sig .tc := ⟨.hbm, 80, rfl⟩
abbrev main_cst_6 : Ref sig .tc := ⟨.hbm, 81, rfl⟩
abbrev main_call1_v0 : Ref sig .tc := ⟨.hbm, 82, rfl⟩
abbrev main_call1_v1 : Ref sig .tc := ⟨.hbm, 83, rfl⟩
abbrev main_v29 : Ref sig .tc := ⟨.hbm, 84, rfl⟩
abbrev main_v30 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩
abbrev main_cst_7 : Ref sig .tc := ⟨.hbm, 89, rfl⟩
abbrev main_v34 : Ref sig .tc := ⟨.hbm, 90, rfl⟩
abbrev main_v35 : Ref sig .tc := ⟨.hbm, 91, rfl⟩
abbrev main_call2_cst : Ref sig .tc := ⟨.hbm, 92, rfl⟩
abbrev main_call2_v0 : Ref sig .tc := ⟨.hbm, 93, rfl⟩
abbrev main_call2_v1 : Ref sig .tc := ⟨.hbm, 94, rfl⟩
abbrev main_call2_v2 : Ref sig .tc := ⟨.hbm, 95, rfl⟩
abbrev main_call2_v3 : Ref sig .tc := ⟨.hbm, 96, rfl⟩
abbrev main_call2_v4 : Ref sig .tc := ⟨.hbm, 97, rfl⟩
abbrev main_call2_v5 : Ref sig .tc := ⟨.hbm, 98, rfl⟩
abbrev main_call2_v6 : Ref sig .tc := ⟨.hbm, 99, rfl⟩
abbrev main_call2_v7 : Ref sig .tc := ⟨.hbm, 100, rfl⟩
abbrev main_call2_v8 : Ref sig .tc := ⟨.hbm, 101, rfl⟩
abbrev main_call2_v9 : Ref sig .tc := ⟨.hbm, 102, rfl⟩
abbrev main_call2_v10 : Ref sig .tc := ⟨.hbm, 103, rfl⟩
abbrev main_call2_v11 : Ref sig .tc := ⟨.hbm, 104, rfl⟩
abbrev main_v36 : Ref sig .tc := ⟨.hbm, 105, rfl⟩
abbrev main_cst_8 : Ref sig .tc := ⟨.hbm, 106, rfl⟩
abbrev main_v37 : Ref sig .tc := ⟨.hbm, 107, rfl⟩
abbrev main_v38 : Ref sig .tc := ⟨.hbm, 108, rfl⟩
abbrev main_v39 : Ref sig .tc := ⟨.hbm, 109, rfl⟩
abbrev main_v40 : Ref sig .tc := ⟨.hbm, 110, rfl⟩
abbrev main_v41 : Ref sig .tc := ⟨.hbm, 111, rfl⟩
abbrev main_v42 : Ref sig .tc := ⟨.hbm, 112, rfl⟩
abbrev main_v43 : Ref sig .tc := ⟨.hbm, 113, rfl⟩
abbrev main_v44 : Ref sig .tc := ⟨.hbm, 114, rfl⟩
abbrev main_v45 : Ref sig .tc := ⟨.hbm, 115, rfl⟩
abbrev main_v46 : Ref sig .tc := ⟨.hbm, 116, rfl⟩
abbrev main_v47 : Ref sig .tc := ⟨.hbm, 117, rfl⟩
abbrev main_cst_9 : Ref sig .tc := ⟨.hbm, 118, rfl⟩
abbrev main_v48 : Ref sig .tc := ⟨.hbm, 119, rfl⟩
abbrev main_cst_10 : Ref sig .tc := ⟨.hbm, 120, rfl⟩
abbrev main_v49 : Ref sig .tc := ⟨.hbm, 121, rfl⟩
abbrev main_v50 : Ref sig .tc := ⟨.hbm, 122, rfl⟩
abbrev main_v51 : Ref sig .tc := ⟨.hbm, 123, rfl⟩
abbrev main_v52 : Ref sig .tc := ⟨.hbm, 124, rfl⟩
abbrev main_v53 : Ref sig .tc := ⟨.hbm, 125, rfl⟩
abbrev main_v54 : Ref sig .tc := ⟨.hbm, 126, rfl⟩
abbrev main_v55 : Ref sig .tc := ⟨.hbm, 127, rfl⟩
abbrev main_v56 : Ref sig .tc := ⟨.hbm, 128, rfl⟩
abbrev main_v57 : Ref sig .tc := ⟨.hbm, 129, rfl⟩
abbrev main_v58 : Ref sig .tc := ⟨.hbm, 130, rfl⟩
abbrev main_v59 : Ref sig .tc := ⟨.hbm, 131, rfl⟩
abbrev main_cst_11 : Ref sig .tc := ⟨.hbm, 132, rfl⟩
abbrev main_v60 : Ref sig .tc := ⟨.hbm, 133, rfl⟩
abbrev main_cst_12 : Ref sig .tc := ⟨.hbm, 134, rfl⟩
abbrev main_v61 : Ref sig .tc := ⟨.hbm, 135, rfl⟩
abbrev main_v62 : Ref sig .tc := ⟨.hbm, 136, rfl⟩
abbrev main_v63 : Ref sig .tc := ⟨.hbm, 137, rfl⟩
abbrev main_cst_13 : Ref sig .tc := ⟨.hbm, 138, rfl⟩
abbrev main_v64 : Ref sig .tc := ⟨.hbm, 139, rfl⟩
abbrev main_v65 : Ref sig .tc := ⟨.hbm, 140, rfl⟩
abbrev main_v66 : Ref sig .tc := ⟨.hbm, 141, rfl⟩
abbrev main_v67 : Ref sig .tc := ⟨.hbm, 142, rfl⟩
abbrev main_v68 : Ref sig .tc := ⟨.hbm, 143, rfl⟩
abbrev main_v69 : Ref sig .tc := ⟨.hbm, 144, rfl⟩
abbrev main_v70 : Ref sig .tc := ⟨.hbm, 145, rfl⟩
abbrev main_v71 : Ref sig .tc := ⟨.hbm, 146, rfl⟩
abbrev main_cst_14 : Ref sig .tc := ⟨.hbm, 147, rfl⟩
abbrev main_v72 : Ref sig .tc := ⟨.hbm, 148, rfl⟩
abbrev main_v73 : Ref sig .tc := ⟨.hbm, 149, rfl⟩
abbrev main_v74 : Ref sig .tc := ⟨.hbm, 150, rfl⟩
abbrev main_cst_15 : Ref sig .tc := ⟨.hbm, 151, rfl⟩
abbrev main_v75 : Ref sig .tc := ⟨.hbm, 152, rfl⟩
abbrev main_v76 : Ref sig .tc := ⟨.hbm, 153, rfl⟩
abbrev main_cst_16 : Ref sig .tc := ⟨.hbm, 154, rfl⟩
abbrev main_v77 : Ref sig .tc := ⟨.hbm, 155, rfl⟩
abbrev main_v78 : Ref sig .tc := ⟨.hbm, 156, rfl⟩
abbrev main_v79 : Ref sig .tc := ⟨.hbm, 157, rfl⟩
abbrev main_v80 : Ref sig .tc := ⟨.hbm, 158, rfl⟩
abbrev main_cst_17 : Ref sig .tc := ⟨.hbm, 159, rfl⟩
abbrev main_call3_v0 : Ref sig .tc := ⟨.hbm, 160, rfl⟩
abbrev main_call3_v1 : Ref sig .tc := ⟨.hbm, 161, rfl⟩
abbrev main_v81 : Ref sig .tc := ⟨.hbm, 162, rfl⟩
abbrev main_v82 : Ref sig .tc := ⟨.hbm, 163, rfl⟩
abbrev main_v83 : Ref sig .tc := ⟨.hbm, 164, rfl⟩
abbrev main_v84 : Ref sig .tc := ⟨.hbm, 165, rfl⟩
abbrev main_v85 : Ref sig .tc := ⟨.hbm, 166, rfl⟩
abbrev main_cst_18 : Ref sig .tc := ⟨.hbm, 167, rfl⟩
abbrev main_v86 : Ref sig .tc := ⟨.hbm, 168, rfl⟩
abbrev main_v87 : Ref sig .tc := ⟨.hbm, 169, rfl⟩
abbrev main_call4_cst : Ref sig .tc := ⟨.hbm, 170, rfl⟩
abbrev main_call4_v0 : Ref sig .tc := ⟨.hbm, 171, rfl⟩
abbrev main_call4_v1 : Ref sig .tc := ⟨.hbm, 172, rfl⟩
abbrev main_call4_v2 : Ref sig .tc := ⟨.hbm, 173, rfl⟩
abbrev main_call4_v3 : Ref sig .tc := ⟨.hbm, 174, rfl⟩
abbrev main_call4_v4 : Ref sig .tc := ⟨.hbm, 175, rfl⟩
abbrev main_call4_v5 : Ref sig .tc := ⟨.hbm, 176, rfl⟩
abbrev main_call4_v6 : Ref sig .tc := ⟨.hbm, 177, rfl⟩
abbrev main_call4_v7 : Ref sig .tc := ⟨.hbm, 178, rfl⟩
abbrev main_call4_v8 : Ref sig .tc := ⟨.hbm, 179, rfl⟩
abbrev main_call4_v9 : Ref sig .tc := ⟨.hbm, 180, rfl⟩
abbrev main_call4_v10 : Ref sig .tc := ⟨.hbm, 181, rfl⟩
abbrev main_call4_v11 : Ref sig .tc := ⟨.hbm, 182, rfl⟩
abbrev main_v88 : Ref sig .tc := ⟨.hbm, 183, rfl⟩
abbrev main_cst_19 : Ref sig .tc := ⟨.hbm, 184, rfl⟩
abbrev main_v89 : Ref sig .tc := ⟨.hbm, 185, rfl⟩
abbrev main_v90 : Ref sig .tc := ⟨.hbm, 186, rfl⟩
abbrev main_v91 : Ref sig .tc := ⟨.hbm, 187, rfl⟩
abbrev main_v92 : Ref sig .tc := ⟨.hbm, 188, rfl⟩
abbrev main_v93 : Ref sig .tc := ⟨.hbm, 189, rfl⟩
abbrev main_v94 : Ref sig .tc := ⟨.hbm, 190, rfl⟩
abbrev main_v95 : Ref sig .tc := ⟨.hbm, 191, rfl⟩
abbrev main_v96 : Ref sig .tc := ⟨.hbm, 192, rfl⟩
abbrev main_v97 : Ref sig .tc := ⟨.hbm, 193, rfl⟩
abbrev main_v98 : Ref sig .tc := ⟨.hbm, 194, rfl⟩
abbrev main_v99 : Ref sig .tc := ⟨.hbm, 195, rfl⟩
abbrev main_cst_20 : Ref sig .tc := ⟨.hbm, 196, rfl⟩
abbrev main_v100 : Ref sig .tc := ⟨.hbm, 197, rfl⟩
abbrev main_cst_21 : Ref sig .tc := ⟨.hbm, 198, rfl⟩
abbrev main_v101 : Ref sig .tc := ⟨.hbm, 199, rfl⟩
abbrev main_v102 : Ref sig .tc := ⟨.hbm, 200, rfl⟩
abbrev main_v103 : Ref sig .tc := ⟨.hbm, 201, rfl⟩
abbrev main_v104 : Ref sig .tc := ⟨.hbm, 202, rfl⟩
abbrev main_v105 : Ref sig .tc := ⟨.hbm, 203, rfl⟩
abbrev main_v106 : Ref sig .tc := ⟨.hbm, 204, rfl⟩
abbrev main_v107 : Ref sig .tc := ⟨.hbm, 205, rfl⟩
abbrev main_v108 : Ref sig .tc := ⟨.hbm, 206, rfl⟩
abbrev main_v109 : Ref sig .tc := ⟨.hbm, 207, rfl⟩
abbrev main_v110 : Ref sig .tc := ⟨.hbm, 208, rfl⟩
abbrev main_v111 : Ref sig .tc := ⟨.hbm, 209, rfl⟩
abbrev main_cst_22 : Ref sig .tc := ⟨.hbm, 210, rfl⟩
abbrev main_v112 : Ref sig .tc := ⟨.hbm, 211, rfl⟩
abbrev main_cst_23 : Ref sig .tc := ⟨.hbm, 212, rfl⟩
abbrev main_v113 : Ref sig .tc := ⟨.hbm, 213, rfl⟩
abbrev main_v114 : Ref sig .tc := ⟨.hbm, 214, rfl⟩
abbrev main_v115 : Ref sig .tc := ⟨.hbm, 215, rfl⟩
abbrev main_cst_24 : Ref sig .tc := ⟨.hbm, 216, rfl⟩
abbrev main_v116 : Ref sig .tc := ⟨.hbm, 217, rfl⟩
abbrev main_v117 : Ref sig .tc := ⟨.hbm, 218, rfl⟩
abbrev main_v118 : Ref sig .tc := ⟨.hbm, 219, rfl⟩
abbrev main_v119 : Ref sig .tc := ⟨.hbm, 220, rfl⟩
abbrev main_v120 : Ref sig .tc := ⟨.hbm, 221, rfl⟩
abbrev main_v121 : Ref sig .tc := ⟨.hbm, 222, rfl⟩
abbrev main_v122 : Ref sig .tc := ⟨.hbm, 223, rfl⟩
abbrev main_v123 : Ref sig .tc := ⟨.hbm, 224, rfl⟩
abbrev main_cst_25 : Ref sig .tc := ⟨.hbm, 225, rfl⟩
abbrev main_v124 : Ref sig .tc := ⟨.hbm, 226, rfl⟩
abbrev main_v125 : Ref sig .tc := ⟨.hbm, 227, rfl⟩
abbrev main_v126 : Ref sig .tc := ⟨.hbm, 228, rfl⟩
abbrev main_cst_26 : Ref sig .tc := ⟨.hbm, 229, rfl⟩
abbrev main_v127 : Ref sig .tc := ⟨.hbm, 230, rfl⟩
abbrev main_v128 : Ref sig .tc := ⟨.hbm, 231, rfl⟩
abbrev main_cst_27 : Ref sig .tc := ⟨.hbm, 232, rfl⟩
abbrev main_v129 : Ref sig .tc := ⟨.hbm, 233, rfl⟩
abbrev main_v130 : Ref sig .tc := ⟨.hbm, 234, rfl⟩
abbrev main_v131 : Ref sig .tc := ⟨.hbm, 235, rfl⟩
abbrev main_v132 : Ref sig .tc := ⟨.hbm, 236, rfl⟩
abbrev main_cst_28 : Ref sig .tc := ⟨.hbm, 237, rfl⟩
abbrev main_call5_v0 : Ref sig .tc := ⟨.hbm, 238, rfl⟩
abbrev main_call5_v1 : Ref sig .tc := ⟨.hbm, 239, rfl⟩
abbrev main_v133 : Ref sig .tc := ⟨.hbm, 240, rfl⟩
abbrev main_v134 : Ref sig .tc := ⟨.hbm, 241, rfl⟩
abbrev main_v135 : Ref sig .tc := ⟨.hbm, 242, rfl⟩
abbrev main_v136 : Ref sig .tc := ⟨.hbm, 243, rfl⟩
abbrev main_v137 : Ref sig .tc := ⟨.hbm, 244, rfl⟩
abbrev main_cst_29 : Ref sig .tc := ⟨.hbm, 245, rfl⟩
abbrev main_v138 : Ref sig .tc := ⟨.hbm, 246, rfl⟩
abbrev main_v139 : Ref sig .tc := ⟨.hbm, 247, rfl⟩
abbrev main_call6_cst : Ref sig .tc := ⟨.hbm, 248, rfl⟩
abbrev main_call6_v0 : Ref sig .tc := ⟨.hbm, 249, rfl⟩
abbrev main_call6_v1 : Ref sig .tc := ⟨.hbm, 250, rfl⟩
abbrev main_call6_v2 : Ref sig .tc := ⟨.hbm, 251, rfl⟩
abbrev main_call6_v3 : Ref sig .tc := ⟨.hbm, 252, rfl⟩
abbrev main_call6_v4 : Ref sig .tc := ⟨.hbm, 253, rfl⟩
abbrev main_call6_v5 : Ref sig .tc := ⟨.hbm, 254, rfl⟩
abbrev main_call6_v6 : Ref sig .tc := ⟨.hbm, 255, rfl⟩
abbrev main_call6_v7 : Ref sig .tc := ⟨.hbm, 256, rfl⟩
abbrev main_call6_v8 : Ref sig .tc := ⟨.hbm, 257, rfl⟩
abbrev main_call6_v9 : Ref sig .tc := ⟨.hbm, 258, rfl⟩
abbrev main_call6_v10 : Ref sig .tc := ⟨.hbm, 259, rfl⟩
abbrev main_call6_v11 : Ref sig .tc := ⟨.hbm, 260, rfl⟩
abbrev main_v140 : Ref sig .tc := ⟨.hbm, 261, rfl⟩
abbrev main_cst_30 : Ref sig .tc := ⟨.hbm, 262, rfl⟩
abbrev main_v141 : Ref sig .tc := ⟨.hbm, 263, rfl⟩
abbrev main_v142 : Ref sig .tc := ⟨.hbm, 264, rfl⟩
abbrev main_v143 : Ref sig .tc := ⟨.hbm, 265, rfl⟩
abbrev main_v144 : Ref sig .tc := ⟨.hbm, 266, rfl⟩
abbrev main_v145 : Ref sig .tc := ⟨.hbm, 267, rfl⟩
abbrev main_v146 : Ref sig .tc := ⟨.hbm, 268, rfl⟩
abbrev main_v147 : Ref sig .tc := ⟨.hbm, 269, rfl⟩
abbrev main_v148 : Ref sig .tc := ⟨.hbm, 270, rfl⟩
abbrev main_v149 : Ref sig .tc := ⟨.hbm, 271, rfl⟩
abbrev main_v150 : Ref sig .tc := ⟨.hbm, 272, rfl⟩
abbrev main_v151 : Ref sig .tc := ⟨.hbm, 273, rfl⟩
abbrev main_cst_31 : Ref sig .tc := ⟨.hbm, 274, rfl⟩
abbrev main_v152 : Ref sig .tc := ⟨.hbm, 275, rfl⟩
abbrev main_cst_32 : Ref sig .tc := ⟨.hbm, 276, rfl⟩
abbrev main_v153 : Ref sig .tc := ⟨.hbm, 277, rfl⟩
abbrev main_v154 : Ref sig .tc := ⟨.hbm, 278, rfl⟩
abbrev main_v155 : Ref sig .tc := ⟨.hbm, 279, rfl⟩
abbrev main_v156 : Ref sig .tc := ⟨.hbm, 280, rfl⟩
abbrev main_v157 : Ref sig .tc := ⟨.hbm, 281, rfl⟩
abbrev main_v158 : Ref sig .tc := ⟨.hbm, 282, rfl⟩
abbrev main_v159 : Ref sig .tc := ⟨.hbm, 283, rfl⟩
abbrev main_cst_33 : Ref sig .tc := ⟨.hbm, 284, rfl⟩
abbrev main_v160 : Ref sig .tc := ⟨.hbm, 285, rfl⟩
abbrev main_v161 : Ref sig .tc := ⟨.hbm, 286, rfl⟩
abbrev main_v162 : Ref sig .tc := ⟨.hbm, 287, rfl⟩
abbrev main_v163 : Ref sig .tc := ⟨.hbm, 288, rfl⟩
abbrev main_v164 : Ref sig .tc := ⟨.hbm, 289, rfl⟩
abbrev main_v165 : Ref sig .tc := ⟨.hbm, 290, rfl⟩
abbrev main_cst_34 : Ref sig .tc := ⟨.hbm, 291, rfl⟩
abbrev main_v166 : Ref sig .tc := ⟨.hbm, 292, rfl⟩
abbrev main_cst_35 : Ref sig .tc := ⟨.hbm, 293, rfl⟩
abbrev main_v167 : Ref sig .tc := ⟨.hbm, 294, rfl⟩
abbrev main_v168 : Ref sig .tc := ⟨.hbm, 295, rfl⟩
abbrev main_c : Ref sig .tc := ⟨.hbm, 296, rfl⟩
abbrev main_call7_cst : Ref sig .tc := ⟨.hbm, 297, rfl⟩
abbrev main_call7_v0 : Ref sig .tc := ⟨.hbm, 298, rfl⟩
abbrev main_call7_v1 : Ref sig .tc := ⟨.hbm, 299, rfl⟩
abbrev main_call7_cst_0 : Ref sig .tc := ⟨.hbm, 300, rfl⟩
abbrev main_call7_v2 : Ref sig .tc := ⟨.hbm, 301, rfl⟩
abbrev main_call7_v3 : Ref sig .tc := ⟨.hbm, 302, rfl⟩
abbrev main_call7_v4 : Ref sig .tc := ⟨.hbm, 303, rfl⟩
abbrev main_call7_v5 : Ref sig .tc := ⟨.hbm, 304, rfl⟩
abbrev main_call7_v6 : Ref sig .tc := ⟨.hbm, 305, rfl⟩
abbrev main_call7_v7 : Ref sig .tc := ⟨.hbm, 306, rfl⟩
abbrev main_call7_cst_1 : Ref sig .tc := ⟨.hbm, 307, rfl⟩
abbrev main_call7_v8 : Ref sig .tc := ⟨.hbm, 308, rfl⟩
abbrev main_call7_cst_2 : Ref sig .tc := ⟨.hbm, 309, rfl⟩
abbrev main_call7_v9 : Ref sig .tc := ⟨.hbm, 310, rfl⟩
abbrev main_call7_v10 : Ref sig .tc := ⟨.hbm, 311, rfl⟩
abbrev main_call7_v11 : Ref sig .tc := ⟨.hbm, 312, rfl⟩
abbrev main_call7_cst_3 : Ref sig .tc := ⟨.hbm, 313, rfl⟩
abbrev main_call7_v12 : Ref sig .tc := ⟨.hbm, 314, rfl⟩
abbrev main_call7_cst_4 : Ref sig .tc := ⟨.hbm, 315, rfl⟩
abbrev main_call7_call0_v0 : Ref sig .tc := ⟨.hbm, 316, rfl⟩
abbrev main_call7_call0_v1 : Ref sig .tc := ⟨.hbm, 317, rfl⟩
abbrev main_v169 : Ref sig .tc := ⟨.hbm, 318, rfl⟩
abbrev main_v170 : Ref sig .tc := ⟨.hbm, 319, rfl⟩
abbrev main_v171 : Ref sig .tc := ⟨.hbm, 320, rfl⟩
abbrev main_v172 : Ref sig .tc := ⟨.hbm, 321, rfl⟩
abbrev main_v173 : Ref sig .tc := ⟨.hbm, 322, rfl⟩
abbrev main_v174 : Ref sig .tc := ⟨.hbm, 323, rfl⟩
abbrev main_v175 : Ref sig .tc := ⟨.hbm, 324, rfl⟩
abbrev main_cst_36 : Ref sig .tc := ⟨.hbm, 325, rfl⟩
abbrev main_v176 : Ref sig .tc := ⟨.hbm, 326, rfl⟩
abbrev main_v177 : Ref sig .tc := ⟨.hbm, 327, rfl⟩
abbrev main_v178 : Ref sig .tc := ⟨.hbm, 328, rfl⟩
abbrev main_v179 : Ref sig .tc := ⟨.hbm, 329, rfl⟩
abbrev main_v180 : Ref sig .tc := ⟨.hbm, 330, rfl⟩
abbrev main_v181 : Ref sig .tc := ⟨.hbm, 331, rfl⟩
abbrev main_v182 : Ref sig .tc := ⟨.hbm, 332, rfl⟩
abbrev main_v183 : Ref sig .tc := ⟨.hbm, 333, rfl⟩
abbrev main_v184 : Ref sig .tc := ⟨.hbm, 334, rfl⟩
abbrev main_cst_37 : Ref sig .tc := ⟨.hbm, 335, rfl⟩
abbrev main_call8_cst : Ref sig .tc := ⟨.hbm, 336, rfl⟩
abbrev main_call8_v0 : Ref sig .tc := ⟨.hbm, 337, rfl⟩
abbrev main_call8_v1 : Ref sig .tc := ⟨.hbm, 338, rfl⟩
abbrev main_call8_v2 : Ref sig .tc := ⟨.hbm, 339, rfl⟩
abbrev main_call8_v3 : Ref sig .tc := ⟨.hbm, 340, rfl⟩
abbrev main_call8_v4 : Ref sig .tc := ⟨.hbm, 341, rfl⟩
abbrev main_v185 : Ref sig .tc := ⟨.hbm, 342, rfl⟩
abbrev main_v186 : Ref sig .tc := ⟨.hbm, 343, rfl⟩
abbrev main_v187 : Ref sig .tc := ⟨.hbm, 344, rfl⟩
abbrev main_v188 : Ref sig .tc := ⟨.hbm, 345, rfl⟩
abbrev main_v189 : Ref sig .tc := ⟨.hbm, 346, rfl⟩
abbrev main_cst_38 : Ref sig .tc := ⟨.hbm, 347, rfl⟩
abbrev main_v190 : Ref sig .tc := ⟨.hbm, 348, rfl⟩
abbrev main_cst_39 : Ref sig .tc := ⟨.hbm, 349, rfl⟩
abbrev main_v191 : Ref sig .tc := ⟨.hbm, 350, rfl⟩
abbrev main_v192 : Ref sig .tc := ⟨.hbm, 351, rfl⟩
abbrev main_c_40 : Ref sig .tc := ⟨.hbm, 352, rfl⟩
abbrev main_call9_cst : Ref sig .tc := ⟨.hbm, 353, rfl⟩
abbrev main_call9_v0 : Ref sig .tc := ⟨.hbm, 354, rfl⟩
abbrev main_call9_v1 : Ref sig .tc := ⟨.hbm, 355, rfl⟩
abbrev main_call9_cst_0 : Ref sig .tc := ⟨.hbm, 356, rfl⟩
abbrev main_call9_v2 : Ref sig .tc := ⟨.hbm, 357, rfl⟩
abbrev main_call9_v3 : Ref sig .tc := ⟨.hbm, 358, rfl⟩
abbrev main_call9_v4 : Ref sig .tc := ⟨.hbm, 359, rfl⟩
abbrev main_call9_v5 : Ref sig .tc := ⟨.hbm, 360, rfl⟩
abbrev main_call9_v6 : Ref sig .tc := ⟨.hbm, 361, rfl⟩
abbrev main_call9_v7 : Ref sig .tc := ⟨.hbm, 362, rfl⟩
abbrev main_call9_cst_1 : Ref sig .tc := ⟨.hbm, 363, rfl⟩
abbrev main_call9_v8 : Ref sig .tc := ⟨.hbm, 364, rfl⟩
abbrev main_call9_cst_2 : Ref sig .tc := ⟨.hbm, 365, rfl⟩
abbrev main_call9_v9 : Ref sig .tc := ⟨.hbm, 366, rfl⟩
abbrev main_call9_v10 : Ref sig .tc := ⟨.hbm, 367, rfl⟩
abbrev main_call9_v11 : Ref sig .tc := ⟨.hbm, 368, rfl⟩
abbrev main_call9_cst_3 : Ref sig .tc := ⟨.hbm, 369, rfl⟩
abbrev main_call9_v12 : Ref sig .tc := ⟨.hbm, 370, rfl⟩
abbrev main_call9_cst_4 : Ref sig .tc := ⟨.hbm, 371, rfl⟩
abbrev main_call9_call0_v0 : Ref sig .tc := ⟨.hbm, 372, rfl⟩
abbrev main_call9_call0_v1 : Ref sig .tc := ⟨.hbm, 373, rfl⟩
abbrev main_v193 : Ref sig .tc := ⟨.hbm, 374, rfl⟩
abbrev main_v194 : Ref sig .tc := ⟨.hbm, 375, rfl⟩
abbrev main_v195 : Ref sig .tc := ⟨.hbm, 376, rfl⟩
abbrev main_v196 : Ref sig .tc := ⟨.hbm, 377, rfl⟩
abbrev main_v197 : Ref sig .tc := ⟨.hbm, 378, rfl⟩
abbrev main_v198 : Ref sig .tc := ⟨.hbm, 379, rfl⟩
abbrev main_v199 : Ref sig .tc := ⟨.hbm, 380, rfl⟩
abbrev main_cst_41 : Ref sig .tc := ⟨.hbm, 381, rfl⟩
abbrev main_v200 : Ref sig .tc := ⟨.hbm, 382, rfl⟩
abbrev main_v201 : Ref sig .tc := ⟨.hbm, 383, rfl⟩
abbrev main_v202 : Ref sig .tc := ⟨.hbm, 384, rfl⟩
abbrev main_v203 : Ref sig .tc := ⟨.hbm, 385, rfl⟩
abbrev main_v204 : Ref sig .tc := ⟨.hbm, 386, rfl⟩
abbrev main_v205 : Ref sig .tc := ⟨.hbm, 387, rfl⟩
abbrev main_v206 : Ref sig .tc := ⟨.hbm, 388, rfl⟩
abbrev main_v207 : Ref sig .tc := ⟨.hbm, 389, rfl⟩
abbrev main_v208 : Ref sig .tc := ⟨.hbm, 390, rfl⟩
abbrev main_cst_42 : Ref sig .tc := ⟨.hbm, 391, rfl⟩
abbrev main_call10_cst : Ref sig .tc := ⟨.hbm, 392, rfl⟩
abbrev main_call10_v0 : Ref sig .tc := ⟨.hbm, 393, rfl⟩
abbrev main_call10_v1 : Ref sig .tc := ⟨.hbm, 394, rfl⟩
abbrev main_call10_v2 : Ref sig .tc := ⟨.hbm, 395, rfl⟩
abbrev main_call10_v3 : Ref sig .tc := ⟨.hbm, 396, rfl⟩
abbrev main_call10_v4 : Ref sig .tc := ⟨.hbm, 397, rfl⟩
abbrev main_v209 : Ref sig .tc := ⟨.hbm, 398, rfl⟩

abbrev nD : Nat := 1
abbrev τ : Topo := Topo.v7x

variable {F : FTy → Type} [FloatOps F]
-- ==== Proof.KernelIdeal.Step.lean ====
/- The encoder's five scratch buffers as a state, and what one grid point's body does to it: a chunk of
   radial hidden layers built, the pool and feature buffers initialised, a chunk of one of the three
   convolutions, or (at a batch's last point) nothing. The values stored are the printed body's own payloads. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.VecWindow
public import Idealize.ShloMosaic.Lib.WordCmp

@[expose] public section

set_option maxRecDepth 16384

noncomputable section

namespace Cert.KernelIdeal.Enc

open Idealize.ShloMosaic Idealize.SL.Sem
open Cert.KernelIdeal Cert.KernelIdeal.Gen
open Idealize.ShloMosaic.Pipeline (Dat Cfg Window BodyObligation cellOf)

variable {F : FTy → Type} [FloatOps F]

/-- The eleven input blocks a grid point reads. -/
structure Ins (F : FTy → Type) [FloatOps F] where
  x0 : Vec F S1x6144x8 .f32
  x1 : Vec F S1x384x1 .i32
  x2 : Vec F S6x4 .f32
  x3 : Vec F S3x96 .f32
  x4 : Vec F S1x96 .f32
  x5 : Vec F S32x32 .f32
  x6 : Vec F S32x8 .f32
  x7 : Vec F S32x64 .f32
  x8 : Vec F S64x8 .f32
  x9 : Vec F S32x64 .f32
  x10 : Vec F S64x8 .f32

/-- The five scratch buffers: the hidden layers, the inverse neighbour counts, two feature buffers, the pool. -/
structure St (F : FTy → Type) [FloatOps F] where
  hm : Vec F S110592x128 .bf16
  invn : Vec F S288x1 .f32
  fa : Vec F S384x8 .f32
  fb : Vec F S384x8 .f32
  pool : Vec F S1x24 .f32

/-- Chunk `c`'s rows of the hidden layers, whole. -/
theorem inbHm (c : Fin 18) : ∀ a, (![6144 * c.val, 0] : Fin 2 → ℕ) a + S6144x128.size a ≤ S110592x128.size a
  | 0 => show 6144 * c.val + 6144 ≤ 110592 by omega
  | 1 => show 0 + 128 ≤ 128 by omega
/-- Chunk `c`'s rows of the hidden layers at one of its four bands of 32 columns. -/
theorem inbHm32 (c : Fin 18) (k : ℕ) (hk : k ≤ 96) : ∀ a, (![6144 * c.val, k] : Fin 2 → ℕ) a + S6144x32.size a ≤ S110592x128.size a
  | 0 => show 6144 * c.val + 6144 ≤ 110592 by omega
  | 1 => show k + 32 ≤ 128 by omega
/-- Chunk `c`'s rows of the inverse counts. -/
theorem inbInv (c : Fin 18) : ∀ a, (![16 * c.val, 0] : Fin 2 → ℕ) a + S16x1.size a ≤ S288x1.size a
  | 0 => show 16 * c.val + 16 ≤ 288 by omega
  | 1 => show 0 + 1 ≤ 1 by omega
/-- Eight of the pool's columns. -/
theorem inbPool (k : ℕ) (hk : k ≤ 16) : ∀ a, (![0, k] : Fin 2 → ℕ) a + S1x8.size a ≤ S1x24.size a
  | 0 => show 0 + 1 ≤ 1 by omega
  | 1 => show k + 8 ≤ 24 by omega

/-- The band of 32 columns from `k` of chunk `c`'s hidden layers. -/
abbrev hmAt (st : St F) (c : Fin 18) (k : ℕ) (hk : k ≤ 96) : Vec F S6144x32 .bf16 :=
  VecWindow.window st.hm ![6144 * c.val, k] S6144x32.size (inbHm32 c k hk)
/-- Chunk `c`'s inverse counts. -/
abbrev invAt (st : St F) (c : Fin 18) : Vec F S16x1 .f32 :=
  VecWindow.window st.invn ![16 * c.val, 0] S16x1.size (inbInv c)
/-- The pool's eight columns from `k`. -/
abbrev poolAt (st : St F) (k : ℕ) (hk : k ≤ 16) : Vec F S1x8 .f32 :=
  VecWindow.window st.pool ![0, k] S1x8.size (inbPool k hk)

/-- The rows of hidden layers a point's geometry block makes. -/
abbrev hmNew (X : Ins F) : Vec F S6144x128 .bf16 :=
  k0_pay1 (k0_pay14 (k0_pay11 X.x0) k0_pay12 k0_pay13) (k0_pay16 (k0_pay10 X.x0) X.x3 X.x4) k0_pay17
/-- The inverse counts a point's geometry block makes. -/
abbrev invNew (X : Ins F) : Vec F S16x1 .f32 := k0_pay15 (k0_pay11 X.x0) k0_pay12 k0_pay13

/-- A build point: chunk `c` of the hidden layers and of the inverse counts. -/
def stBuild (c : Fin 18) (X : Ins F) (st : St F) : St F :=
  { st with
    hm := VecWindow.put st.hm ![6144 * c.val, 0] S6144x128.size (hmNew X)
    invn := VecWindow.put st.invn ![16 * c.val, 0] S16x1.size (invNew X) }

/-- The initialisation before the first convolution: pool zero, first features the species' embeddings, second zero. -/
def stInit (X : Ins F) (st : St F) : St F :=
  { st with pool := k0_pay2, fa := k0_pay3 X.x1 X.x2, fb := k0_pay4 }

/-- Chunk `c` of the first convolution. -/
def stConv0 (c : Fin 18) (X : Ins F) (st : St F) : St F :=
  { st with
    fb := VecWindow.put st.fb ![16 * c.val, 0] S16x8.size (k0_pay19 X.x5 X.x6 st.fa (hmAt st c 0 (by omega)) (invAt st c))
    pool := VecWindow.put st.pool ![0, 0] S1x8.size
      (k0_pay5 (BitVec.ofNat 32 c.val) (k0_pay18 X.x5 X.x6 st.fa (hmAt st c 0 (by omega)) (invAt st c))
        (iota .tc S16x1 32 [0] iota_S16x1_d0_w32) 16#32 (poolAt st 0 (by omega))) }

/-- Chunk `c` of the second convolution. -/
def stConv1 (c : Fin 18) (X : Ins F) (st : St F) : St F :=
  { st with
    fa := VecWindow.put st.fa ![16 * c.val, 0] S16x8.size (k0_pay6 (k0_pay20 X.x7 X.x8 st.fb (hmAt st c 32 (by omega)) (invAt st c)))
    pool := VecWindow.put st.pool ![0, 8] S1x8.size
      (k0_pay7 (BitVec.ofNat 32 c.val) (k0_pay20 X.x7 X.x8 st.fb (hmAt st c 32 (by omega)) (invAt st c)) (poolAt st 8 (by omega))) }

/-- Chunk `c` of the third convolution. -/
def stConv2 (c : Fin 18) (X : Ins F) (st : St F) : St F :=
  { st with
    pool := VecWindow.put st.pool ![0, 16] S1x8.size
      (k0_pay8 (k0_pay21 X.x9 X.x10 st.fa (hmAt st c 64 (by omega)) (invAt st c))
        (iota .tc S16x1 32 [0] iota_S16x1_d0_w32) (Scalar.muli (BitVec.ofNat 32 c.val) 16#32) (poolAt st 16 (by omega))) }

/-- The step at a batch's point `s`. -/
def stStep (s : ℕ) (X : Ins F) (st : St F) : St F :=
  if h : s < 18 then stBuild ⟨s, h⟩ X st
  else if h : s = 18 then stConv0 0 X (stInit X st)
  else if h : s < 36 then stConv0 ⟨s - 18, by omega⟩ X st
  else if h : s < 54 then stConv1 ⟨s - 36, by omega⟩ X st
  else if h : s < 72 then stConv2 ⟨s - 54, by omega⟩ X st
  else st

/-- The state after a batch's first `s` points, the blocks being `X`'s and the state `st₀` at the batch's start. -/
def stRun (X : ℕ → Ins F) (st₀ : St F) : ℕ → St F
  | 0 => st₀
  | s + 1 => stStep s (X s) (stRun X st₀ s)

/-! ## Where each case lies on the grid -/

/-- A point's second coordinate, as the body receives it. -/
theorem coord1 (t : Fin cfg0.N) : (grid0.coords t 1).val = t.val % 73 := by
  have e1 : (grid0.coords t 1).val = t.val / 1 % 73 := Pipeline.Grid.coords_val t 1 (by decide) rfl
  rw [e1, Nat.div_one]

/-- The build branch runs at a batch's first 18 points. -/
theorem cond1_iff (t : Fin cfg0.N) : k0_cond1 (grid0.coords t) = 1#1 ↔ t.val % 73 < 18 := by
  have ht : t.val % 73 < 73 := Nat.mod_lt _ (by omega)
  simp only [k0_cond1, coord1]
  word_cmp
/-- The initialisation runs at a batch's point 18. -/
theorem cond2_iff (t : Fin cfg0.N) :
    Scalar.cmpi .ne (Scalar.extui (Scalar.cmpi .eq (BitVec.ofNat 32 (grid0.coords t 1).val) 18#32) : BitVec 32) 0#32 = 1#1 ↔ t.val % 73 = 18 := by
  have ht : t.val % 73 < 73 := Nat.mod_lt _ (by omega)
  simp only [coord1]
  word_cmp
/-- The first layer runs at points 18 to 35. -/
theorem cond3_iff (t : Fin cfg0.N) : k0_cond3 (grid0.coords t) = 1#1 ↔ 18 ≤ t.val % 73 ∧ t.val % 73 < 36 := by
  have ht : t.val % 73 < 73 := Nat.mod_lt _ (by omega)
  simp only [k0_cond3, coord1]
  word_cmp
/-- The second layer runs at points 36 to 53. -/
theorem cond4_iff (t : Fin cfg0.N) : k0_cond4 (grid0.coords t) = 1#1 ↔ 36 ≤ t.val % 73 ∧ t.val % 73 < 54 := by
  have ht : t.val % 73 < 73 := Nat.mod_lt _ (by omega)
  simp only [k0_cond4, coord1]
  word_cmp
/-- The third layer runs at points 54 to 71. -/
theorem cond5_iff (t : Fin cfg0.N) : k0_cond5 (grid0.coords t) = 1#1 ↔ 54 ≤ t.val % 73 ∧ t.val % 73 < 72 := by
  have ht : t.val % 73 < 73 := Nat.mod_lt _ (by omega)
  simp only [k0_cond5, coord1]
  word_cmp
/-- The row is emitted at point 72. -/
theorem cond6_iff (t : Fin cfg0.N) : k0_cond6 (grid0.coords t) = 1#1 ↔ t.val % 73 = 72 := by
  have ht : t.val % 73 < 73 := Nat.mod_lt _ (by omega)
  simp only [k0_cond6, coord1]
  word_cmp

/-- A word difference of two small numbers, as a number. -/
theorem subi_toNat (s k : ℕ) (h : k ≤ s) (hs : s < 73) : Scalar.subi (BitVec.ofNat 32 s) (BitVec.ofNat 32 k) = BitVec.ofNat 32 (s - k) := by
  apply BitVec.eq_of_toNat_eq
  simp only [Scalar.subi, IntOp.subi, BitVec.toNat_sub, BitVec.toNat_ofNat]
  omega
/-- A product of a small number and a word, as a number. -/
theorem muli_toNat (s k : ℕ) (h : s * k < 4294967296) :
    (Scalar.indexCast (Scalar.muli (BitVec.ofNat 32 s) (BitVec.ofNat 32 k)) : Index).toNat = k * s := by
  have h' : k * s < 4294967296 := by rw [Nat.mul_comm]; exact h
  simp only [Scalar.muli, IntOp.muli, Scalar.indexCast, BitVec.toNat_mul, BitVec.toNat_ofNat]
  rw [Nat.mul_mod_mod, Nat.mod_mul_mod, Nat.mul_comm s k]
  exact Nat.mod_eq_of_lt h'

end Cert.KernelIdeal.Enc
-- ==== Proof.KernelIdeal.Traj.lean ====
/- A batch's run of the encoder's steps: after its eighteen building points the hidden layers and the inverse counts
   are the blocks' own, whatever the scratch held before; after the initialisation the whole state is. -/
module

public import proofs.«01_k».proof.Proof.KernelIdeal.Step
public import Idealize.ShloMosaic.Lib.ValueIdxCore

@[expose] public section

set_option maxRecDepth 16384

noncomputable section

namespace Cert.KernelIdeal.Enc

open Idealize.ShloMosaic Idealize.SL.Sem
open Cert.KernelIdeal Cert.KernelIdeal.Gen
open Idealize.ShloMosaic.ValueIdx (ix1 ix2 ix3 eq_ix2)

variable {F : FTy → Type} [FloatOps F]

/-- Every hidden layer of the batch: row `y 0` is row `y 0 % 6144` of what point `y 0 / 6144` builds. -/
def hmAll (X : ℕ → Ins F) : Vec F S110592x128 .bf16 := fun y =>
  hmNew (X ((y 0).val / 6144)) (ix2 (⟨(y 0).val % 6144, Nat.mod_lt _ (by omega)⟩ : Fin 6144) (y 1))
/-- Every inverse count of the batch. -/
def invAll (X : ℕ → Ins F) : Vec F S288x1 .f32 := fun y =>
  invNew (X ((y 0).val / 16)) (ix2 (⟨(y 0).val % 16, Nat.mod_lt _ (by omega)⟩ : Fin 16) (y 1))

/-- The first `s` chunks of hidden layers are the batch's after `s` building points. -/
theorem stRun_hm (X : ℕ → Ins F) (st₀ : St F) (s : ℕ) : s ≤ 18 → ∀ y : S110592x128.Idx, (y 0).val < 6144 * s →
    (stRun X st₀ s).hm y = hmAll X y := by
  induction s with
  | zero => intro _ y hy; omega
  | succ s ih =>
    intro hs y hy
    show (stStep s (X s) (stRun X st₀ s)).hm y = _
    rw [stStep, dif_pos (by omega : s < 18)]
    by_cases h : 6144 * s ≤ (y 0).val
    · have h1 : (y 1).val < 128 := (y 1).isLt
      have hb : ∀ a, (![6144 * s, 0] : Fin 2 → ℕ) a ≤ (y a).val ∧ (y a).val < (![6144 * s, 0] : Fin 2 → ℕ) a + S6144x128.size a := by
        intro a
        match a with
        | 0 => exact ⟨h, show (y 0).val < 6144 * s + 6144 by omega⟩
        | 1 => exact ⟨Nat.zero_le _, show (y 1).val < 0 + 128 by omega⟩
      have hd : (y 0).val / 6144 = s := by omega
      show VecWindow.put (s := S110592x128) (stRun X st₀ s).hm ![6144 * s, 0] S6144x128.size (hmNew (X s)) y = _
      rw [VecWindow.put, dif_pos hb]
      unfold hmAll
      rw [hd]
      refine congrArg (hmNew (X s)) (funext fun a => Fin.ext ?_)
      match a with
      | 0 => show (y 0).val - 6144 * s = (y 0).val % 6144; omega
      | 1 => rfl
    · have hb : ¬ ∀ a, (![6144 * s, 0] : Fin 2 → ℕ) a ≤ (y a).val ∧ (y a).val < (![6144 * s, 0] : Fin 2 → ℕ) a + S6144x128.size a :=
        fun hb => h (hb 0).1
      show VecWindow.put (s := S110592x128) (stRun X st₀ s).hm ![6144 * s, 0] S6144x128.size (hmNew (X s)) y = _
      rw [VecWindow.put, dif_neg hb]
      exact ih (by omega) y (by omega)

/-- The first `s` chunks of inverse counts are the batch's after `s` building points. -/
theorem stRun_invn (X : ℕ → Ins F) (st₀ : St F) (s : ℕ) : s ≤ 18 → ∀ y : S288x1.Idx, (y 0).val < 16 * s →
    (stRun X st₀ s).invn y = invAll X y := by
  induction s with
  | zero => intro _ y hy; omega
  | succ s ih =>
    intro hs y hy
    show (stStep s (X s) (stRun X st₀ s)).invn y = _
    rw [stStep, dif_pos (by omega : s < 18)]
    by_cases h : 16 * s ≤ (y 0).val
    · have h1 : (y 1).val < 1 := (y 1).isLt
      have hb : ∀ a, (![16 * s, 0] : Fin 2 → ℕ) a ≤ (y a).val ∧ (y a).val < (![16 * s, 0] : Fin 2 → ℕ) a + S16x1.size a := by
        intro a
        match a with
        | 0 => exact ⟨h, show (y 0).val < 16 * s + 16 by omega⟩
        | 1 => exact ⟨Nat.zero_le _, show (y 1).val < 0 + 1 by omega⟩
      have hd : (y 0).val / 16 = s := by omega
      show VecWindow.put (s := S288x1) (stRun X st₀ s).invn ![16 * s, 0] S16x1.size (invNew (X s)) y = _
      rw [VecWindow.put, dif_pos hb]
      unfold invAll
      rw [hd]
      refine congrArg (invNew (X s)) (funext fun a => Fin.ext ?_)
      match a with
      | 0 => show (y 0).val - 16 * s = (y 0).val % 16; omega
      | 1 => rfl
    · have hb : ¬ ∀ a, (![16 * s, 0] : Fin 2 → ℕ) a ≤ (y a).val ∧ (y a).val < (![16 * s, 0] : Fin 2 → ℕ) a + S16x1.size a :=
        fun hb => h (hb 0).1
      show VecWindow.put (s := S288x1) (stRun X st₀ s).invn ![16 * s, 0] S16x1.size (invNew (X s)) y = _
      rw [VecWindow.put, dif_neg hb]
      exact ih (by omega) y (by omega)

/-- The state once the first convolution's first chunk is through, in the blocks alone. -/
def st19 (X : ℕ → Ins F) : St F :=
  stConv0 0 (X 18) { hm := hmAll X, invn := invAll X, fa := k0_pay3 (X 18).x1 (X 18).x2, fb := k0_pay4, pool := k0_pay2 }

/-- After point 18 the state no longer depends on what the scratch held at first. -/
theorem stRun_19 (X : ℕ → Ins F) (st₀ : St F) : stRun X st₀ 19 = st19 X := by
  have e1 : (stRun X st₀ 18).hm = hmAll X := funext fun y => stRun_hm X st₀ 18 le_rfl y (by have : (y 0).val < 110592 := (y 0).isLt; omega)
  have e2 : (stRun X st₀ 18).invn = invAll X := funext fun y => stRun_invn X st₀ 18 le_rfl y (by have : (y 0).val < 288 := (y 0).isLt; omega)
  show stStep 18 (X 18) (stRun X st₀ 18) = _
  rw [stStep, dif_neg (by omega), dif_pos rfl, st19, stInit, e1, e2]

/-- From there on the state does not depend on what the scratch held when the batch began. -/
theorem stRun_indep (X : ℕ → Ins F) (st₀ st₁ : St F) (n : ℕ) : stRun X st₀ (19 + n) = stRun X st₁ (19 + n) := by
  induction n with
  | zero => exact (stRun_19 X st₀).trans (stRun_19 X st₁).symm
  | succ n ih => exact congrArg (stStep (19 + n) (X (19 + n))) ih

/-- Some state, to name the run's values by. -/
def stAny : St F where
  hm := constant S110592x128 .bf16 0x0000#16
  invn := constant S288x1 .f32 0x00000000#32
  fa := k0_pay4
  fb := k0_pay4
  pool := k0_pay2

/-- The pooled row a batch's last point writes out. -/
def outRow (X : ℕ → Ins F) : Vec F S1x1x24 .f32 := k0_pay9 (stRun X stAny 72).pool

/-- The emitted row does not depend on what the scratch held at first. -/
theorem outRow_eq (X : ℕ → Ins F) (st₀ : St F) : k0_pay9 (stRun X st₀ 72).pool = outRow X :=
  congrArg (fun st : St F => k0_pay9 st.pool) (stRun_indep X st₀ stAny 53)

end Cert.KernelIdeal.Enc
-- ==== Proof.KernelIdeal.Held.lean ====
/- The encoder's inputs and scratch as held buffers, and the body's computed offsets in closed form. -/
module

public import proofs.«01_k».proof.Proof.KernelIdeal.Step
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Enc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.Pipeline (Dat Cfg Window BodyObligation cellOf)

variable {F : FTy → Type} [FloatOps F]

local notation "𝕄" => MT nD τ sig Unit (Elt F) ℕ (UR sig nD τ) ℕ

/-- The input buffers held at the blocks `X`. -/
def heldIns (c : Dev nD) (arg2 : Memref sig .tc .vmem S1x6144x8 .f32) (arg3 : Memref sig .tc .vmem S1x384x1 .i32) (arg4 : Memref sig .tc .vmem S6x4 .f32) (arg5 : Memref sig .tc .vmem S3x96 .f32) (arg6 : Memref sig .tc .vmem S1x96 .f32) (arg7 : Memref sig .tc .vmem S32x32 .f32) (arg8 : Memref sig .tc .vmem S32x8 .f32) (arg9 : Memref sig .tc .vmem S32x64 .f32) (arg10 : Memref sig .tc .vmem S64x8 .f32) (arg11 : Memref sig .tc .vmem S32x64 .f32) (arg12 : Memref sig .tc .vmem S64x8 .f32) (X : Ins F) : sProp 𝕄 :=
  iprop(owns (c : Thread nD τ) arg2 fullShare X.x0 ∗ owns (c : Thread nD τ) arg3 fullShare X.x1 ∗ owns (c : Thread nD τ) arg4 fullShare X.x2 ∗ owns (c : Thread nD τ) arg5 fullShare X.x3 ∗ owns (c : Thread nD τ) arg6 fullShare X.x4 ∗ owns (c : Thread nD τ) arg7 fullShare X.x5 ∗ owns (c : Thread nD τ) arg8 fullShare X.x6 ∗ owns (c : Thread nD τ) arg9 fullShare X.x7 ∗ owns (c : Thread nD τ) arg10 fullShare X.x8 ∗ owns (c : Thread nD τ) arg11 fullShare X.x9 ∗ owns (c : Thread nD τ) arg12 fullShare X.x10)
/-- The scratch buffers held at the state `st`. -/
def heldSt (c : Dev nD) (arg14 : Memref sig .tc .vmem S110592x128 .bf16) (arg15 : Memref sig .tc .vmem S288x1 .f32) (arg16 : Memref sig .tc .vmem S384x8 .f32) (arg17 : Memref sig .tc .vmem S384x8 .f32) (arg18 : Memref sig .tc .vmem S1x24 .f32) (st : St F) : sProp 𝕄 :=
  iprop(owns (c : Thread nD τ) arg14 fullShare st.hm ∗ owns (c : Thread nD τ) arg15 fullShare st.invn ∗ owns (c : Thread nD τ) arg16 fullShare st.fa ∗ owns (c : Thread nD τ) arg17 fullShare st.fb ∗ owns (c : Thread nD τ) arg18 fullShare st.pool)

/-- Offset 1 of the body in terms of the chunk. -/
theorem off1_eq (i : grid0.Coords) (c : Fin 18) (hi : (i 1).val = c.val) : k0_off1 i = ![16 * c.val, 0] := by
  have hc := c.isLt
  simp only [k0_off1, hi]
  rw [muli_toNat _ _ (by omega)]
/-- Offset 2 of the body in terms of the chunk. -/
theorem off2_eq (i : grid0.Coords) (c : Fin 18) (hi : (i 1).val = c.val) : k0_off2 i = ![6144 * c.val, 0] := by
  have hc := c.isLt
  simp only [k0_off2, hi]
  rw [muli_toNat _ _ (by omega)]
/-- Offset 3 of the body in terms of the chunk. -/
theorem off3_eq (i : grid0.Coords) (c : Fin 18) (hi : (i 1).val = 18 + c.val) : k0_off3 i = ![6144 * c.val, 0] := by
  have hc := c.isLt
  simp only [k0_off3, hi]
  rw [subi_toNat _ 18 (by omega) (by omega), show 18 + c.val - 18 = c.val from by omega, muli_toNat _ _ (by omega)]
/-- Offset 4 of the body in terms of the chunk. -/
theorem off4_eq (i : grid0.Coords) (c : Fin 18) (hi : (i 1).val = 18 + c.val) : k0_off4 i = ![16 * c.val, 0] := by
  have hc := c.isLt
  simp only [k0_off4, hi]
  rw [subi_toNat _ 18 (by omega) (by omega), show 18 + c.val - 18 = c.val from by omega, muli_toNat _ _ (by omega)]
/-- Offset 5 of the body in terms of the chunk. -/
theorem off5_eq (i : grid0.Coords) (c : Fin 18) (hi : (i 1).val = 18 + c.val) : k0_off5 i = ![16 * c.val, 0] := by
  have hc := c.isLt
  simp only [k0_off5, hi]
  rw [subi_toNat _ 18 (by omega) (by omega), show 18 + c.val - 18 = c.val from by omega, muli_toNat _ _ (by omega)]
/-- Offset 6 of the body in terms of the chunk. -/
theorem off6_eq (i : grid0.Coords) (c : Fin 18) (hi : (i 1).val = 36 + c.val) : k0_off6 i = ![6144 * c.val, 32] := by
  have hc := c.isLt
  simp only [k0_off6, hi]
  rw [subi_toNat _ 36 (by omega) (by omega), show 36 + c.val - 36 = c.val from by omega, muli_toNat _ _ (by omega)]
/-- Offset 7 of the body in terms of the chunk. -/
theorem off7_eq (i : grid0.Coords) (c : Fin 18) (hi : (i 1).val = 36 + c.val) : k0_off7 i = ![16 * c.val, 0] := by
  have hc := c.isLt
  simp only [k0_off7, hi]
  rw [subi_toNat _ 36 (by omega) (by omega), show 36 + c.val - 36 = c.val from by omega, muli_toNat _ _ (by omega)]
/-- Offset 8 of the body in terms of the chunk. -/
theorem off8_eq (i : grid0.Coords) (c : Fin 18) (hi : (i 1).val = 36 + c.val) : k0_off8 i = ![16 * c.val, 0] := by
  have hc := c.isLt
  simp only [k0_off8, hi]
  rw [subi_toNat _ 36 (by omega) (by omega), show 36 + c.val - 36 = c.val from by omega, muli_toNat _ _ (by omega)]
/-- Offset 9 of the body in terms of the chunk. -/
theorem off9_eq (i : grid0.Coords) (c : Fin 18) (hi : (i 1).val = 54 + c.val) : k0_off9 i = ![6144 * c.val, 64] := by
  have hc := c.isLt
  simp only [k0_off9, hi]
  rw [subi_toNat _ 54 (by omega) (by omega), show 54 + c.val - 54 = c.val from by omega, muli_toNat _ _ (by omega)]
/-- Offset 10 of the body in terms of the chunk. -/
theorem off10_eq (i : grid0.Coords) (c : Fin 18) (hi : (i 1).val = 54 + c.val) : k0_off10 i = ![16 * c.val, 0] := by
  have hc := c.isLt
  simp only [k0_off10, hi]
  rw [subi_toNat _ 54 (by omega) (by omega), show 54 + c.val - 54 = c.val from by omega, muli_toNat _ _ (by omega)]

end Cert.KernelIdeal.Enc
-- ==== Proof.KernelIdeal.BodyBuild.lean ====
/- The encoder's body run at one kind of grid point: one that builds hidden layers. -/
module

public import proofs.«01_k».proof.Proof.KernelIdeal.Held

@[expose] public section

set_option maxRecDepth 16384

noncomputable section

namespace Cert.KernelIdeal.Enc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.Pipeline (Dat Cfg Window BodyObligation cellOf)

variable {F : FTy → Type} [FloatOps F]

local notation "𝕄" => MT nD τ sig Unit (Elt F) ℕ (UR sig nD τ) ℕ

section
variable (arg2 : Memref sig .tc .vmem S1x6144x8 .f32) (harg2 : arg2.IsWhole)
variable (arg3 : Memref sig .tc .vmem S1x384x1 .i32) (harg3 : arg3.IsWhole)
variable (arg4 : Memref sig .tc .vmem S6x4 .f32) (harg4 : arg4.IsWhole)
variable (arg5 : Memref sig .tc .vmem S3x96 .f32) (harg5 : arg5.IsWhole)
variable (arg6 : Memref sig .tc .vmem S1x96 .f32) (harg6 : arg6.IsWhole)
variable (arg7 : Memref sig .tc .vmem S32x32 .f32) (harg7 : arg7.IsWhole)
variable (arg8 : Memref sig .tc .vmem S32x8 .f32) (harg8 : arg8.IsWhole)
variable (arg9 : Memref sig .tc .vmem S32x64 .f32) (harg9 : arg9.IsWhole)
variable (arg10 : Memref sig .tc .vmem S64x8 .f32) (harg10 : arg10.IsWhole)
variable (arg11 : Memref sig .tc .vmem S32x64 .f32) (harg11 : arg11.IsWhole)
variable (arg12 : Memref sig .tc .vmem S64x8 .f32) (harg12 : arg12.IsWhole)
variable (arg13 : Memref sig .tc .vmem S1x1x24 .f32) (harg13 : arg13.IsWhole)
variable (arg14 : Memref sig .tc .vmem S110592x128 .bf16) (harg14 : arg14.IsWhole)
variable (arg15 : Memref sig .tc .vmem S288x1 .f32) (harg15 : arg15.IsWhole)
variable (arg16 : Memref sig .tc .vmem S384x8 .f32) (harg16 : arg16.IsWhole)
variable (arg17 : Memref sig .tc .vmem S384x8 .f32) (harg17 : arg17.IsWhole)
variable (arg18 : Memref sig .tc .vmem S1x24 .f32) (harg18 : arg18.IsWhole)
variable (c : Dev nD) (i : grid0.Coords) (X : Ins F) (st : St F) (xi : Vec F S1x1x24 .f32)

-- the body's run is long
set_option maxHeartbeats 2000000 in
/-- A point that builds a chunk of hidden layers. -/
theorem run_build (hc1 : k0_cond1 i = 1#1) (hc2 : ¬ Scalar.cmpi .ne (Scalar.extui (Scalar.cmpi .eq (BitVec.ofNat 32 (i 1).val) 18#32) : BitVec 32) 0#32 = 1#1) (hc3 : ¬ k0_cond3 i = 1#1) (hc4 : ¬ k0_cond4 i = 1#1) (hc5 : ¬ k0_cond5 i = 1#1) (hc6 : ¬ k0_cond6 i = 1#1) (k : Fin 18) (hi : (i 1).val = k.val) (E : Set ℕ) (K : PUnit → sProp 𝕄) :
    iprop(heldIns c arg2 arg3 arg4 arg5 arg6 arg7 arg8 arg9 arg10 arg11 arg12 X ∗ owns (c : Thread nD τ) arg13 fullShare xi ∗ heldSt c arg14 arg15 arg16 arg17 arg18 st
        ∗ (iprop(heldIns c arg2 arg3 arg4 arg5 arg6 arg7 arg8 arg9 arg10 arg11 arg12 X ∗ owns (c : Thread nD τ) arg13 fullShare xi ∗ heldSt c arg14 arg15 arg16 arg17 arg18 (stBuild k X st)) -∗ K ⟨⟩))
      ⊢ wp frame (wpE (defs₀ (F := F)) Variants.none c none) E (cc0__encoder_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  have e2 : arg2.view.readAt (Elt F) (Rect.unit (s := S1x6144x8) ![0, 0, 0] S1x6144x8.size inb_S1x6144x8_S1x6144x8_0_0_0).toLoadRect (harg2.unread X.x0) = X.x0 := (View.readAt_full _ _ _).trans (harg2.read_unread _)
  have e5 : arg5.view.readAt (Elt F) (Rect.unit (s := S3x96) ![0, 0] S3x96.size inb_S3x96_S3x96_0_0).toLoadRect (harg5.unread X.x3) = X.x3 := (View.readAt_full _ _ _).trans (harg5.read_unread _)
  have e6 : arg6.view.readAt (Elt F) (Rect.unit (s := S1x96) ![0, 0] S1x96.size inb_S1x96_S1x96_0_0).toLoadRect (harg6.unread X.x4) = X.x4 := (View.readAt_full _ _ _).trans (harg6.read_unread _)
  simp only [cc0__encoder_body_eq_skeleton]; unfold cc0__encoder_body_skel
  simp only [k0_part1_eq_skeleton, k0_part2_eq_skeleton]
  unfold heldIns heldSt owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, ⟨%f11, %hf11, H11⟩, ⟨⟨%fs0, %hfs0, HS0⟩, ⟨%fs1, %hfs1, HS1⟩, ⟨%fs2, %hfs2, HS2⟩, ⟨%fs3, %hfs3, HS3⟩, ⟨%fs4, %hfs4, HS4⟩⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
  obtain rfl := harg14.eq_unread hfs0; obtain rfl := harg15.eq_unread hfs1; obtain rfl := harg16.eq_unread hfs2; obtain rfl := harg17.eq_unread hfs3; obtain rfl := harg18.eq_unread hfs4
  sl_exec (disch := first | sl_exact hc1 | sl_exact hc2 | sl_exact hc3 | sl_exact hc4 | sl_exact hc5 | sl_exact hc6)
  sl_step
  iapply Hk
  isplitl [H0 H1 H2 H3 H4 H5 H6 H7 H8 H9 H10]
  · isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    iexists _; isplitr; · ipureintro; exact harg12.read_unread _
    iexact H10
  isplitl [H11]
  · iexists _; isplitr; swap; · iexact H11
    ipureintro; exact harg13.read_unread _
  isplitl [HS0]
  · iexists _; isplitr; swap; · iexact HS0
    ipureintro; sl_unfold_words; refine (View.read_writes_cons_put arg14.view _ _ _ _ (off2_eq i k hi)).trans ?_; rw [View.writes_nil, harg14.read_unread]; rfl
  isplitl [HS1]
  · iexists _; isplitr; swap; · iexact HS1
    ipureintro; sl_unfold_words; refine (View.read_writes_cons_put arg15.view _ _ _ _ (off1_eq i k hi)).trans ?_; rw [View.writes_nil, harg15.read_unread]; rfl
  isplitl [HS2]
  · iexists _; isplitr; swap; · iexact HS2
    ipureintro; exact harg16.read_unread _
  isplitl [HS3]
  · iexists _; isplitr; swap; · iexact HS3
    ipureintro; exact harg17.read_unread _
  iexists _; isplitr; swap; · iexact HS4
  ipureintro; exact harg18.read_unread _

end

end Cert.KernelIdeal.Enc
-- ==== Proof.KernelIdeal.BodyInit.lean ====
/- The encoder's body run at one kind of grid point: the initialisation with the first chunk of the first convolution. -/
module

public import proofs.«01_k».proof.Proof.KernelIdeal.Held

@[expose] public section

set_option maxRecDepth 16384

noncomputable section

namespace Cert.KernelIdeal.Enc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.Pipeline (Dat Cfg Window BodyObligation cellOf)

variable {F : FTy → Type} [FloatOps F]

local notation "𝕄" => MT nD τ sig Unit (Elt F) ℕ (UR sig nD τ) ℕ

section
variable (arg2 : Memref sig .tc .vmem S1x6144x8 .f32) (harg2 : arg2.IsWhole)
variable (arg3 : Memref sig .tc .vmem S1x384x1 .i32) (harg3 : arg3.IsWhole)
variable (arg4 : Memref sig .tc .vmem S6x4 .f32) (harg4 : arg4.IsWhole)
variable (arg5 : Memref sig .tc .vmem S3x96 .f32) (harg5 : arg5.IsWhole)
variable (arg6 : Memref sig .tc .vmem S1x96 .f32) (harg6 : arg6.IsWhole)
variable (arg7 : Memref sig .tc .vmem S32x32 .f32) (harg7 : arg7.IsWhole)
variable (arg8 : Memref sig .tc .vmem S32x8 .f32) (harg8 : arg8.IsWhole)
variable (arg9 : Memref sig .tc .vmem S32x64 .f32) (harg9 : arg9.IsWhole)
variable (arg10 : Memref sig .tc .vmem S64x8 .f32) (harg10 : arg10.IsWhole)
variable (arg11 : Memref sig .tc .vmem S32x64 .f32) (harg11 : arg11.IsWhole)
variable (arg12 : Memref sig .tc .vmem S64x8 .f32) (harg12 : arg12.IsWhole)
variable (arg13 : Memref sig .tc .vmem S1x1x24 .f32) (harg13 : arg13.IsWhole)
variable (arg14 : Memref sig .tc .vmem S110592x128 .bf16) (harg14 : arg14.IsWhole)
variable (arg15 : Memref sig .tc .vmem S288x1 .f32) (harg15 : arg15.IsWhole)
variable (arg16 : Memref sig .tc .vmem S384x8 .f32) (harg16 : arg16.IsWhole)
variable (arg17 : Memref sig .tc .vmem S384x8 .f32) (harg17 : arg17.IsWhole)
variable (arg18 : Memref sig .tc .vmem S1x24 .f32) (harg18 : arg18.IsWhole)
variable (c : Dev nD) (i : grid0.Coords) (X : Ins F) (st : St F) (xi : Vec F S1x1x24 .f32)

-- the body's run is long
set_option maxHeartbeats 2000000 in
/-- The initialisation and the first convolution's first chunk. -/
theorem run_init (hc1 : ¬ k0_cond1 i = 1#1) (hc2 : Scalar.cmpi .ne (Scalar.extui (Scalar.cmpi .eq (BitVec.ofNat 32 (i 1).val) 18#32) : BitVec 32) 0#32 = 1#1) (hc3 : k0_cond3 i = 1#1) (hc4 : ¬ k0_cond4 i = 1#1) (hc5 : ¬ k0_cond5 i = 1#1) (hc6 : ¬ k0_cond6 i = 1#1) (hi : (i 1).val = 18) (E : Set ℕ) (K : PUnit → sProp 𝕄) :
    iprop(heldIns c arg2 arg3 arg4 arg5 arg6 arg7 arg8 arg9 arg10 arg11 arg12 X ∗ owns (c : Thread nD τ) arg13 fullShare xi ∗ heldSt c arg14 arg15 arg16 arg17 arg18 st
        ∗ (iprop(heldIns c arg2 arg3 arg4 arg5 arg6 arg7 arg8 arg9 arg10 arg11 arg12 X ∗ owns (c : Thread nD τ) arg13 fullShare xi ∗ heldSt c arg14 arg15 arg16 arg17 arg18 (stConv0 0 X (stInit X st))) -∗ K ⟨⟩))
      ⊢ wp frame (wpE (defs₀ (F := F)) Variants.none c none) E (cc0__encoder_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  have e3 : arg3.view.readAt (Elt F) (Rect.unit (s := S1x384x1) ![0, 0, 0] S1x384x1.size inb_S1x384x1_S1x384x1_0_0_0).toLoadRect (harg3.unread X.x1) = X.x1 := (View.readAt_full _ _ _).trans (harg3.read_unread _)
  have e4 : arg4.view.readAt (Elt F) (Rect.unit (s := S6x4) ![0, 0] S6x4.size inb_S6x4_S6x4_0_0).toLoadRect (harg4.unread X.x2) = X.x2 := (View.readAt_full _ _ _).trans (harg4.read_unread _)
  have e7 : arg7.view.readAt (Elt F) (Rect.unit (s := S32x32) ![0, 0] S32x32.size inb_S32x32_S32x32_0_0).toLoadRect (harg7.unread X.x5) = X.x5 := (View.readAt_full _ _ _).trans (harg7.read_unread _)
  have e8 : arg8.view.readAt (Elt F) (Rect.unit (s := S32x8) ![0, 0] S32x8.size inb_S32x8_S32x8_0_0).toLoadRect (harg8.unread X.x6) = X.x6 := (View.readAt_full _ _ _).trans (harg8.read_unread _)
  have eh : arg14.view.readAt (Elt F) (Rect.unit (s := S110592x128) (k0_off3 i) S6144x32.size (k0_off3_inb i hc3)).toLoadRect (harg14.unread st.hm) = VecWindow.window st.hm ![6144 * (0 : Fin 18).val, 0] S6144x32.size (inbHm32 0 0 (by omega)) := by
    rw [View.readAt_unit arg14.view _ _ (off3_eq i 0 hi) (inbHm32 0 0 (by omega)), harg14.read_unread]
  have ei : arg15.view.readAt (Elt F) (Rect.unit (s := S288x1) (k0_off4 i) S16x1.size (k0_off4_inb i hc3)).toLoadRect (harg15.unread st.invn) = VecWindow.window st.invn ![16 * (0 : Fin 18).val, 0] S16x1.size (inbInv 0) := by
    rw [View.readAt_unit arg15.view _ _ (off4_eq i 0 hi) (inbInv 0), harg15.read_unread]
  have ep : arg18.view.readAt (Elt F) (Rect.unit (s := S1x24) ![0, 0] S1x8.size inb_S1x24_S1x8_0_0).toLoadRect (harg18.unread st.pool) = VecWindow.window st.pool ![0, 0] S1x8.size (inbPool 0 (by omega)) := by
    rw [View.readAt_unit arg18.view _ _ rfl (inbPool 0 (by omega)), harg18.read_unread]
  simp only [cc0__encoder_body_eq_skeleton]; unfold cc0__encoder_body_skel
  simp only [k0_part3_eq_skeleton]
  unfold heldIns heldSt owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, ⟨%f11, %hf11, H11⟩, ⟨⟨%fs0, %hfs0, HS0⟩, ⟨%fs1, %hfs1, HS1⟩, ⟨%fs2, %hfs2, HS2⟩, ⟨%fs3, %hfs3, HS3⟩, ⟨%fs4, %hfs4, HS4⟩⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
  obtain rfl := harg14.eq_unread hfs0; obtain rfl := harg15.eq_unread hfs1; obtain rfl := harg16.eq_unread hfs2; obtain rfl := harg17.eq_unread hfs3; obtain rfl := harg18.eq_unread hfs4
  sl_exec (disch := first | sl_exact hc1 | sl_exact hc2 | sl_exact hc3 | sl_exact hc4 | sl_exact hc5 | sl_exact hc6)
  sl_step
  iapply Hk
  isplitl [H0 H1 H2 H3 H4 H5 H6 H7 H8 H9 H10]
  · isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    iexists _; isplitr; · ipureintro; exact harg12.read_unread _
    iexact H10
  isplitl [H11]
  · iexists _; isplitr; swap; · iexact H11
    ipureintro; exact harg13.read_unread _
  isplitl [HS0]
  · iexists _; isplitr; swap; · iexact HS0
    ipureintro; exact harg14.read_unread _
  isplitl [HS1]
  · iexists _; isplitr; swap; · iexact HS1
    ipureintro; exact harg15.read_unread _
  isplitl [HS2]
  · iexists _; isplitr; swap; · iexact HS2
    ipureintro; sl_unfold_words; rw [View.read_writes_full]; rfl
  isplitl [HS3]
  · iexists _; isplitr; swap; · iexact HS3
    ipureintro; sl_unfold_words; refine (View.read_writes_cons_put arg17.view _ _ _ _ (off5_eq i 0 hi)).trans ?_; rw [View.read_writes_full]; rw [View.readCov_full arg16.view inb_S384x8_S384x8_0_0 inb_S384x8_S384x8_0_0]; rfl
  iexists _; isplitr; swap; · iexact HS4
  ipureintro; sl_unfold_words; refine (View.read_writes_cons_put arg18.view _ _ _ _ rfl).trans ?_; rw [View.read_writes_full]; rw [View.readCov_full arg16.view inb_S384x8_S384x8_0_0 inb_S384x8_S384x8_0_0];
  have ec : arg18.view.readCov [⟨Rect.unit (s := S1x24) ![0, 0] S1x24.size inb_S1x24_S1x24_0_0, k0_pay2 (F := F)⟩] (Rect.unit (s := S1x24) ![0, 0] S1x8.size inb_S1x24_S1x8_0_0).toLoadRect = VecWindow.window (k0_pay2 (F := F)) ![0, 0] S1x8.size (inbPool 0 (by omega)) := (View.readAt_unit (Val := Elt F) arg18.view _ _ rfl (inbPool 0 (by omega))).trans (by rw [View.read_writes_full])
  refine congrArg (VecWindow.put _ _ _) ?_
  rw [show Scalar.subi (BitVec.ofNat 32 (i 1).val) 18#32 = BitVec.ofNat 32 (0 : Fin 18).val from by rw [hi, subi_toNat _ 18 (by omega) (by omega)]; rfl]
  exact congrArg (k0_pay5 _ _ _ _) ec

end

end Cert.KernelIdeal.Enc
-- ==== Proof.KernelIdeal.BodyConv0.lean ====
/- The encoder's body run at one kind of grid point: the first convolution. -/
module

public import proofs.«01_k».proof.Proof.KernelIdeal.Held

@[expose] public section

set_option maxRecDepth 16384

noncomputable section

namespace Cert.KernelIdeal.Enc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.Pipeline (Dat Cfg Window BodyObligation cellOf)

variable {F : FTy → Type} [FloatOps F]

local notation "𝕄" => MT nD τ sig Unit (Elt F) ℕ (UR sig nD τ) ℕ

section
variable (arg2 : Memref sig .tc .vmem S1x6144x8 .f32) (harg2 : arg2.IsWhole)
variable (arg3 : Memref sig .tc .vmem S1x384x1 .i32) (harg3 : arg3.IsWhole)
variable (arg4 : Memref sig .tc .vmem S6x4 .f32) (harg4 : arg4.IsWhole)
variable (arg5 : Memref sig .tc .vmem S3x96 .f32) (harg5 : arg5.IsWhole)
variable (arg6 : Memref sig .tc .vmem S1x96 .f32) (harg6 : arg6.IsWhole)
variable (arg7 : Memref sig .tc .vmem S32x32 .f32) (harg7 : arg7.IsWhole)
variable (arg8 : Memref sig .tc .vmem S32x8 .f32) (harg8 : arg8.IsWhole)
variable (arg9 : Memref sig .tc .vmem S32x64 .f32) (harg9 : arg9.IsWhole)
variable (arg10 : Memref sig .tc .vmem S64x8 .f32) (harg10 : arg10.IsWhole)
variable (arg11 : Memref sig .tc .vmem S32x64 .f32) (harg11 : arg11.IsWhole)
variable (arg12 : Memref sig .tc .vmem S64x8 .f32) (harg12 : arg12.IsWhole)
variable (arg13 : Memref sig .tc .vmem S1x1x24 .f32) (harg13 : arg13.IsWhole)
variable (arg14 : Memref sig .tc .vmem S110592x128 .bf16) (harg14 : arg14.IsWhole)
variable (arg15 : Memref sig .tc .vmem S288x1 .f32) (harg15 : arg15.IsWhole)
variable (arg16 : Memref sig .tc .vmem S384x8 .f32) (harg16 : arg16.IsWhole)
variable (arg17 : Memref sig .tc .vmem S384x8 .f32) (harg17 : arg17.IsWhole)
variable (arg18 : Memref sig .tc .vmem S1x24 .f32) (harg18 : arg18.IsWhole)
variable (c : Dev nD) (i : grid0.Coords) (X : Ins F) (st : St F) (xi : Vec F S1x1x24 .f32)

-- the body's run is long
set_option maxHeartbeats 2000000 in
/-- A point of the first convolution after its first. -/
theorem run_conv0 (hc1 : ¬ k0_cond1 i = 1#1) (hc2 : ¬ Scalar.cmpi .ne (Scalar.extui (Scalar.cmpi .eq (BitVec.ofNat 32 (i 1).val) 18#32) : BitVec 32) 0#32 = 1#1) (hc3 : k0_cond3 i = 1#1) (hc4 : ¬ k0_cond4 i = 1#1) (hc5 : ¬ k0_cond5 i = 1#1) (hc6 : ¬ k0_cond6 i = 1#1) (k : Fin 18) (hi : (i 1).val = 18 + k.val) (E : Set ℕ) (K : PUnit → sProp 𝕄) :
    iprop(heldIns c arg2 arg3 arg4 arg5 arg6 arg7 arg8 arg9 arg10 arg11 arg12 X ∗ owns (c : Thread nD τ) arg13 fullShare xi ∗ heldSt c arg14 arg15 arg16 arg17 arg18 st
        ∗ (iprop(heldIns c arg2 arg3 arg4 arg5 arg6 arg7 arg8 arg9 arg10 arg11 arg12 X ∗ owns (c : Thread nD τ) arg13 fullShare xi ∗ heldSt c arg14 arg15 arg16 arg17 arg18 (stConv0 k X st)) -∗ K ⟨⟩))
      ⊢ wp frame (wpE (defs₀ (F := F)) Variants.none c none) E (cc0__encoder_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  have e7 : arg7.view.readAt (Elt F) (Rect.unit (s := S32x32) ![0, 0] S32x32.size inb_S32x32_S32x32_0_0).toLoadRect (harg7.unread X.x5) = X.x5 := (View.readAt_full _ _ _).trans (harg7.read_unread _)
  have e8 : arg8.view.readAt (Elt F) (Rect.unit (s := S32x8) ![0, 0] S32x8.size inb_S32x8_S32x8_0_0).toLoadRect (harg8.unread X.x6) = X.x6 := (View.readAt_full _ _ _).trans (harg8.read_unread _)
  have e16 : arg16.view.readAt (Elt F) (Rect.unit (s := S384x8) ![0, 0] S384x8.size inb_S384x8_S384x8_0_0).toLoadRect (harg16.unread st.fa) = st.fa := (View.readAt_full _ _ _).trans (harg16.read_unread _)
  have eh : arg14.view.readAt (Elt F) (Rect.unit (s := S110592x128) (k0_off3 i) S6144x32.size (k0_off3_inb i hc3)).toLoadRect (harg14.unread st.hm) = VecWindow.window st.hm ![6144 * k.val, 0] S6144x32.size (inbHm32 k 0 (by omega)) := by
    rw [View.readAt_unit arg14.view _ _ (off3_eq i k hi) (inbHm32 k 0 (by omega)), harg14.read_unread]
  have ei : arg15.view.readAt (Elt F) (Rect.unit (s := S288x1) (k0_off4 i) S16x1.size (k0_off4_inb i hc3)).toLoadRect (harg15.unread st.invn) = VecWindow.window st.invn ![16 * k.val, 0] S16x1.size (inbInv k) := by
    rw [View.readAt_unit arg15.view _ _ (off4_eq i k hi) (inbInv k), harg15.read_unread]
  have ep : arg18.view.readAt (Elt F) (Rect.unit (s := S1x24) ![0, 0] S1x8.size inb_S1x24_S1x8_0_0).toLoadRect (harg18.unread st.pool) = VecWindow.window st.pool ![0, 0] S1x8.size (inbPool 0 (by omega)) := by
    rw [View.readAt_unit arg18.view _ _ rfl (inbPool 0 (by omega)), harg18.read_unread]
  have ek : Scalar.subi (BitVec.ofNat 32 (i 1).val) 18#32 = BitVec.ofNat 32 k.val := by
    have := k.isLt
    rw [hi, subi_toNat _ 18 (by omega) (by omega), show 18 + k.val - 18 = k.val from by omega]
  simp only [cc0__encoder_body_eq_skeleton]; unfold cc0__encoder_body_skel
  simp only [k0_part3_eq_skeleton]
  unfold heldIns heldSt owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, ⟨%f11, %hf11, H11⟩, ⟨⟨%fs0, %hfs0, HS0⟩, ⟨%fs1, %hfs1, HS1⟩, ⟨%fs2, %hfs2, HS2⟩, ⟨%fs3, %hfs3, HS3⟩, ⟨%fs4, %hfs4, HS4⟩⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
  obtain rfl := harg14.eq_unread hfs0; obtain rfl := harg15.eq_unread hfs1; obtain rfl := harg16.eq_unread hfs2; obtain rfl := harg17.eq_unread hfs3; obtain rfl := harg18.eq_unread hfs4
  sl_exec (disch := first | sl_exact hc1 | sl_exact hc2 | sl_exact hc3 | sl_exact hc4 | sl_exact hc5 | sl_exact hc6)
  sl_step
  iapply Hk
  isplitl [H0 H1 H2 H3 H4 H5 H6 H7 H8 H9 H10]
  · isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    iexists _; isplitr; · ipureintro; exact harg12.read_unread _
    iexact H10
  isplitl [H11]
  · iexists _; isplitr; swap; · iexact H11
    ipureintro; exact harg13.read_unread _
  isplitl [HS0]
  · iexists _; isplitr; swap; · iexact HS0
    ipureintro; exact harg14.read_unread _
  isplitl [HS1]
  · iexists _; isplitr; swap; · iexact HS1
    ipureintro; exact harg15.read_unread _
  isplitl [HS2]
  · iexists _; isplitr; swap; · iexact HS2
    ipureintro; exact harg16.read_unread _
  isplitl [HS3]
  · iexists _; isplitr; swap; · iexact HS3
    ipureintro; sl_unfold_words; refine (View.read_writes_cons_put arg17.view _ _ _ _ (off5_eq i k hi)).trans ?_; rw [View.writes_nil, harg17.read_unread]; simp only [e7, e8, e16, eh, ei, ep, ek]; rfl
  iexists _; isplitr; swap; · iexact HS4
  ipureintro; sl_unfold_words; refine (View.read_writes_cons_put arg18.view _ _ _ _ (rfl)).trans ?_; rw [View.writes_nil, harg18.read_unread]; simp only [e7, e8, e16, eh, ei, ep, ek]; rfl

end

end Cert.KernelIdeal.Enc
-- ==== Proof.KernelIdeal.BodyConv1.lean ====
/- The encoder's body run at one kind of grid point: the second convolution. -/
module

public import proofs.«01_k».proof.Proof.KernelIdeal.Held

@[expose] public section

set_option maxRecDepth 16384

noncomputable section

namespace Cert.KernelIdeal.Enc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.Pipeline (Dat Cfg Window BodyObligation cellOf)

variable {F : FTy → Type} [FloatOps F]

local notation "𝕄" => MT nD τ sig Unit (Elt F) ℕ (UR sig nD τ) ℕ

section
variable (arg2 : Memref sig .tc .vmem S1x6144x8 .f32) (harg2 : arg2.IsWhole)
variable (arg3 : Memref sig .tc .vmem S1x384x1 .i32) (harg3 : arg3.IsWhole)
variable (arg4 : Memref sig .tc .vmem S6x4 .f32) (harg4 : arg4.IsWhole)
variable (arg5 : Memref sig .tc .vmem S3x96 .f32) (harg5 : arg5.IsWhole)
variable (arg6 : Memref sig .tc .vmem S1x96 .f32) (harg6 : arg6.IsWhole)
variable (arg7 : Memref sig .tc .vmem S32x32 .f32) (harg7 : arg7.IsWhole)
variable (arg8 : Memref sig .tc .vmem S32x8 .f32) (harg8 : arg8.IsWhole)
variable (arg9 : Memref sig .tc .vmem S32x64 .f32) (harg9 : arg9.IsWhole)
variable (arg10 : Memref sig .tc .vmem S64x8 .f32) (harg10 : arg10.IsWhole)
variable (arg11 : Memref sig .tc .vmem S32x64 .f32) (harg11 : arg11.IsWhole)
variable (arg12 : Memref sig .tc .vmem S64x8 .f32) (harg12 : arg12.IsWhole)
variable (arg13 : Memref sig .tc .vmem S1x1x24 .f32) (harg13 : arg13.IsWhole)
variable (arg14 : Memref sig .tc .vmem S110592x128 .bf16) (harg14 : arg14.IsWhole)
variable (arg15 : Memref sig .tc .vmem S288x1 .f32) (harg15 : arg15.IsWhole)
variable (arg16 : Memref sig .tc .vmem S384x8 .f32) (harg16 : arg16.IsWhole)
variable (arg17 : Memref sig .tc .vmem S384x8 .f32) (harg17 : arg17.IsWhole)
variable (arg18 : Memref sig .tc .vmem S1x24 .f32) (harg18 : arg18.IsWhole)
variable (c : Dev nD) (i : grid0.Coords) (X : Ins F) (st : St F) (xi : Vec F S1x1x24 .f32)

-- the body's run is long
set_option maxHeartbeats 2000000 in
/-- A point of the second convolution. -/
theorem run_conv1 (hc1 : ¬ k0_cond1 i = 1#1) (hc2 : ¬ Scalar.cmpi .ne (Scalar.extui (Scalar.cmpi .eq (BitVec.ofNat 32 (i 1).val) 18#32) : BitVec 32) 0#32 = 1#1) (hc3 : ¬ k0_cond3 i = 1#1) (hc4 : k0_cond4 i = 1#1) (hc5 : ¬ k0_cond5 i = 1#1) (hc6 : ¬ k0_cond6 i = 1#1) (k : Fin 18) (hi : (i 1).val = 36 + k.val) (E : Set ℕ) (K : PUnit → sProp 𝕄) :
    iprop(heldIns c arg2 arg3 arg4 arg5 arg6 arg7 arg8 arg9 arg10 arg11 arg12 X ∗ owns (c : Thread nD τ) arg13 fullShare xi ∗ heldSt c arg14 arg15 arg16 arg17 arg18 st
        ∗ (iprop(heldIns c arg2 arg3 arg4 arg5 arg6 arg7 arg8 arg9 arg10 arg11 arg12 X ∗ owns (c : Thread nD τ) arg13 fullShare xi ∗ heldSt c arg14 arg15 arg16 arg17 arg18 (stConv1 k X st)) -∗ K ⟨⟩))
      ⊢ wp frame (wpE (defs₀ (F := F)) Variants.none c none) E (cc0__encoder_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  have e9 : arg9.view.readAt (Elt F) (Rect.unit (s := S32x64) ![0, 0] S32x64.size inb_S32x64_S32x64_0_0).toLoadRect (harg9.unread X.x7) = X.x7 := (View.readAt_full _ _ _).trans (harg9.read_unread _)
  have e10 : arg10.view.readAt (Elt F) (Rect.unit (s := S64x8) ![0, 0] S64x8.size inb_S64x8_S64x8_0_0).toLoadRect (harg10.unread X.x8) = X.x8 := (View.readAt_full _ _ _).trans (harg10.read_unread _)
  have e17 : arg17.view.readAt (Elt F) (Rect.unit (s := S384x8) ![0, 0] S384x8.size inb_S384x8_S384x8_0_0).toLoadRect (harg17.unread st.fb) = st.fb := (View.readAt_full _ _ _).trans (harg17.read_unread _)
  have eh : arg14.view.readAt (Elt F) (Rect.unit (s := S110592x128) (k0_off6 i) S6144x32.size (k0_off6_inb i hc4)).toLoadRect (harg14.unread st.hm) = VecWindow.window st.hm ![6144 * k.val, 32] S6144x32.size (inbHm32 k 32 (by omega)) := by
    rw [View.readAt_unit arg14.view _ _ (off6_eq i k hi) (inbHm32 k 32 (by omega)), harg14.read_unread]
  have ei : arg15.view.readAt (Elt F) (Rect.unit (s := S288x1) (k0_off7 i) S16x1.size (k0_off7_inb i hc4)).toLoadRect (harg15.unread st.invn) = VecWindow.window st.invn ![16 * k.val, 0] S16x1.size (inbInv k) := by
    rw [View.readAt_unit arg15.view _ _ (off7_eq i k hi) (inbInv k), harg15.read_unread]
  have ep : arg18.view.readAt (Elt F) (Rect.unit (s := S1x24) ![0, 8] S1x8.size inb_S1x24_S1x8_0_8).toLoadRect (harg18.unread st.pool) = VecWindow.window st.pool ![0, 8] S1x8.size (inbPool 8 (by omega)) := by
    rw [View.readAt_unit arg18.view _ _ rfl (inbPool 8 (by omega)), harg18.read_unread]
  have ek : Scalar.subi (BitVec.ofNat 32 (i 1).val) 36#32 = BitVec.ofNat 32 k.val := by
    have := k.isLt
    rw [hi, subi_toNat _ 36 (by omega) (by omega), show 36 + k.val - 36 = k.val from by omega]
  simp only [cc0__encoder_body_eq_skeleton]; unfold cc0__encoder_body_skel
  simp only [k0_part4_eq_skeleton]
  unfold heldIns heldSt owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, ⟨%f11, %hf11, H11⟩, ⟨⟨%fs0, %hfs0, HS0⟩, ⟨%fs1, %hfs1, HS1⟩, ⟨%fs2, %hfs2, HS2⟩, ⟨%fs3, %hfs3, HS3⟩, ⟨%fs4, %hfs4, HS4⟩⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
  obtain rfl := harg14.eq_unread hfs0; obtain rfl := harg15.eq_unread hfs1; obtain rfl := harg16.eq_unread hfs2; obtain rfl := harg17.eq_unread hfs3; obtain rfl := harg18.eq_unread hfs4
  sl_exec (disch := first | sl_exact hc1 | sl_exact hc2 | sl_exact hc3 | sl_exact hc4 | sl_exact hc5 | sl_exact hc6)
  sl_step
  iapply Hk
  isplitl [H0 H1 H2 H3 H4 H5 H6 H7 H8 H9 H10]
  · isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    iexists _; isplitr; · ipureintro; exact harg12.read_unread _
    iexact H10
  isplitl [H11]
  · iexists _; isplitr; swap; · iexact H11
    ipureintro; exact harg13.read_unread _
  isplitl [HS0]
  · iexists _; isplitr; swap; · iexact HS0
    ipureintro; exact harg14.read_unread _
  isplitl [HS1]
  · iexists _; isplitr; swap; · iexact HS1
    ipureintro; exact harg15.read_unread _
  isplitl [HS2]
  · iexists _; isplitr; swap; · iexact HS2
    ipureintro; sl_unfold_words; refine (View.read_writes_cons_put arg16.view _ _ _ _ (off8_eq i k hi)).trans ?_; rw [View.writes_nil, harg16.read_unread]; simp only [e9, e10, e17, eh, ei, ep, ek]; rfl
  isplitl [HS3]
  · iexists _; isplitr; swap; · iexact HS3
    ipureintro; exact harg17.read_unread _
  iexists _; isplitr; swap; · iexact HS4
  ipureintro; sl_unfold_words; refine (View.read_writes_cons_put arg18.view _ _ _ _ (rfl)).trans ?_; rw [View.writes_nil, harg18.read_unread]; simp only [e9, e10, e17, eh, ei, ep, ek]; rfl

end

end Cert.KernelIdeal.Enc
-- ==== Proof.KernelIdeal.BodyConv2.lean ====
/- The encoder's body run at one kind of grid point: the third convolution. -/
module

public import proofs.«01_k».proof.Proof.KernelIdeal.Held

@[expose] public section

set_option maxRecDepth 16384

noncomputable section

namespace Cert.KernelIdeal.Enc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.Pipeline (Dat Cfg Window BodyObligation cellOf)

variable {F : FTy → Type} [FloatOps F]

local notation "𝕄" => MT nD τ sig Unit (Elt F) ℕ (UR sig nD τ) ℕ

section
variable (arg2 : Memref sig .tc .vmem S1x6144x8 .f32) (harg2 : arg2.IsWhole)
variable (arg3 : Memref sig .tc .vmem S1x384x1 .i32) (harg3 : arg3.IsWhole)
variable (arg4 : Memref sig .tc .vmem S6x4 .f32) (harg4 : arg4.IsWhole)
variable (arg5 : Memref sig .tc .vmem S3x96 .f32) (harg5 : arg5.IsWhole)
variable (arg6 : Memref sig .tc .vmem S1x96 .f32) (harg6 : arg6.IsWhole)
variable (arg7 : Memref sig .tc .vmem S32x32 .f32) (harg7 : arg7.IsWhole)
variable (arg8 : Memref sig .tc .vmem S32x8 .f32) (harg8 : arg8.IsWhole)
variable (arg9 : Memref sig .tc .vmem S32x64 .f32) (harg9 : arg9.IsWhole)
variable (arg10 : Memref sig .tc .vmem S64x8 .f32) (harg10 : arg10.IsWhole)
variable (arg11 : Memref sig .tc .vmem S32x64 .f32) (harg11 : arg11.IsWhole)
variable (arg12 : Memref sig .tc .vmem S64x8 .f32) (harg12 : arg12.IsWhole)
variable (arg13 : Memref sig .tc .vmem S1x1x24 .f32) (harg13 : arg13.IsWhole)
variable (arg14 : Memref sig .tc .vmem S110592x128 .bf16) (harg14 : arg14.IsWhole)
variable (arg15 : Memref sig .tc .vmem S288x1 .f32) (harg15 : arg15.IsWhole)
variable (arg16 : Memref sig .tc .vmem S384x8 .f32) (harg16 : arg16.IsWhole)
variable (arg17 : Memref sig .tc .vmem S384x8 .f32) (harg17 : arg17.IsWhole)
variable (arg18 : Memref sig .tc .vmem S1x24 .f32) (harg18 : arg18.IsWhole)
variable (c : Dev nD) (i : grid0.Coords) (X : Ins F) (st : St F) (xi : Vec F S1x1x24 .f32)

-- the body's run is long
set_option maxHeartbeats 2000000 in
/-- A point of the third convolution. -/
theorem run_conv2 (hc1 : ¬ k0_cond1 i = 1#1) (hc2 : ¬ Scalar.cmpi .ne (Scalar.extui (Scalar.cmpi .eq (BitVec.ofNat 32 (i 1).val) 18#32) : BitVec 32) 0#32 = 1#1) (hc3 : ¬ k0_cond3 i = 1#1) (hc4 : ¬ k0_cond4 i = 1#1) (hc5 : k0_cond5 i = 1#1) (hc6 : ¬ k0_cond6 i = 1#1) (k : Fin 18) (hi : (i 1).val = 54 + k.val) (E : Set ℕ) (K : PUnit → sProp 𝕄) :
    iprop(heldIns c arg2 arg3 arg4 arg5 arg6 arg7 arg8 arg9 arg10 arg11 arg12 X ∗ owns (c : Thread nD τ) arg13 fullShare xi ∗ heldSt c arg14 arg15 arg16 arg17 arg18 st
        ∗ (iprop(heldIns c arg2 arg3 arg4 arg5 arg6 arg7 arg8 arg9 arg10 arg11 arg12 X ∗ owns (c : Thread nD τ) arg13 fullShare xi ∗ heldSt c arg14 arg15 arg16 arg17 arg18 (stConv2 k X st)) -∗ K ⟨⟩))
      ⊢ wp frame (wpE (defs₀ (F := F)) Variants.none c none) E (cc0__encoder_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  have e11 : arg11.view.readAt (Elt F) (Rect.unit (s := S32x64) ![0, 0] S32x64.size inb_S32x64_S32x64_0_0).toLoadRect (harg11.unread X.x9) = X.x9 := (View.readAt_full _ _ _).trans (harg11.read_unread _)
  have e12 : arg12.view.readAt (Elt F) (Rect.unit (s := S64x8) ![0, 0] S64x8.size inb_S64x8_S64x8_0_0).toLoadRect (harg12.unread X.x10) = X.x10 := (View.readAt_full _ _ _).trans (harg12.read_unread _)
  have e16 : arg16.view.readAt (Elt F) (Rect.unit (s := S384x8) ![0, 0] S384x8.size inb_S384x8_S384x8_0_0).toLoadRect (harg16.unread st.fa) = st.fa := (View.readAt_full _ _ _).trans (harg16.read_unread _)
  have eh : arg14.view.readAt (Elt F) (Rect.unit (s := S110592x128) (k0_off9 i) S6144x32.size (k0_off9_inb i hc5)).toLoadRect (harg14.unread st.hm) = VecWindow.window st.hm ![6144 * k.val, 64] S6144x32.size (inbHm32 k 64 (by omega)) := by
    rw [View.readAt_unit arg14.view _ _ (off9_eq i k hi) (inbHm32 k 64 (by omega)), harg14.read_unread]
  have ei : arg15.view.readAt (Elt F) (Rect.unit (s := S288x1) (k0_off10 i) S16x1.size (k0_off10_inb i hc5)).toLoadRect (harg15.unread st.invn) = VecWindow.window st.invn ![16 * k.val, 0] S16x1.size (inbInv k) := by
    rw [View.readAt_unit arg15.view _ _ (off10_eq i k hi) (inbInv k), harg15.read_unread]
  have ep : arg18.view.readAt (Elt F) (Rect.unit (s := S1x24) ![0, 16] S1x8.size inb_S1x24_S1x8_0_16).toLoadRect (harg18.unread st.pool) = VecWindow.window st.pool ![0, 16] S1x8.size (inbPool 16 (by omega)) := by
    rw [View.readAt_unit arg18.view _ _ rfl (inbPool 16 (by omega)), harg18.read_unread]
  have ek : Scalar.subi (BitVec.ofNat 32 (i 1).val) 54#32 = BitVec.ofNat 32 k.val := by
    have := k.isLt
    rw [hi, subi_toNat _ 54 (by omega) (by omega), show 54 + k.val - 54 = k.val from by omega]
  simp only [cc0__encoder_body_eq_skeleton]; unfold cc0__encoder_body_skel
  simp only [k0_part5_eq_skeleton]
  unfold heldIns heldSt owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, ⟨%f11, %hf11, H11⟩, ⟨⟨%fs0, %hfs0, HS0⟩, ⟨%fs1, %hfs1, HS1⟩, ⟨%fs2, %hfs2, HS2⟩, ⟨%fs3, %hfs3, HS3⟩, ⟨%fs4, %hfs4, HS4⟩⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
  obtain rfl := harg14.eq_unread hfs0; obtain rfl := harg15.eq_unread hfs1; obtain rfl := harg16.eq_unread hfs2; obtain rfl := harg17.eq_unread hfs3; obtain rfl := harg18.eq_unread hfs4
  sl_exec (disch := first | sl_exact hc1 | sl_exact hc2 | sl_exact hc3 | sl_exact hc4 | sl_exact hc5 | sl_exact hc6)
  sl_step
  iapply Hk
  isplitl [H0 H1 H2 H3 H4 H5 H6 H7 H8 H9 H10]
  · isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    iexists _; isplitr; · ipureintro; exact harg12.read_unread _
    iexact H10
  isplitl [H11]
  · iexists _; isplitr; swap; · iexact H11
    ipureintro; exact harg13.read_unread _
  isplitl [HS0]
  · iexists _; isplitr; swap; · iexact HS0
    ipureintro; exact harg14.read_unread _
  isplitl [HS1]
  · iexists _; isplitr; swap; · iexact HS1
    ipureintro; exact harg15.read_unread _
  isplitl [HS2]
  · iexists _; isplitr; swap; · iexact HS2
    ipureintro; exact harg16.read_unread _
  isplitl [HS3]
  · iexists _; isplitr; swap; · iexact HS3
    ipureintro; exact harg17.read_unread _
  iexists _; isplitr; swap; · iexact HS4
  ipureintro; sl_unfold_words; refine (View.read_writes_cons_put arg18.view _ _ _ _ (rfl)).trans ?_; rw [View.writes_nil, harg18.read_unread]; simp only [e11, e12, e16, eh, ei, ep, ek]; rfl

end

end Cert.KernelIdeal.Enc
-- ==== Proof.KernelIdeal.BodyEmit.lean ====
/- The encoder's body run at one kind of grid point: a batch's last. -/
module

public import proofs.«01_k».proof.Proof.KernelIdeal.Held

@[expose] public section

set_option maxRecDepth 16384

noncomputable section

namespace Cert.KernelIdeal.Enc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.Pipeline (Dat Cfg Window BodyObligation cellOf)

variable {F : FTy → Type} [FloatOps F]

local notation "𝕄" => MT nD τ sig Unit (Elt F) ℕ (UR sig nD τ) ℕ

section
variable (arg2 : Memref sig .tc .vmem S1x6144x8 .f32) (harg2 : arg2.IsWhole)
variable (arg3 : Memref sig .tc .vmem S1x384x1 .i32) (harg3 : arg3.IsWhole)
variable (arg4 : Memref sig .tc .vmem S6x4 .f32) (harg4 : arg4.IsWhole)
variable (arg5 : Memref sig .tc .vmem S3x96 .f32) (harg5 : arg5.IsWhole)
variable (arg6 : Memref sig .tc .vmem S1x96 .f32) (harg6 : arg6.IsWhole)
variable (arg7 : Memref sig .tc .vmem S32x32 .f32) (harg7 : arg7.IsWhole)
variable (arg8 : Memref sig .tc .vmem S32x8 .f32) (harg8 : arg8.IsWhole)
variable (arg9 : Memref sig .tc .vmem S32x64 .f32) (harg9 : arg9.IsWhole)
variable (arg10 : Memref sig .tc .vmem S64x8 .f32) (harg10 : arg10.IsWhole)
variable (arg11 : Memref sig .tc .vmem S32x64 .f32) (harg11 : arg11.IsWhole)
variable (arg12 : Memref sig .tc .vmem S64x8 .f32) (harg12 : arg12.IsWhole)
variable (arg13 : Memref sig .tc .vmem S1x1x24 .f32) (harg13 : arg13.IsWhole)
variable (arg14 : Memref sig .tc .vmem S110592x128 .bf16) (harg14 : arg14.IsWhole)
variable (arg15 : Memref sig .tc .vmem S288x1 .f32) (harg15 : arg15.IsWhole)
variable (arg16 : Memref sig .tc .vmem S384x8 .f32) (harg16 : arg16.IsWhole)
variable (arg17 : Memref sig .tc .vmem S384x8 .f32) (harg17 : arg17.IsWhole)
variable (arg18 : Memref sig .tc .vmem S1x24 .f32) (harg18 : arg18.IsWhole)
variable (c : Dev nD) (i : grid0.Coords) (X : Ins F) (st : St F) (xi : Vec F S1x1x24 .f32)

-- the body's run is long
set_option maxHeartbeats 2000000 in
/-- A batch's last point: the pool goes to the output's buffer. -/
theorem run_emit (hc1 : ¬ k0_cond1 i = 1#1) (hc2 : ¬ Scalar.cmpi .ne (Scalar.extui (Scalar.cmpi .eq (BitVec.ofNat 32 (i 1).val) 18#32) : BitVec 32) 0#32 = 1#1) (hc3 : ¬ k0_cond3 i = 1#1) (hc4 : ¬ k0_cond4 i = 1#1) (hc5 : ¬ k0_cond5 i = 1#1) (hc6 : k0_cond6 i = 1#1)  (E : Set ℕ) (K : PUnit → sProp 𝕄) :
    iprop(heldIns c arg2 arg3 arg4 arg5 arg6 arg7 arg8 arg9 arg10 arg11 arg12 X ∗ owns (c : Thread nD τ) arg13 fullShare xi ∗ heldSt c arg14 arg15 arg16 arg17 arg18 st
        ∗ (iprop(heldIns c arg2 arg3 arg4 arg5 arg6 arg7 arg8 arg9 arg10 arg11 arg12 X ∗ owns (c : Thread nD τ) arg13 fullShare (k0_pay9 st.pool) ∗ heldSt c arg14 arg15 arg16 arg17 arg18 (st)) -∗ K ⟨⟩))
      ⊢ wp frame (wpE (defs₀ (F := F)) Variants.none c none) E (cc0__encoder_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  have e18 : arg18.view.readAt (Elt F) (Rect.unit (s := S1x24) ![0, 0] S1x24.size inb_S1x24_S1x24_0_0).toLoadRect (harg18.unread st.pool) = st.pool := (View.readAt_full _ _ _).trans (harg18.read_unread _)
  simp only [cc0__encoder_body_eq_skeleton]; unfold cc0__encoder_body_skel
  unfold heldIns heldSt owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, ⟨%f11, %hf11, H11⟩, ⟨⟨%fs0, %hfs0, HS0⟩, ⟨%fs1, %hfs1, HS1⟩, ⟨%fs2, %hfs2, HS2⟩, ⟨%fs3, %hfs3, HS3⟩, ⟨%fs4, %hfs4, HS4⟩⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
  obtain rfl := harg14.eq_unread hfs0; obtain rfl := harg15.eq_unread hfs1; obtain rfl := harg16.eq_unread hfs2; obtain rfl := harg17.eq_unread hfs3; obtain rfl := harg18.eq_unread hfs4
  sl_exec (disch := first | sl_exact hc1 | sl_exact hc2 | sl_exact hc3 | sl_exact hc4 | sl_exact hc5 | sl_exact hc6)
  sl_step
  iapply Hk
  isplitl [H0 H1 H2 H3 H4 H5 H6 H7 H8 H9 H10]
  · isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    iexists _; isplitr; · ipureintro; exact harg12.read_unread _
    iexact H10
  isplitl [H11]
  · iexists _; isplitr; swap; · iexact H11
    ipureintro; sl_unfold_words; rw [View.read_writes_full]
  isplitl [HS0]
  · iexists _; isplitr; swap; · iexact HS0
    ipureintro; exact harg14.read_unread _
  isplitl [HS1]
  · iexists _; isplitr; swap; · iexact HS1
    ipureintro; exact harg15.read_unread _
  isplitl [HS2]
  · iexists _; isplitr; swap; · iexact HS2
    ipureintro; exact harg16.read_unread _
  isplitl [HS3]
  · iexists _; isplitr; swap; · iexact HS3
    ipureintro; exact harg17.read_unread _
  iexists _; isplitr; swap; · iexact HS4
  ipureintro; exact harg18.read_unread _

end

end Cert.KernelIdeal.Enc
-- ==== Proof.KernelIdeal.BodyAll.lean ====
/- The encoder's body at any grid point: one step of `stStep`. -/
module

public import proofs.«01_k».proof.Proof.KernelIdeal.BodyBuild
public import proofs.«01_k».proof.Proof.KernelIdeal.BodyInit
public import proofs.«01_k».proof.Proof.KernelIdeal.BodyConv0
public import proofs.«01_k».proof.Proof.KernelIdeal.BodyConv1
public import proofs.«01_k».proof.Proof.KernelIdeal.BodyConv2
public import proofs.«01_k».proof.Proof.KernelIdeal.BodyEmit

@[expose] public section

set_option maxRecDepth 16384

noncomputable section

namespace Cert.KernelIdeal.Enc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.Pipeline (Dat Cfg Window BodyObligation cellOf)

variable {F : FTy → Type} [FloatOps F]

local notation "𝕄" => MT nD τ sig Unit (Elt F) ℕ (UR sig nD τ) ℕ

section
variable (arg2 : Memref sig .tc .vmem S1x6144x8 .f32) (harg2 : arg2.IsWhole)
variable (arg3 : Memref sig .tc .vmem S1x384x1 .i32) (harg3 : arg3.IsWhole)
variable (arg4 : Memref sig .tc .vmem S6x4 .f32) (harg4 : arg4.IsWhole)
variable (arg5 : Memref sig .tc .vmem S3x96 .f32) (harg5 : arg5.IsWhole)
variable (arg6 : Memref sig .tc .vmem S1x96 .f32) (harg6 : arg6.IsWhole)
variable (arg7 : Memref sig .tc .vmem S32x32 .f32) (harg7 : arg7.IsWhole)
variable (arg8 : Memref sig .tc .vmem S32x8 .f32) (harg8 : arg8.IsWhole)
variable (arg9 : Memref sig .tc .vmem S32x64 .f32) (harg9 : arg9.IsWhole)
variable (arg10 : Memref sig .tc .vmem S64x8 .f32) (harg10 : arg10.IsWhole)
variable (arg11 : Memref sig .tc .vmem S32x64 .f32) (harg11 : arg11.IsWhole)
variable (arg12 : Memref sig .tc .vmem S64x8 .f32) (harg12 : arg12.IsWhole)
variable (arg13 : Memref sig .tc .vmem S1x1x24 .f32) (harg13 : arg13.IsWhole)
variable (arg14 : Memref sig .tc .vmem S110592x128 .bf16) (harg14 : arg14.IsWhole)
variable (arg15 : Memref sig .tc .vmem S288x1 .f32) (harg15 : arg15.IsWhole)
variable (arg16 : Memref sig .tc .vmem S384x8 .f32) (harg16 : arg16.IsWhole)
variable (arg17 : Memref sig .tc .vmem S384x8 .f32) (harg17 : arg17.IsWhole)
variable (arg18 : Memref sig .tc .vmem S1x24 .f32) (harg18 : arg18.IsWhole)
variable (c : Dev nD) (t : Fin cfg0.N) (X : Ins F) (st : St F) (xi : Vec F S1x1x24 .f32)

/-- The body at point `t`: the scratch takes the step of the point's place in its batch; the output's buffer takes the pool at a batch's last point. -/
theorem run_point (E : Set ℕ) (K : PUnit → sProp 𝕄) :
    iprop(heldIns c arg2 arg3 arg4 arg5 arg6 arg7 arg8 arg9 arg10 arg11 arg12 X ∗ owns (c : Thread nD τ) arg13 fullShare xi ∗ heldSt c arg14 arg15 arg16 arg17 arg18 st
        ∗ (iprop(heldIns c arg2 arg3 arg4 arg5 arg6 arg7 arg8 arg9 arg10 arg11 arg12 X ∗ owns (c : Thread nD τ) arg13 fullShare (if t.val % 73 = 72 then k0_pay9 st.pool else xi) ∗ heldSt c arg14 arg15 arg16 arg17 arg18 (stStep (t.val % 73) X st)) -∗ K ⟨⟩))
      ⊢ wp frame (wpE (defs₀ (F := F)) Variants.none c none) E (cc0__encoder_body (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  have hm : t.val % 73 < 73 := Nat.mod_lt _ (by omega)
  have hi := coord1 t
  have c1 := cond1_iff t; have c2 := cond2_iff t; have c3 := cond3_iff t; have c4 := cond4_iff t; have c5 := cond5_iff t; have c6 := cond6_iff t
  by_cases h : t.val % 73 < 18
  · rw [stStep, dif_pos h, if_neg (by omega)]
    exact run_build arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 c (grid0.coords t) X st xi (c1.mpr (by omega)) (fun h => by have := c2.mp h; omega) (fun h => by have := c3.mp h; omega) (fun h => by have := c4.mp h; omega) (fun h => by have := c5.mp h; omega) (fun h => by have := c6.mp h; omega) ⟨t.val % 73, h⟩ hi E K
  have g0 := h; clear h
  by_cases h : t.val % 73 = 18
  · rw [stStep, dif_neg (by omega), dif_pos h, if_neg (by omega)]
    exact run_init arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 c (grid0.coords t) X st xi (fun h => by have := c1.mp h; omega) (c2.mpr (by omega)) (c3.mpr (by omega)) (fun h => by have := c4.mp h; omega) (fun h => by have := c5.mp h; omega) (fun h => by have := c6.mp h; omega) (by rw [hi, h]) E K
  have g1 := h; clear h
  by_cases h : t.val % 73 < 36
  · rw [stStep, dif_neg (by omega), dif_neg (by omega), dif_pos h, if_neg (by omega)]
    exact run_conv0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 c (grid0.coords t) X st xi (fun h => by have := c1.mp h; omega) (fun h => by have := c2.mp h; omega) (c3.mpr (by omega)) (fun h => by have := c4.mp h; omega) (fun h => by have := c5.mp h; omega) (fun h => by have := c6.mp h; omega) ⟨t.val % 73 - 18, by omega⟩ (hi.trans (show t.val % 73 = 18 + (t.val % 73 - 18) by omega)) E K
  have g2 := h; clear h
  by_cases h : t.val % 73 < 54
  · rw [stStep, dif_neg (by omega), dif_neg (by omega), dif_neg (by omega), dif_pos h, if_neg (by omega)]
    exact run_conv1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 c (grid0.coords t) X st xi (fun h => by have := c1.mp h; omega) (fun h => by have := c2.mp h; omega) (fun h => by have := c3.mp h; omega) (c4.mpr (by omega)) (fun h => by have := c5.mp h; omega) (fun h => by have := c6.mp h; omega) ⟨t.val % 73 - 36, by omega⟩ (hi.trans (show t.val % 73 = 36 + (t.val % 73 - 36) by omega)) E K
  have g3 := h; clear h
  by_cases h : t.val % 73 < 72
  · rw [stStep, dif_neg (by omega), dif_neg (by omega), dif_neg (by omega), dif_neg (by omega), dif_pos h, if_neg (by omega)]
    exact run_conv2 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 c (grid0.coords t) X st xi (fun h => by have := c1.mp h; omega) (fun h => by have := c2.mp h; omega) (fun h => by have := c3.mp h; omega) (fun h => by have := c4.mp h; omega) (c5.mpr (by omega)) (fun h => by have := c6.mp h; omega) ⟨t.val % 73 - 54, by omega⟩ (hi.trans (show t.val % 73 = 54 + (t.val % 73 - 54) by omega)) E K
  have g4 := h; clear h
  rw [stStep, dif_neg (by omega), dif_neg (by omega), dif_neg (by omega), dif_neg (by omega), dif_neg (by omega), if_pos (by omega)]
  exact run_emit arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 c (grid0.coords t) X st xi (fun h => by have := c1.mp h; omega) (fun h => by have := c2.mp h; omega) (fun h => by have := c3.mp h; omega) (fun h => by have := c4.mp h; omega) (fun h => by have := c5.mp h; omega) (c6.mpr (by omega)) E K
end

end Cert.KernelIdeal.Enc
-- ==== Proof.KernelIdeal.Dat0.lean ====
/- The encoder's pipeline over the whole grid: its blocks, its scratch's invariant (the batch so far run from some scratch state), its pooled rows, and the body's obligation at every point. -/
module

public import proofs.«01_k».proof.Proof.KernelIdeal.Traj
public import proofs.«01_k».proof.Proof.KernelIdeal.BodyAll
public import proofs.«01_k».proof.Proof.Gen.KernelIdeal.Launch
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic

@[expose] public section

set_option maxRecDepth 16384

noncomputable section

namespace Cert.KernelIdeal.Enc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.Pipeline (Dat Cfg Window BodyObligation cellOf)

variable {F : FTy → Type} [FloatOps F]

local notation "𝕄" => MT nD τ sig Unit (Elt F) ℕ (UR sig nD τ) ℕ

-- the buffers' contents where the region is entered
variable (V : (c : Dev nD) → (b : Ref sig .tc) → Buf (Elt F) ((c : Thread nD τ).loc b))

/-- Window `w`'s block at point `t`, of its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 finds its own block at every point, in any proof data that leaves the blocks alone. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1 finds its own block at every point, in any proof data that leaves the blocks alone. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2 finds its own block at every point, in any proof data that leaves the blocks alone. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3 finds its own block at every point, in any proof data that leaves the blocks alone. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4 finds its own block at every point, in any proof data that leaves the blocks alone. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5 finds its own block at every point, in any proof data that leaves the blocks alone. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6 finds its own block at every point, in any proof data that leaves the blocks alone. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
/-- Input window 7 finds its own block at every point, in any proof data that leaves the blocks alone. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
/-- Input window 8 finds its own block at every point, in any proof data that leaves the blocks alone. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
/-- Input window 9 finds its own block at every point, in any proof data that leaves the blocks alone. -/
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)
/-- Input window 10 finds its own block at every point, in any proof data that leaves the blocks alone. -/
theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)
/-- Input window 0 is live at every point. -/
theorem liveAt0_0 : ∀ t : Fin cfg0.N, cfg0.idle 0 (grid0.coords t) = false := fun _ => rfl
/-- Input window 1 is live at every point. -/
theorem liveAt0_1 : ∀ t : Fin cfg0.N, cfg0.idle 1 (grid0.coords t) = false := fun _ => rfl
/-- Input window 2 is live at every point. -/
theorem liveAt0_2 : ∀ t : Fin cfg0.N, cfg0.idle 2 (grid0.coords t) = false := fun _ => rfl
/-- Input window 3 is live at every point. -/
theorem liveAt0_3 : ∀ t : Fin cfg0.N, cfg0.idle 3 (grid0.coords t) = false := fun _ => rfl
/-- Input window 4 is live at every point. -/
theorem liveAt0_4 : ∀ t : Fin cfg0.N, cfg0.idle 4 (grid0.coords t) = false := fun _ => rfl
/-- Input window 5 is live at every point. -/
theorem liveAt0_5 : ∀ t : Fin cfg0.N, cfg0.idle 5 (grid0.coords t) = false := fun _ => rfl
/-- Input window 6 is live at every point. -/
theorem liveAt0_6 : ∀ t : Fin cfg0.N, cfg0.idle 6 (grid0.coords t) = false := fun _ => rfl
/-- Input window 7 is live at every point. -/
theorem liveAt0_7 : ∀ t : Fin cfg0.N, cfg0.idle 7 (grid0.coords t) = false := fun _ => rfl
/-- Input window 8 is live at every point. -/
theorem liveAt0_8 : ∀ t : Fin cfg0.N, cfg0.idle 8 (grid0.coords t) = false := fun _ => rfl
/-- Input window 9 is live at every point. -/
theorem liveAt0_9 : ∀ t : Fin cfg0.N, cfg0.idle 9 (grid0.coords t) = false := fun _ => rfl
/-- Input window 10 is live at every point. -/
theorem liveAt0_10 : ∀ t : Fin cfg0.N, cfg0.idle 10 (grid0.coords t) = false := fun _ => rfl
/-- Away from a batch's last point the output's window is idle and not written back; there it is live. -/
theorem idleAt0_11 : ∀ t : Fin cfg0.N, ¬ k0_cond6 (grid0.coords t) = 1#1 → cfg0.idle 11 (grid0.coords t) = true := by decide +kernel
/-- Before a batch's last point the output window is not written back. -/
theorem noFlush0_11 : ∀ t : Fin cfg0.N, ¬ k0_cond6 (grid0.coords t) = 1#1 → (cfg0.win 11).flush t = false := by decide +kernel
/-- At a batch's last point the output window is live. -/
theorem liveAt0_11 : ∀ t : Fin cfg0.N, k0_cond6 (grid0.coords t) = 1#1 → cfg0.idle 11 (grid0.coords t) = false := by decide +kernel

/-! The windows' staging memrefs at a point, and the scratch. -/
abbrev ms0_0 (t : Fin cfg0.N) : Memref sig .tc .vmem S1x6144x8 .f32 := win0_0.stage (cfg0.slots t 0)
/-- That staging buffer is a whole buffer. -/
abbrev hs0_0 (t : Fin cfg0.N) : (ms0_0 t).IsWhole := hstage0_0 ((cfg0.slots t 0).cast nbuf0_0)
/-- Window 1's staging buffer at a point. -/
abbrev ms0_1 (t : Fin cfg0.N) : Memref sig .tc .vmem S1x384x1 .i32 := win0_1.stage (cfg0.slots t 1)
/-- That staging buffer is a whole buffer. -/
abbrev hs0_1 (t : Fin cfg0.N) : (ms0_1 t).IsWhole := hstage0_1 ((cfg0.slots t 1).cast nbuf0_1)
/-- Window 2's staging buffer at a point. -/
abbrev ms0_2 (t : Fin cfg0.N) : Memref sig .tc .vmem S6x4 .f32 := win0_2.stage (cfg0.slots t 2)
/-- That staging buffer is a whole buffer. -/
abbrev hs0_2 (t : Fin cfg0.N) : (ms0_2 t).IsWhole := hstage0_2 ((cfg0.slots t 2).cast nbuf0_2)
/-- Window 3's staging buffer at a point. -/
abbrev ms0_3 (t : Fin cfg0.N) : Memref sig .tc .vmem S3x96 .f32 := win0_3.stage (cfg0.slots t 3)
/-- That staging buffer is a whole buffer. -/
abbrev hs0_3 (t : Fin cfg0.N) : (ms0_3 t).IsWhole := hstage0_3 ((cfg0.slots t 3).cast nbuf0_3)
/-- Window 4's staging buffer at a point. -/
abbrev ms0_4 (t : Fin cfg0.N) : Memref sig .tc .vmem S1x96 .f32 := win0_4.stage (cfg0.slots t 4)
/-- That staging buffer is a whole buffer. -/
abbrev hs0_4 (t : Fin cfg0.N) : (ms0_4 t).IsWhole := hstage0_4 ((cfg0.slots t 4).cast nbuf0_4)
/-- Window 5's staging buffer at a point. -/
abbrev ms0_5 (t : Fin cfg0.N) : Memref sig .tc .vmem S32x32 .f32 := win0_5.stage (cfg0.slots t 5)
/-- That staging buffer is a whole buffer. -/
abbrev hs0_5 (t : Fin cfg0.N) : (ms0_5 t).IsWhole := hstage0_5 ((cfg0.slots t 5).cast nbuf0_5)
/-- Window 6's staging buffer at a point. -/
abbrev ms0_6 (t : Fin cfg0.N) : Memref sig .tc .vmem S32x8 .f32 := win0_6.stage (cfg0.slots t 6)
/-- That staging buffer is a whole buffer. -/
abbrev hs0_6 (t : Fin cfg0.N) : (ms0_6 t).IsWhole := hstage0_6 ((cfg0.slots t 6).cast nbuf0_6)
/-- Window 7's staging buffer at a point. -/
abbrev ms0_7 (t : Fin cfg0.N) : Memref sig .tc .vmem S32x64 .f32 := win0_7.stage (cfg0.slots t 7)
/-- That staging buffer is a whole buffer. -/
abbrev hs0_7 (t : Fin cfg0.N) : (ms0_7 t).IsWhole := hstage0_7 ((cfg0.slots t 7).cast nbuf0_7)
/-- Window 8's staging buffer at a point. -/
abbrev ms0_8 (t : Fin cfg0.N) : Memref sig .tc .vmem S64x8 .f32 := win0_8.stage (cfg0.slots t 8)
/-- That staging buffer is a whole buffer. -/
abbrev hs0_8 (t : Fin cfg0.N) : (ms0_8 t).IsWhole := hstage0_8 ((cfg0.slots t 8).cast nbuf0_8)
/-- Window 9's staging buffer at a point. -/
abbrev ms0_9 (t : Fin cfg0.N) : Memref sig .tc .vmem S32x64 .f32 := win0_9.stage (cfg0.slots t 9)
/-- That staging buffer is a whole buffer. -/
abbrev hs0_9 (t : Fin cfg0.N) : (ms0_9 t).IsWhole := hstage0_9 ((cfg0.slots t 9).cast nbuf0_9)
/-- Window 10's staging buffer at a point. -/
abbrev ms0_10 (t : Fin cfg0.N) : Memref sig .tc .vmem S64x8 .f32 := win0_10.stage (cfg0.slots t 10)
/-- That staging buffer is a whole buffer. -/
abbrev hs0_10 (t : Fin cfg0.N) : (ms0_10 t).IsWhole := hstage0_10 ((cfg0.slots t 10).cast nbuf0_10)
/-- Window 11's staging buffer at a point. -/
abbrev ms0_11 (t : Fin cfg0.N) : Memref sig .tc .vmem S1x1x24 .f32 := win0_11.stage (cfg0.slots t 11)
/-- That staging buffer is a whole buffer. -/
abbrev hs0_11 (t : Fin cfg0.N) : (ms0_11 t).IsWhole := hstage0_11 ((cfg0.slots t 11).cast nbuf0_11)
/-- Scratch buffer 0, whole. -/
abbrev scM0_0 : Memref sig .tc .vmem S110592x128 .bf16 := Memref.whole cc0_scratch0
/-- Scratch buffer 1, whole. -/
abbrev scM0_1 : Memref sig .tc .vmem S288x1 .f32 := Memref.whole cc0_scratch1
/-- Scratch buffer 2, whole. -/
abbrev scM0_2 : Memref sig .tc .vmem S384x8 .f32 := Memref.whole cc0_scratch2
/-- Scratch buffer 3, whole. -/
abbrev scM0_3 : Memref sig .tc .vmem S384x8 .f32 := Memref.whole cc0_scratch3
/-- Scratch buffer 4, whole. -/
abbrev scM0_4 : Memref sig .tc .vmem S1x24 .f32 := Memref.whole cc0_scratch4

/-- The head's staging buffers, at any contents. -/
def restR (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg9_0), ((c : Thread nD τ).loc cc1_stg9_0) ↦{fullShare} f))

/-- The scoped rest is the scratch at some contents beside the head's staging buffers. -/
theorem PhiA0_eq (c : Dev nD) :
    (Pipeline.ΦA spec0 c : sProp 𝕄) = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ restR c) ∗ (∃ r, prngReg c r)) := by
  unfold Pipeline.ΦA restR; rw [scopedRest0_eq]; simp only [scM0_0, scM0_1, scM0_2, scM0_3, scM0_4, owns_whole]; try rfl

/-- Point number `n`, counted past the grid's end modulo its size. -/
def ptOf (n : ℕ) : Fin cfg0.N := ⟨n % 584, lt_of_lt_of_eq (Nat.mod_lt _ (by omega)) N_0.symm⟩
/-- Within the grid, point number `n` is point `n`. -/
theorem ptOf_val (t : Fin cfg0.N) : ptOf t.val = t :=
  Fin.ext (Nat.mod_eq_of_lt (lt_of_lt_of_eq t.isLt N_0))

/-- The input blocks at point `t`. -/
def insAt (c : Dev nD) (t : Fin cfg0.N) : Ins F :=
  { x0 := iblk0 V c 0 t, x1 := iblk0 V c 1 t, x2 := iblk0 V c 2 t, x3 := iblk0 V c 3 t, x4 := iblk0 V c 4 t, x5 := iblk0 V c 5 t, x6 := iblk0 V c 6 t, x7 := iblk0 V c 7 t, x8 := iblk0 V c 8 t, x9 := iblk0 V c 9 t, x10 := iblk0 V c 10 t }
/-- The input blocks of batch `b`, point by point. -/
def insBat (c : Dev nD) (b : ℕ) : ℕ → Ins F := fun s => insAt V c (ptOf (73 * b + s))
/-- A point's blocks, counted from its batch's first point. -/
theorem insBat_at (c : Dev nD) (t : Fin cfg0.N) : insBat V c (t.val / 73) (t.val % 73) = insAt V c t := by
  unfold insBat; rw [Nat.div_add_mod, ptOf_val]

/-- The scratch's invariant before point number `n`: the batch's points so far, from some state. -/
def PhiS (c : Dev nD) (n : ℕ) : sProp 𝕄 :=
  iprop(iprop((∃ st₀ : St F, heldSt c scM0_0 scM0_1 scM0_2 scM0_3 scM0_4 (stRun (insBat V c (n / 73)) st₀ (n % 73))) ∗ restR c) ∗ (∃ r, prngReg c r))

/-- The pipeline's proof data: every input block left in place, the output's the batch's pooled row. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => outRow (insBat V c (t.val / 73))
  Φ t := PhiS V c t.val
  q _ := fullShare
  owed _ := 0

/-- The proof data's arrays are those the region finds. -/
theorem A_eq0 (c : Dev nD) (w : Fin cfg0.W) : (dat0 V c).A w = V c (Pipeline.arrRef spec0 w) := by
  dsimp only [dat0]
/-- Input window 0 is left as its block. -/
theorem after0_0 (c : Dev nD) (t : Fin cfg0.N) : (dat0 V c).after 0 t = iblk0 V c 0 t := by dsimp only [dat0]
/-- Input window 1 is left as its block. -/
theorem after0_1 (c : Dev nD) (t : Fin cfg0.N) : (dat0 V c).after 1 t = iblk0 V c 1 t := by dsimp only [dat0]
/-- Input window 2 is left as its block. -/
theorem after0_2 (c : Dev nD) (t : Fin cfg0.N) : (dat0 V c).after 2 t = iblk0 V c 2 t := by dsimp only [dat0]
/-- Input window 3 is left as its block. -/
theorem after0_3 (c : Dev nD) (t : Fin cfg0.N) : (dat0 V c).after 3 t = iblk0 V c 3 t := by dsimp only [dat0]
/-- Input window 4 is left as its block. -/
theorem after0_4 (c : Dev nD) (t : Fin cfg0.N) : (dat0 V c).after 4 t = iblk0 V c 4 t := by dsimp only [dat0]
/-- Input window 5 is left as its block. -/
theorem after0_5 (c : Dev nD) (t : Fin cfg0.N) : (dat0 V c).after 5 t = iblk0 V c 5 t := by dsimp only [dat0]
/-- Input window 6 is left as its block. -/
theorem after0_6 (c : Dev nD) (t : Fin cfg0.N) : (dat0 V c).after 6 t = iblk0 V c 6 t := by dsimp only [dat0]
/-- Input window 7 is left as its block. -/
theorem after0_7 (c : Dev nD) (t : Fin cfg0.N) : (dat0 V c).after 7 t = iblk0 V c 7 t := by dsimp only [dat0]
/-- Input window 8 is left as its block. -/
theorem after0_8 (c : Dev nD) (t : Fin cfg0.N) : (dat0 V c).after 8 t = iblk0 V c 8 t := by dsimp only [dat0]
/-- Input window 9 is left as its block. -/
theorem after0_9 (c : Dev nD) (t : Fin cfg0.N) : (dat0 V c).after 9 t = iblk0 V c 9 t := by dsimp only [dat0]
/-- Input window 10 is left as its block. -/
theorem after0_10 (c : Dev nD) (t : Fin cfg0.N) : (dat0 V c).after 10 t = iblk0 V c 10 t := by dsimp only [dat0]
/-- The output window holds its batch's finished row. -/
theorem after0_11 (c : Dev nD) (t : Fin cfg0.N) : (dat0 V c).after 11 t = outRow (insBat V c (t.val / 73)) := by dsimp only [dat0]
/-- Input window 0 finds its own block at every point. -/
theorem before0_0 (c : Dev nD) (t : Fin cfg0.N) (d) : (dat0 V c).before 0 t d = iblk0 V c 0 t :=
  before0_0_of V (dat0 V c) (A_eq0 V c 0) (after0_0 V c) t d
/-- Input window 1 finds its own block at every point. -/
theorem before0_1 (c : Dev nD) (t : Fin cfg0.N) (d) : (dat0 V c).before 1 t d = iblk0 V c 1 t :=
  before0_1_of V (dat0 V c) (A_eq0 V c 1) (after0_1 V c) t d
/-- Input window 2 finds its own block at every point. -/
theorem before0_2 (c : Dev nD) (t : Fin cfg0.N) (d) : (dat0 V c).before 2 t d = iblk0 V c 2 t :=
  before0_2_of V (dat0 V c) (A_eq0 V c 2) (after0_2 V c) t d
/-- Input window 3 finds its own block at every point. -/
theorem before0_3 (c : Dev nD) (t : Fin cfg0.N) (d) : (dat0 V c).before 3 t d = iblk0 V c 3 t :=
  before0_3_of V (dat0 V c) (A_eq0 V c 3) (after0_3 V c) t d
/-- Input window 4 finds its own block at every point. -/
theorem before0_4 (c : Dev nD) (t : Fin cfg0.N) (d) : (dat0 V c).before 4 t d = iblk0 V c 4 t :=
  before0_4_of V (dat0 V c) (A_eq0 V c 4) (after0_4 V c) t d
/-- Input window 5 finds its own block at every point. -/
theorem before0_5 (c : Dev nD) (t : Fin cfg0.N) (d) : (dat0 V c).before 5 t d = iblk0 V c 5 t :=
  before0_5_of V (dat0 V c) (A_eq0 V c 5) (after0_5 V c) t d
/-- Input window 6 finds its own block at every point. -/
theorem before0_6 (c : Dev nD) (t : Fin cfg0.N) (d) : (dat0 V c).before 6 t d = iblk0 V c 6 t :=
  before0_6_of V (dat0 V c) (A_eq0 V c 6) (after0_6 V c) t d
/-- Input window 7 finds its own block at every point. -/
theorem before0_7 (c : Dev nD) (t : Fin cfg0.N) (d) : (dat0 V c).before 7 t d = iblk0 V c 7 t :=
  before0_7_of V (dat0 V c) (A_eq0 V c 7) (after0_7 V c) t d
/-- Input window 8 finds its own block at every point. -/
theorem before0_8 (c : Dev nD) (t : Fin cfg0.N) (d) : (dat0 V c).before 8 t d = iblk0 V c 8 t :=
  before0_8_of V (dat0 V c) (A_eq0 V c 8) (after0_8 V c) t d
/-- Input window 9 finds its own block at every point. -/
theorem before0_9 (c : Dev nD) (t : Fin cfg0.N) (d) : (dat0 V c).before 9 t d = iblk0 V c 9 t :=
  before0_9_of V (dat0 V c) (A_eq0 V c 9) (after0_9 V c) t d
/-- Input window 10 finds its own block at every point. -/
theorem before0_10 (c : Dev nD) (t : Fin cfg0.N) (d) : (dat0 V c).before 10 t d = iblk0 V c 10 t :=
  before0_10_of V (dat0 V c) (A_eq0 V c 10) (after0_10 V c) t d

/-- The invariant holds of any scratch at the first point, -/
theorem PhiS_in (c : Dev nD) : (Pipeline.ΦA spec0 c : sProp 𝕄) ⊢ PhiS V c 0 := by
  rw [PhiA0_eq]; unfold PhiS heldSt
  iintro ⟨⟨⟨%d0, HS0⟩, ⟨%d1, HS1⟩, ⟨%d2, HS2⟩, ⟨%d3, HS3⟩, ⟨%d4, HS4⟩, HR⟩, Hg⟩
  isplitr [Hg]; swap; · iexact Hg
  isplitr [HR]; swap; · iexact HR
  iexists (⟨d0, d1, d2, d3, d4⟩ : St F)
  isplitl [HS0]; · iexact HS0
  isplitl [HS1]; · iexact HS1
  isplitl [HS2]; · iexact HS2
  isplitl [HS3]; · iexact HS3
  iexact HS4
/-- and gives the scratch back at some contents at any. -/
theorem PhiS_out (c : Dev nD) (n : ℕ) : PhiS V c n ⊢ (Pipeline.ΦA spec0 c : sProp 𝕄) := by
  rw [PhiA0_eq]; unfold PhiS heldSt
  iintro ⟨⟨⟨%st0, HS0, HS1, HS2, HS3, HS4⟩, HR⟩, Hg⟩
  isplitr [Hg]; swap; · iexact Hg
  isplitl [HS0]; · iexists _; iexact HS0
  isplitl [HS1]; · iexists _; iexact HS1
  isplitl [HS2]; · iexists _; iexact HS2
  isplitl [HS3]; · iexists _; iexact HS3
  isplitl [HS4]; · iexists _; iexact HS4
  iexact HR

/-- The invariant one point on: the batch's run takes its step, and past a batch's last point any state begins the next. -/
theorem PhiS_succ (c : Dev nD) (n : ℕ) (st₀ : St F) :
    heldSt (F := F) c scM0_0 scM0_1 scM0_2 scM0_3 scM0_4 (stRun (insBat V c (n / 73)) st₀ (n % 73 + 1))
      ⊢ (iprop(∃ st₁ : St F, heldSt c scM0_0 scM0_1 scM0_2 scM0_3 scM0_4 (stRun (insBat V c ((n + 1) / 73)) st₁ ((n + 1) % 73))) : sProp 𝕄) := by
  by_cases h : n % 73 = 72
  · rw [show (n + 1) % 73 = 0 from by omega]
    iintro H
    iexists (stRun (insBat V c (n / 73)) st₀ (n % 73 + 1))
    iexact H
  · rw [show (n + 1) % 73 = n % 73 + 1 from by omega, show (n + 1) / 73 = n / 73 from by omega]
    iintro H
    iexists st₀
    iexact H

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d)) ∗ (∃ d, owns (c : Thread nD τ) (ms0_1 t) fullShare ((dat0 V c).before 1 t d)) ∗ (∃ d, owns (c : Thread nD τ) (ms0_2 t) fullShare ((dat0 V c).before 2 t d)) ∗ (∃ d, owns (c : Thread nD τ) (ms0_3 t) fullShare ((dat0 V c).before 3 t d)) ∗ (∃ d, owns (c : Thread nD τ) (ms0_4 t) fullShare ((dat0 V c).before 4 t d)) ∗ (∃ d, owns (c : Thread nD τ) (ms0_5 t) fullShare ((dat0 V c).before 5 t d)) ∗ (∃ d, owns (c : Thread nD τ) (ms0_6 t) fullShare ((dat0 V c).before 6 t d)) ∗ (∃ d, owns (c : Thread nD τ) (ms0_7 t) fullShare ((dat0 V c).before 7 t d)) ∗ (∃ d, owns (c : Thread nD τ) (ms0_8 t) fullShare ((dat0 V c).before 8 t d)) ∗ (∃ d, owns (c : Thread nD τ) (ms0_9 t) fullShare ((dat0 V c).before 9 t d)) ∗ (∃ d, owns (c : Thread nD τ) (ms0_10 t) fullShare ((dat0 V c).before 10 t d)) ∗ (∃ d, owns (c : Thread nD τ) (ms0_11 t) fullShare ((dat0 V c).before 11 t d)))
/-- and what it returns. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t ∗ (dat0 V c).leavesExact 3 t ∗ (dat0 V c).leavesExact 4 t ∗ (dat0 V c).leavesExact 5 t ∗ (dat0 V c).leavesExact 6 t ∗ (dat0 V c).leavesExact 7 t ∗ (dat0 V c).leavesExact 8 t ∗ (dat0 V c).leavesExact 9 t ∗ (dat0 V c).leavesExact 10 t ∗ (dat0 V c).leavesExact 11 t)

set_option maxHeartbeats 3200000 in
/-- The body at any point meets its specification. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10]
  rw [show (dat0 V c).owesAt () t.succ = (dat0 V c).owesAt () t.castSucc from rfl]
  rw [show (dat0 V c).Φ t.castSucc = PhiS V c t.val from rfl, show (dat0 V c).Φ t.succ = PhiS V c (t.val + 1) from rfl]
  unfold PhiS
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  rw [show (dat0 V c).leavesExact 6 t = owns (c : Thread nD τ) (ms0_6 t) fullShare ((dat0 V c).after 6 t) from by
    unfold Dat.leavesExact; rw [liveAt0_6 t], after0_6]
  rw [show (dat0 V c).leavesExact 7 t = owns (c : Thread nD τ) (ms0_7 t) fullShare ((dat0 V c).after 7 t) from by
    unfold Dat.leavesExact; rw [liveAt0_7 t], after0_7]
  rw [show (dat0 V c).leavesExact 8 t = owns (c : Thread nD τ) (ms0_8 t) fullShare ((dat0 V c).after 8 t) from by
    unfold Dat.leavesExact; rw [liveAt0_8 t], after0_8]
  rw [show (dat0 V c).leavesExact 9 t = owns (c : Thread nD τ) (ms0_9 t) fullShare ((dat0 V c).after 9 t) from by
    unfold Dat.leavesExact; rw [liveAt0_9 t], after0_9]
  rw [show (dat0 V c).leavesExact 10 t = owns (c : Thread nD τ) (ms0_10 t) fullShare ((dat0 V c).after 10 t) from by
    unfold Dat.leavesExact; rw [liveAt0_10 t], after0_10]
  by_cases h0 : t.val % 73 = 72
  · rw [show (dat0 V c).leavesExact 11 t = owns (c : Thread nD τ) (ms0_11 t) fullShare ((dat0 V c).after 11 t) from by
      unfold Dat.leavesExact; rw [liveAt0_11 t ((cond6_iff t).mpr h0)], after0_11]
    iintro ⟨⟨⟨⟨%st0, HS⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (run_point (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) c t (insAt V c t) (stRun (insBat V c (t.val / 73)) st0 (t.val % 73)) _ Set.univ _)
    isplitl [H0 H1 H2 H3 H4 H5 H6 H7 H8 H9 H10]
    · unfold heldIns insAt
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    isplitl [H11]; · iexact H11
    isplitl [HS]; · iexact HS
    iintro ⟨HI, H11, HS⟩
    unfold heldIns insAt
    icases HI with ⟨H0, H1, H2, H3, H4, H5, H6, H7, H8, H9, H10⟩
    isplitl [HS HR Hg]
    · isplitr [Hg]; swap; · iexact Hg
      isplitr [HR]; swap; · iexact HR
      iapply (PhiS_succ V c t.val st0)
      rw [show stRun (insBat V c (t.val / 73)) st0 (t.val % 73 + 1) = stStep (t.val % 73) (insAt V c t) (stRun (insBat V c (t.val / 73)) st0 (t.val % 73)) from by
        rw [stRun, insBat_at]]
      iexact HS
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    rw [if_pos h0, h0, outRow_eq]
    iexact H11
  · rw [Dat.leavesExact_idle (dat0 V c) 11 t (idleAt0_11 t (fun h => h0 ((cond6_iff t).mp h))) (noFlush0_11 t (fun h => h0 ((cond6_iff t).mp h)))]
    iintro ⟨⟨⟨⟨%st0, HS⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (run_point (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) c t (insAt V c t) (stRun (insBat V c (t.val / 73)) st0 (t.val % 73)) _ Set.univ _)
    isplitl [H0 H1 H2 H3 H4 H5 H6 H7 H8 H9 H10]
    · unfold heldIns insAt
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    isplitl [H11]; · iexact H11
    isplitl [HS]; · iexact HS
    iintro ⟨HI, H11, HS⟩
    unfold heldIns insAt
    icases HI with ⟨H0, H1, H2, H3, H4, H5, H6, H7, H8, H9, H10⟩
    isplitl [HS HR Hg]
    · isplitr [Hg]; swap; · iexact Hg
      isplitr [HR]; swap; · iexact HR
      iapply (PhiS_succ V c t.val st0)
      rw [show stRun (insBat V c (t.val / 73)) st0 (t.val % 73 + 1) = stStep (t.val % 73) (insAt V c t) (stRun (insBat V c (t.val / 73)) st0 (t.val % 73)) from by
        rw [stRun, insBat_at]]
      iexact HS
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    rw [if_neg h0]
    iexists _; iexact H11

/-- The encoder's body, looked up, is the body at its buffers. -/
theorem defs₀_row0 (t : Fin cfg0.N) :
    defs₀ (F := F) .tc cfg0.body (cfg0.bodyArgs t (cfg0.slots t)) = bodyAt0 t := by
  unfold defs₀; rw [Defs.onTc_tc]

/-- The body's obligation at every point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Enc
-- ==== Proof.KernelIdeal.Head.lean ====
/- The head's call: its body's triple, its proof data and its obligation. -/
module

public import proofs.«01_k».proof.Proof.Gen.KernelIdeal.Skeleton
public import Idealize.ShloMosaic.Lib.WordCmp
public import proofs.«01_k».proof.Proof.Gen.KernelIdeal.Launch
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic

@[expose] public section

set_option maxRecDepth 16384

noncomputable section

namespace Cert.KernelIdeal.Enc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Input window `w`'s block of the head, read off the arrays at entry. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Head input 0's staging buffer holds its block, for any proof data that keeps it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Head input 1's staging buffer holds its block, for any proof data that keeps it. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Head input 2's staging buffer holds its block, for any proof data that keeps it. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Head input 3's staging buffer holds its block, for any proof data that keeps it. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Head input 4's staging buffer holds its block, for any proof data that keeps it. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Head input 5's staging buffer holds its block, for any proof data that keeps it. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Head input 6's staging buffer holds its block, for any proof data that keeps it. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
/-- Head input 7's staging buffer holds its block, for any proof data that keeps it. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
/-- Head input 8's staging buffer holds its block, for any proof data that keeps it. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-- A whole-buffer rectangle of the head. -/
abbrev r1_0 : Rect S8x24 := Rect.unit (s := S8x24) ![0, 0] S8x24.size inb_S8x24_S8x24_0_0
/-- A whole-buffer rectangle of the head. -/
abbrev r1_1 : Rect S24x24 := Rect.unit (s := S24x24) ![0, 0] S24x24.size inb_S24x24_S24x24_0_0
/-- A whole-buffer rectangle of the head. -/
abbrev r1_2 : Rect S1x24 := Rect.unit (s := S1x24) ![0, 0] S1x24.size inb_S1x24_S1x24_0_0
/-- A whole-buffer rectangle of the head. -/
abbrev r1_3 : Rect S24x48 := Rect.unit (s := S24x48) ![0, 0] S24x48.size inb_S24x48_S24x48_0_0
/-- A whole-buffer rectangle of the head. -/
abbrev r1_4 : Rect S1x48 := Rect.unit (s := S1x48) ![0, 0] S1x48.size inb_S1x48_S1x48_0_0
/-- A whole-buffer rectangle of the head. -/
abbrev r1_5 : Rect S8x48 := Rect.unit (s := S8x48) ![0, 0] S8x48.size inb_S8x48_S8x48_0_0

/-- The head's output buffer from its nine input blocks. -/
def out1_9 (x0 : Vec F S8x24 .f32) (x1 : Vec F S24x24 .f32) (x2 : Vec F S1x24 .f32) (x3 : Vec F S1x24 .f32) (x4 : Vec F S1x24 .f32) (x5 : Vec F S24x48 .f32) (x6 : Vec F S1x48 .f32) (x7 : Vec F S1x48 .f32) (x8 : Vec F S1x48 .f32) : Vec F S8x48 .f32 :=
  View.canon [⟨r1_5, k1_pay4 (k1_pay1 (View.ld x0 r1_0) (View.ld x1 r1_1) (View.ld x2 r1_2) (View.ld x3 r1_2) (View.ld x4 r1_2)) (k1_pay2 (View.ld x0 r1_0) (View.ld x1 r1_1) (View.ld x2 r1_2) (View.ld x3 r1_2) (View.ld x4 r1_2)) (k1_pay3 (F := F)) (View.ld x5 r1_3) (View.ld x6 r1_4) (View.ld x7 r1_4) (View.ld x8 r1_4)⟩]

/-- The head's single store covers the output buffer. -/
theorem cover1_9 (p0 : Vec F S8x48 .f32) (y : S8x48.Idx) :
    ∃ pc ∈ ([⟨r1_5, p0⟩] : List (View.Piece (Elt F) S8x48 .f32)), y ∈ pc.1.set :=
  View.cover_of_tiled [⟨r1_5, p0⟩] S8x48.size (by rfl) y

set_option maxHeartbeats 1000000 in
/-- The head's body, on staging buffers holding the input blocks, keeps them and leaves the output. -/
theorem sound_kernel1 (c : Dev nD) (E : Set ℕ) (arg0 : Memref sig .tc .vmem S8x24 .f32) (harg0 : arg0.IsWhole) (arg1 : Memref sig .tc .vmem S24x24 .f32) (harg1 : arg1.IsWhole) (arg2 : Memref sig .tc .vmem S1x24 .f32) (harg2 : arg2.IsWhole) (arg3 : Memref sig .tc .vmem S1x24 .f32) (harg3 : arg3.IsWhole) (arg4 : Memref sig .tc .vmem S1x24 .f32) (harg4 : arg4.IsWhole) (arg5 : Memref sig .tc .vmem S24x48 .f32) (harg5 : arg5.IsWhole) (arg6 : Memref sig .tc .vmem S1x48 .f32) (harg6 : arg6.IsWhole) (arg7 : Memref sig .tc .vmem S1x48 .f32) (harg7 : arg7.IsWhole) (arg8 : Memref sig .tc .vmem S1x48 .f32) (harg8 : arg8.IsWhole) (arg9 : Memref sig .tc .vmem S8x48 .f32) (harg9 : arg9.IsWhole)
    (x0 : Vec F S8x24 .f32) (x1 : Vec F S24x24 .f32) (x2 : Vec F S1x24 .f32) (x3 : Vec F S1x24 .f32) (x4 : Vec F S1x24 .f32) (x5 : Vec F S24x48 .f32) (x6 : Vec F S1x48 .f32) (x7 : Vec F S1x48 .f32) (x8 : Vec F S1x48 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (out1_9 x0 x1 x2 x3 x4 x5 x6 x7 x8)) -∗ K ⟨⟩))
      ⊢ wp frame (wpE (defs₀ (F := F)) Variants.none c none) E (cc1__head_body arg0 harg0 arg1 harg1 arg2 harg2 arg3 harg3 arg4 harg4 arg5 harg5 arg6 harg6 arg7 harg7 arg8 harg8 arg9 harg9) K := by
  simp only [cc1__head_body_eq_skeleton]; unfold cc1__head_body_skel
  simp only [k1_part1_eq_skeleton, k1_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover1_9 _)

/-- The head's proof data: inputs kept, output `out1_9` of the inputs. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1_9 (iblk1 V c 0 t) (iblk1 V c 1 t) (iblk1 V c 2 t) (iblk1 V c 3 t) (iblk1 V c 4 t) (iblk1 V c 5 t) (iblk1 V c 6 t) (iblk1 V c 7 t) (iblk1 V c 8 t)
  Φ _ := Pipeline.ΦA spec1 c
  q _ := fullShare
  owed _ := 0

/-- The head's arrays are the ones at entry. -/
theorem A_eq1 (c : Dev nD) (w : Fin cfg1.W) : (dat1 V c).A w = V c (Pipeline.arrRef spec1 w) := by
  dsimp only [dat1]

/-- What the body leaves in head window 0. -/
theorem after1_0 (c : Dev nD) (t : Fin cfg1.N) : (dat1 V c).after 0 t = iblk1 V c 0 t := by dsimp only [dat1]
/-- What the body leaves in head window 1. -/
theorem after1_1 (c : Dev nD) (t : Fin cfg1.N) : (dat1 V c).after 1 t = iblk1 V c 1 t := by dsimp only [dat1]
/-- What the body leaves in head window 2. -/
theorem after1_2 (c : Dev nD) (t : Fin cfg1.N) : (dat1 V c).after 2 t = iblk1 V c 2 t := by dsimp only [dat1]
/-- What the body leaves in head window 3. -/
theorem after1_3 (c : Dev nD) (t : Fin cfg1.N) : (dat1 V c).after 3 t = iblk1 V c 3 t := by dsimp only [dat1]
/-- What the body leaves in head window 4. -/
theorem after1_4 (c : Dev nD) (t : Fin cfg1.N) : (dat1 V c).after 4 t = iblk1 V c 4 t := by dsimp only [dat1]
/-- What the body leaves in head window 5. -/
theorem after1_5 (c : Dev nD) (t : Fin cfg1.N) : (dat1 V c).after 5 t = iblk1 V c 5 t := by dsimp only [dat1]
/-- What the body leaves in head window 6. -/
theorem after1_6 (c : Dev nD) (t : Fin cfg1.N) : (dat1 V c).after 6 t = iblk1 V c 6 t := by dsimp only [dat1]
/-- What the body leaves in head window 7. -/
theorem after1_7 (c : Dev nD) (t : Fin cfg1.N) : (dat1 V c).after 7 t = iblk1 V c 7 t := by dsimp only [dat1]
/-- What the body leaves in head window 8. -/
theorem after1_8 (c : Dev nD) (t : Fin cfg1.N) : (dat1 V c).after 8 t = iblk1 V c 8 t := by dsimp only [dat1]
/-- What the body leaves in head window 9. -/
theorem after1_9 (c : Dev nD) (t : Fin cfg1.N) : (dat1 V c).after 9 t = out1_9 (iblk1 V c 0 t) (iblk1 V c 1 t) (iblk1 V c 2 t) (iblk1 V c 3 t) (iblk1 V c 4 t) (iblk1 V c 5 t) (iblk1 V c 6 t) (iblk1 V c 7 t) (iblk1 V c 8 t) := by dsimp only [dat1]

/-- Head input 0's staging buffer holds its block. -/
theorem before1_0 (c : Dev nD) (t : Fin cfg1.N) (d) : (dat1 V c).before 0 t d = iblk1 V c 0 t :=
  before1_0_of V (dat1 V c) (A_eq1 V c 0) (after1_0 V c) t d
/-- Head input 1's staging buffer holds its block. -/
theorem before1_1 (c : Dev nD) (t : Fin cfg1.N) (d) : (dat1 V c).before 1 t d = iblk1 V c 1 t :=
  before1_1_of V (dat1 V c) (A_eq1 V c 1) (after1_1 V c) t d
/-- Head input 2's staging buffer holds its block. -/
theorem before1_2 (c : Dev nD) (t : Fin cfg1.N) (d) : (dat1 V c).before 2 t d = iblk1 V c 2 t :=
  before1_2_of V (dat1 V c) (A_eq1 V c 2) (after1_2 V c) t d
/-- Head input 3's staging buffer holds its block. -/
theorem before1_3 (c : Dev nD) (t : Fin cfg1.N) (d) : (dat1 V c).before 3 t d = iblk1 V c 3 t :=
  before1_3_of V (dat1 V c) (A_eq1 V c 3) (after1_3 V c) t d
/-- Head input 4's staging buffer holds its block. -/
theorem before1_4 (c : Dev nD) (t : Fin cfg1.N) (d) : (dat1 V c).before 4 t d = iblk1 V c 4 t :=
  before1_4_of V (dat1 V c) (A_eq1 V c 4) (after1_4 V c) t d
/-- Head input 5's staging buffer holds its block. -/
theorem before1_5 (c : Dev nD) (t : Fin cfg1.N) (d) : (dat1 V c).before 5 t d = iblk1 V c 5 t :=
  before1_5_of V (dat1 V c) (A_eq1 V c 5) (after1_5 V c) t d
/-- Head input 6's staging buffer holds its block. -/
theorem before1_6 (c : Dev nD) (t : Fin cfg1.N) (d) : (dat1 V c).before 6 t d = iblk1 V c 6 t :=
  before1_6_of V (dat1 V c) (A_eq1 V c 6) (after1_6 V c) t d
/-- Head input 7's staging buffer holds its block. -/
theorem before1_7 (c : Dev nD) (t : Fin cfg1.N) (d) : (dat1 V c).before 7 t d = iblk1 V c 7 t :=
  before1_7_of V (dat1 V c) (A_eq1 V c 7) (after1_7 V c) t d
/-- Head input 8's staging buffer holds its block. -/
theorem before1_8 (c : Dev nD) (t : Fin cfg1.N) (d) : (dat1 V c).before 8 t d = iblk1 V c 8 t :=
  before1_8_of V (dat1 V c) (A_eq1 V c 8) (after1_8 V c) t d

/-- What the head's body holds on entry. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- What the head's body holds on return. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

/-- The body's triple between those two. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The called body is the printed head. -/
theorem defs₀_row1 (t : Fin cfg1.N) :
    defs₀ (F := F) .tc cfg1.body (cfg1.bodyArgs t (cfg1.slots t)) = bodyAt1 t := by
  unfold defs₀; rw [Defs.onTc_tc]

/-- The pipeline's obligation for the head's body. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl
end Cert.KernelIdeal.Enc

end
-- ==== Proof.KernelIdeal.Run.lean ====
/- The whole program's run: the host stretches and the two calls in order, from launch to end. -/
module

public import proofs.«01_k».proof.Proof.KernelIdeal.Dat0
public import proofs.«01_k».proof.Proof.KernelIdeal.Head
public import proofs.«01_k».proof.Proof.Gen.KernelIdeal.Launch
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic

@[expose] public section

set_option maxRecDepth 16384

noncomputable section

namespace Cert.KernelIdeal.Enc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The argument arrays. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22]

/-- `hostOps0` allocates nothing. -/
theorem hostOps0_fresh : (hostOps0 : List (HloOp τ sig (Elt F))).Forall fun op => op.fresh = ∅ := by
  simp only [List.Forall]; repeat' constructor
/-- What `hostOps0` writes. -/
abbrev hostOps0_W : List (Ref sig .tc) := [main_c]
/-- `hostOps0` writes only those. -/
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes no argument. -/
theorem hostOps0_args : ∀ a ∈ argRefs, a ∉ hostOps0_W := ListAll.forall_mem_of_all_decide (by decide +kernel)

/-- `hostOps0_1` allocates nothing. -/
theorem hostOps0_1_fresh : (hostOps0_1 : List (HloOp τ sig (Elt F))).Forall fun op => op.fresh = ∅ := by
  simp only [List.Forall]; repeat' constructor
/-- What `hostOps0_1` writes. -/
abbrev hostOps0_1_W : List (Ref sig .tc) := [main_call0_v0, main_v0]
/-- `hostOps0_1` writes only those. -/
theorem hostOps0_1_writes : (hostOps0_1 : List (HloOp τ sig (Elt F))).Forall fun op => op.writes ⊆ (hostOps0_1_W.map (Proc.devRef (τ := τ) .tc)).toFinset :=
  StableHlo.forall_writes_sub_of_map rfl
/-- `hostOps0_1` writes no argument. -/
theorem hostOps0_1_args : ∀ a ∈ argRefs, a ∉ hostOps0_1_W := ListAll.forall_mem_of_all_decide (by decide +kernel)

/-- `hostOps0_2` allocates nothing. -/
theorem hostOps0_2_fresh : (hostOps0_2 : List (HloOp τ sig (Elt F))).Forall fun op => op.fresh = ∅ := by
  simp only [List.Forall]; repeat' constructor
/-- What `hostOps0_2` writes. -/
abbrev hostOps0_2_W : List (Ref sig .tc) := [main_c_0]
/-- `hostOps0_2` writes only those. -/
theorem hostOps0_2_writes : (hostOps0_2 : List (HloOp τ sig (Elt F))).Forall fun op => op.writes ⊆ (hostOps0_2_W.map (Proc.devRef (τ := τ) .tc)).toFinset :=
  StableHlo.forall_writes_sub_of_map rfl
/-- `hostOps0_2` writes no argument. -/
theorem hostOps0_2_args : ∀ a ∈ argRefs, a ∉ hostOps0_2_W := ListAll.forall_mem_of_all_decide (by decide +kernel)

/-- `hostOps0_3` allocates nothing. -/
theorem hostOps0_3_fresh : (hostOps0_3 : List (HloOp τ sig (Elt F))).Forall fun op => op.fresh = ∅ := by
  simp only [List.Forall]; repeat' constructor
/-- What `hostOps0_3` writes. -/
abbrev hostOps0_3_W : List (Ref sig .tc) := [main_call1_v0, main_v1]
/-- `hostOps0_3` writes only those. -/
theorem hostOps0_3_writes : (hostOps0_3 : List (HloOp τ sig (Elt F))).Forall fun op => op.writes ⊆ (hostOps0_3_W.map (Proc.devRef (τ := τ) .tc)).toFinset :=
  StableHlo.forall_writes_sub_of_map rfl
/-- `hostOps0_3` writes no argument. -/
theorem hostOps0_3_args : ∀ a ∈ argRefs, a ∉ hostOps0_3_W := ListAll.forall_mem_of_all_decide (by decide +kernel)

/-- `hostOps0_4` allocates nothing. -/
theorem hostOps0_4_fresh : (hostOps0_4 : List (HloOp τ sig (Elt F))).Forall fun op => op.fresh = ∅ := by
  simp only [List.Forall]; repeat' constructor
/-- What `hostOps0_4` writes. -/
abbrev hostOps0_4_W : List (Ref sig .tc) := [main_v2, main_v3, main_v4, main_v5, main_v6, main_v7, main_cst, main_v8, main_v9, main_v10, main_v11, main_c_1]
/-- `hostOps0_4` writes only those. -/
theorem hostOps0_4_writes : (hostOps0_4 : List (HloOp τ sig (Elt F))).Forall fun op => op.writes ⊆ (hostOps0_4_W.map (Proc.devRef (τ := τ) .tc)).toFinset :=
  StableHlo.forall_writes_sub_of_map rfl
/-- `hostOps0_4` writes no argument. -/
theorem hostOps0_4_args : ∀ a ∈ argRefs, a ∉ hostOps0_4_W := ListAll.forall_mem_of_all_decide (by decide +kernel)

/-- `hostOps0_5` allocates nothing. -/
theorem hostOps0_5_fresh : (hostOps0_5 : List (HloOp τ sig (Elt F))).Forall fun op => op.fresh = ∅ := by
  simp only [List.Forall]; repeat' constructor
/-- What `hostOps0_5` writes. -/
abbrev hostOps0_5_W : List (Ref sig .tc) := [main_call2_v0, main_v12]
/-- `hostOps0_5` writes only those. -/
theorem hostOps0_5_writes : (hostOps0_5 : List (HloOp τ sig (Elt F))).Forall fun op => op.writes ⊆ (hostOps0_5_W.map (Proc.devRef (τ := τ) .tc)).toFinset :=
  StableHlo.forall_writes_sub_of_map rfl
/-- `hostOps0_5` writes no argument. -/
theorem hostOps0_5_args : ∀ a ∈ argRefs, a ∉ hostOps0_5_W := ListAll.forall_mem_of_all_decide (by decide +kernel)

/-- `hostOps0_6` allocates nothing. -/
theorem hostOps0_6_fresh : (hostOps0_6 : List (HloOp τ sig (Elt F))).Forall fun op => op.fresh = ∅ := by
  simp only [List.Forall]; repeat' constructor
/-- What `hostOps0_6` writes. -/
abbrev hostOps0_6_W : List (Ref sig .tc) := [main_v13, main_v14, main_v15, main_v16, main_v17, main_v18, main_v19, main_v20, main_v21, main_v22, main_v23, main_v24, main_v25, main_c_2, main_v26, main_v27, main_v28, main_v29, main_v30, main_v31, main_v32, main_v33, main_v34, main_v35, main_v36, main_v37, main_v38, main_v39, main_c_3, main_v40, main_v41, main_v42, main_v43, main_v44, main_v45, main_v46, main_v47, main_v48, main_v49, main_v50, main_v51, main_v52, main_v53, main_c_4, main_v54, main_v55, main_v56, main_v57, main_v58, main_v59, main_v60]
/-- `hostOps0_6` writes only those. -/
theorem hostOps0_6_writes : (hostOps0_6 : List (HloOp τ sig (Elt F))).Forall fun op => op.writes ⊆ (hostOps0_6_W.map (Proc.devRef (τ := τ) .tc)).toFinset :=
  StableHlo.forall_writes_sub_of_map rfl
/-- `hostOps0_6` writes no argument. -/
theorem hostOps0_6_args : ∀ a ∈ argRefs, a ∉ hostOps0_6_W := ListAll.forall_mem_of_all_decide (by decide +kernel)

/-- `hostOps1` allocates nothing. -/
theorem hostOps1_fresh : (hostOps1 : List (HloOp τ sig (Elt F))).Forall fun op => op.fresh = ∅ := by
  simp only [List.Forall]; repeat' constructor
/-- What `hostOps1` writes. -/
abbrev hostOps1_W : List (Ref sig .tc) := [main_v62, main_v63, main_v64, main_v65, main_v66, main_v67, main_v68, main_v69, main_v70, main_v71, main_v72]
/-- `hostOps1` writes only those. -/
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes no argument. -/
theorem hostOps1_args : ∀ a ∈ argRefs, a ∉ hostOps1_W := ListAll.forall_mem_of_all_decide (by decide +kernel)

/-- The buffers at boundary 0. -/
abbrev W0 : Dev nD → Valuation τ sig (Elt F) := fun c b => (s₀ m ρ).mem ((c : Dev nD), b)
/-- At boundary 0 the arguments are as launched. -/
theorem W0_args (c : Dev nD) : ∀ a ∈ argRefs, W0 m ρ c (Proc.devRef .tc a) = m ((c : Thread nD τ).loc a) := fun _ _ => rfl
/-- The buffers at boundary 1. -/
abbrev W1 : Dev nD → Valuation τ sig (Elt F) := fun c => StableHlo.after hostOps0 (W0 m ρ c)
/-- A buffer the stretch before boundary 1 does not write is kept. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
/-- At boundary 1 the arguments are as launched. -/
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The buffers at boundary 2. -/
abbrev W2 : Dev nD → Valuation τ sig (Elt F) := fun c => StableHlo.after hostOps0_1 (W1 m ρ c)
/-- A buffer the stretch before boundary 2 does not write is kept. -/
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
/-- At boundary 2 the arguments are as launched. -/
theorem W2_args (c : Dev nD) : ∀ a ∈ argRefs, W2 m ρ c (Proc.devRef .tc a) = m ((c : Thread nD τ).loc a) :=
  fun a ha => (W2_of m ρ c a (hostOps0_1_args a ha)).trans (W1_args m ρ c a ha)
/-- The buffers at boundary 3. -/
abbrev W3 : Dev nD → Valuation τ sig (Elt F) := fun c => StableHlo.after hostOps0_2 (W2 m ρ c)
/-- A buffer the stretch before boundary 3 does not write is kept. -/
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h
/-- At boundary 3 the arguments are as launched. -/
theorem W3_args (c : Dev nD) : ∀ a ∈ argRefs, W3 m ρ c (Proc.devRef .tc a) = m ((c : Thread nD τ).loc a) :=
  fun a ha => (W3_of m ρ c a (hostOps0_2_args a ha)).trans (W2_args m ρ c a ha)
/-- The buffers at boundary 4. -/
abbrev W4 : Dev nD → Valuation τ sig (Elt F) := fun c => StableHlo.after hostOps0_3 (W3 m ρ c)
/-- A buffer the stretch before boundary 4 does not write is kept. -/
theorem W4_of (c : Dev nD) (r : Ref sig .tc) (h : r ∉ hostOps0_3_W) : W4 m ρ c (Proc.devRef .tc r) = W3 m ρ c (Proc.devRef .tc r) :=
  StableHlo.after_of_writes_sub hostOps0_3 _ hostOps0_3_writes h
/-- At boundary 4 the arguments are as launched. -/
theorem W4_args (c : Dev nD) : ∀ a ∈ argRefs, W4 m ρ c (Proc.devRef .tc a) = m ((c : Thread nD τ).loc a) :=
  fun a ha => (W4_of m ρ c a (hostOps0_3_args a ha)).trans (W3_args m ρ c a ha)
/-- The buffers at boundary 5. -/
abbrev W5 : Dev nD → Valuation τ sig (Elt F) := fun c => StableHlo.after hostOps0_4 (W4 m ρ c)
/-- A buffer the stretch before boundary 5 does not write is kept. -/
theorem W5_of (c : Dev nD) (r : Ref sig .tc) (h : r ∉ hostOps0_4_W) : W5 m ρ c (Proc.devRef .tc r) = W4 m ρ c (Proc.devRef .tc r) :=
  StableHlo.after_of_writes_sub hostOps0_4 _ hostOps0_4_writes h
/-- At boundary 5 the arguments are as launched. -/
theorem W5_args (c : Dev nD) : ∀ a ∈ argRefs, W5 m ρ c (Proc.devRef .tc a) = m ((c : Thread nD τ).loc a) :=
  fun a ha => (W5_of m ρ c a (hostOps0_4_args a ha)).trans (W4_args m ρ c a ha)
/-- The buffers at boundary 6. -/
abbrev W6 : Dev nD → Valuation τ sig (Elt F) := fun c => StableHlo.after hostOps0_5 (W5 m ρ c)
/-- A buffer the stretch before boundary 6 does not write is kept. -/
theorem W6_of (c : Dev nD) (r : Ref sig .tc) (h : r ∉ hostOps0_5_W) : W6 m ρ c (Proc.devRef .tc r) = W5 m ρ c (Proc.devRef .tc r) :=
  StableHlo.after_of_writes_sub hostOps0_5 _ hostOps0_5_writes h
/-- At boundary 6 the arguments are as launched. -/
theorem W6_args (c : Dev nD) : ∀ a ∈ argRefs, W6 m ρ c (Proc.devRef .tc a) = m ((c : Thread nD τ).loc a) :=
  fun a ha => (W6_of m ρ c a (hostOps0_5_args a ha)).trans (W5_args m ρ c a ha)
/-- The buffers at boundary 7. -/
abbrev W7 : Dev nD → Valuation τ sig (Elt F) := fun c => StableHlo.after hostOps0_6 (W6 m ρ c)
/-- A buffer the stretch before boundary 7 does not write is kept. -/
theorem W7_of (c : Dev nD) (r : Ref sig .tc) (h : r ∉ hostOps0_6_W) : W7 m ρ c (Proc.devRef .tc r) = W6 m ρ c (Proc.devRef .tc r) :=
  StableHlo.after_of_writes_sub hostOps0_6 _ hostOps0_6_writes h
/-- At boundary 7 the arguments are as launched. -/
theorem W7_args (c : Dev nD) : ∀ a ∈ argRefs, W7 m ρ c (Proc.devRef .tc a) = m ((c : Thread nD τ).loc a) :=
  fun a ha => (W7_of m ρ c a (hostOps0_6_args a ha)).trans (W6_args m ρ c a ha)
/-- Boundary 7 at the core's references. -/
abbrev V7 : (c : Dev nD) → (b : Ref sig .tc) → Buf (Elt F) ((c : Thread nD τ).loc b) := fun c b => W7 m ρ c b
/-- The buffers after the encoder: its output array as written back, all else as before. -/
def W8 (c : Dev nD) : Valuation τ sig (Elt F) :=
  Pipeline.withArrays spec0 c (W7 m ρ c) fun w => (dat0 (V7 m ρ) c).arrAt w cfg0.N
/-- Each of the encoder's arrays after it. -/
theorem W8_arr (c : Dev nD) (w : Fin cfg0.W) :
    W8 m ρ c (Proc.devRef .tc (Pipeline.arrRef spec0 w)) = (dat0 (V7 m ρ) c).arrAt w cfg0.N := by
  unfold W8; exact Pipeline.withArrays_arr spec0 launch0.win.arr_inj c _ _ w
/-- A buffer outside the encoder's arrays is kept. -/
theorem W8_of_ne (c : Dev nD) (b : Ref sig .tc) (hb : ∀ w, Pipeline.arrRef spec0 w ≠ b) :
    W8 m ρ c (Proc.devRef .tc b) = W7 m ρ c (Proc.devRef .tc b) := by
  unfold W8; exact Pipeline.withArrays_of_ne spec0 c _ _ b hb
/-- A buffer that is no output of the encoder is kept. -/
theorem W8_of (c : Dev nD) (r : Ref sig .tc) (h : ∀ w : Fin cfg0.W, Pipeline.arrRef spec0 w = r → (cfg0.win w).isOut = false) :
    W8 m ρ c (Proc.devRef .tc r) = W7 m ρ c (Proc.devRef .tc r) := by
  by_cases hw : ∃ w : Fin cfg0.W, Pipeline.arrRef spec0 w = r
  · obtain ⟨w, rfl⟩ := hw
    exact (W8_arr m ρ c w).trans (((dat0 (V7 m ρ) c).arrAt_in w (h w rfl) _).trans (A_eq0 (V7 m ρ) c w))
  · exact W8_of_ne m ρ c r fun w e => hw ⟨w, e⟩
/-- Every argument among the call's arrays is an input. -/
theorem argsIn0 : ∀ a ∈ argRefs, ∀ w : Fin cfg0.W, Pipeline.arrRef spec0 w = a → (cfg0.win w).isOut = false :=
  ListAll.forall_mem_of_all_decide (by decide +kernel)
/-- At boundary 8 the arguments are as launched. -/
theorem W8_args (c : Dev nD) : ∀ a ∈ argRefs, W8 m ρ c (Proc.devRef .tc a) = m ((c : Thread nD τ).loc a) :=
  fun a ha => (W8_of m ρ c a (argsIn0 a ha)).trans (W7_args m ρ c a ha)
/-- Boundary 8 at the core's references. -/
abbrev V8 : (c : Dev nD) → (b : Ref sig .tc) → Buf (Elt F) ((c : Thread nD τ).loc b) := fun c b => W8 m ρ c b
/-- The encoder's arrays at its exit. -/
theorem hF0 (c : Dev nD) (w : Fin cfg0.W) : (dat0 (V7 m ρ) c).arrAt w cfg0.N = V8 m ρ c (Pipeline.arrRef spec0 w) :=
  (W8_arr m ρ c w).symm
/-- Every other buffer is untouched by the encoder. -/
theorem hrest0 (c : Dev nD) : ∀ b, b ∉ Finset.univ.image (Pipeline.arrRef spec0) → V8 m ρ c b = V7 m ρ c b :=
  fun b hb => W8_of_ne m ρ c b fun w e => hb (Finset.mem_image.mpr ⟨w, Finset.mem_univ _, e⟩)

/-- The buffers at boundary 9. -/
abbrev W9 : Dev nD → Valuation τ sig (Elt F) := fun c => StableHlo.after hostOps1 (W8 m ρ c)
/-- A buffer the stretch before boundary 9 does not write is kept. -/
theorem W9_of (c : Dev nD) (r : Ref sig .tc) (h : r ∉ hostOps1_W) : W9 m ρ c (Proc.devRef .tc r) = W8 m ρ c (Proc.devRef .tc r) :=
  StableHlo.after_of_writes_sub hostOps1 _ hostOps1_writes h
/-- At boundary 9 the arguments are as launched. -/
theorem W9_args (c : Dev nD) : ∀ a ∈ argRefs, W9 m ρ c (Proc.devRef .tc a) = m ((c : Thread nD τ).loc a) :=
  fun a ha => (W9_of m ρ c a (hostOps1_args a ha)).trans (W8_args m ρ c a ha)
/-- Boundary 9 at the core's references. -/
abbrev V9 : (c : Dev nD) → (b : Ref sig .tc) → Buf (Elt F) ((c : Thread nD τ).loc b) := fun c b => W9 m ρ c b
/-- The buffers after the head. -/
def W10 (c : Dev nD) : Valuation τ sig (Elt F) :=
  Pipeline.withArrays spec1 c (W9 m ρ c) fun w => (dat1 (V9 m ρ) c).arrAt w cfg1.N
/-- Each of the head's arrays after it. -/
theorem W10_arr (c : Dev nD) (w : Fin cfg1.W) :
    W10 m ρ c (Proc.devRef .tc (Pipeline.arrRef spec1 w)) = (dat1 (V9 m ρ) c).arrAt w cfg1.N := by
  unfold W10; exact Pipeline.withArrays_arr spec1 launch1.win.arr_inj c _ _ w
/-- A buffer outside the head's arrays is kept. -/
theorem W10_of_ne (c : Dev nD) (b : Ref sig .tc) (hb : ∀ w, Pipeline.arrRef spec1 w ≠ b) :
    W10 m ρ c (Proc.devRef .tc b) = W9 m ρ c (Proc.devRef .tc b) := by
  unfold W10; exact Pipeline.withArrays_of_ne spec1 c _ _ b hb
/-- A buffer that is no output of the head is kept. -/
theorem W10_of (c : Dev nD) (r : Ref sig .tc) (h : ∀ w : Fin cfg1.W, Pipeline.arrRef spec1 w = r → (cfg1.win w).isOut = false) :
    W10 m ρ c (Proc.devRef .tc r) = W9 m ρ c (Proc.devRef .tc r) := by
  by_cases hw : ∃ w : Fin cfg1.W, Pipeline.arrRef spec1 w = r
  · obtain ⟨w, rfl⟩ := hw
    exact (W10_arr m ρ c w).trans (((dat1 (V9 m ρ) c).arrAt_in w (h w rfl) _).trans (A_eq1 (V9 m ρ) c w))
  · exact W10_of_ne m ρ c r fun w e => hw ⟨w, e⟩
/-- Every argument among the call's arrays is an input. -/
theorem argsIn1 : ∀ a ∈ argRefs, ∀ w : Fin cfg1.W, Pipeline.arrRef spec1 w = a → (cfg1.win w).isOut = false :=
  ListAll.forall_mem_of_all_decide (by decide +kernel)
/-- At boundary 10 the arguments are as launched. -/
theorem W10_args (c : Dev nD) : ∀ a ∈ argRefs, W10 m ρ c (Proc.devRef .tc a) = m ((c : Thread nD τ).loc a) :=
  fun a ha => (W10_of m ρ c a (argsIn1 a ha)).trans (W9_args m ρ c a ha)
/-- Boundary 10 at the core's references. -/
abbrev V10 : (c : Dev nD) → (b : Ref sig .tc) → Buf (Elt F) ((c : Thread nD τ).loc b) := fun c b => W10 m ρ c b
/-- The head's arrays at its exit. -/
theorem hF1 (c : Dev nD) (w : Fin cfg1.W) : (dat1 (V9 m ρ) c).arrAt w cfg1.N = V10 m ρ c (Pipeline.arrRef spec1 w) :=
  (W10_arr m ρ c w).symm
/-- Every other buffer is untouched by the head. -/
theorem hrest1 (c : Dev nD) : ∀ b, b ∉ Finset.univ.image (Pipeline.arrRef spec1) → V10 m ρ c b = V9 m ρ c b :=
  fun b hb => W10_of_ne m ρ c b fun w e => hb (Finset.mem_image.mpr ⟨w, Finset.mem_univ _, e⟩)

/-- `main_arg0` ends as launched. -/
theorem W10_main_arg0 (c : Dev nD) : W10 m ρ c (Proc.devRef .tc main_arg0) = m ((c : Thread nD τ).loc main_arg0) :=
  W10_args m ρ c main_arg0 (by decide)
/-- `main_arg1` ends as launched. -/
theorem W10_main_arg1 (c : Dev nD) : W10 m ρ c (Proc.devRef .tc main_arg1) = m ((c : Thread nD τ).loc main_arg1) :=
  W10_args m ρ c main_arg1 (by decide)
/-- `main_arg2` ends as launched. -/
theorem W10_main_arg2 (c : Dev nD) : W10 m ρ c (Proc.devRef .tc main_arg2) = m ((c : Thread nD τ).loc main_arg2) :=
  W10_args m ρ c main_arg2 (by decide)
/-- `main_arg3` ends as launched. -/
theorem W10_main_arg3 (c : Dev nD) : W10 m ρ c (Proc.devRef .tc main_arg3) = m ((c : Thread nD τ).loc main_arg3) :=
  W10_args m ρ c main_arg3 (by decide)
/-- `main_arg4` ends as launched. -/
theorem W10_main_arg4 (c : Dev nD) : W10 m ρ c (Proc.devRef .tc main_arg4) = m ((c : Thread nD τ).loc main_arg4) :=
  W10_args m ρ c main_arg4 (by decide)
/-- `main_arg5` ends as launched. -/
theorem W10_main_arg5 (c : Dev nD) : W10 m ρ c (Proc.devRef .tc main_arg5) = m ((c : Thread nD τ).loc main_arg5) :=
  W10_args m ρ c main_arg5 (by decide)
/-- `main_arg6` ends as launched. -/
theorem W10_main_arg6 (c : Dev nD) : W10 m ρ c (Proc.devRef .tc main_arg6) = m ((c : Thread nD τ).loc main_arg6) :=
  W10_args m ρ c main_arg6 (by decide)
/-- `main_arg7` ends as launched. -/
theorem W10_main_arg7 (c : Dev nD) : W10 m ρ c (Proc.devRef .tc main_arg7) = m ((c : Thread nD τ).loc main_arg7) :=
  W10_args m ρ c main_arg7 (by decide)
/-- `main_arg8` ends as launched. -/
theorem W10_main_arg8 (c : Dev nD) : W10 m ρ c (Proc.devRef .tc main_arg8) = m ((c : Thread nD τ).loc main_arg8) :=
  W10_args m ρ c main_arg8 (by decide)
/-- `main_arg9` ends as launched. -/
theorem W10_main_arg9 (c : Dev nD) : W10 m ρ c (Proc.devRef .tc main_arg9) = m ((c : Thread nD τ).loc main_arg9) :=
  W10_args m ρ c main_arg9 (by decide)
/-- `main_arg10` ends as launched. -/
theorem W10_main_arg10 (c : Dev nD) : W10 m ρ c (Proc.devRef .tc main_arg10) = m ((c : Thread nD τ).loc main_arg10) :=
  W10_args m ρ c main_arg10 (by decide)
/-- `main_arg11` ends as launched. -/
theorem W10_main_arg11 (c : Dev nD) : W10 m ρ c (Proc.devRef .tc main_arg11) = m ((c : Thread nD τ).loc main_arg11) :=
  W10_args m ρ c main_arg11 (by decide)
/-- `main_arg12` ends as launched. -/
theorem W10_main_arg12 (c : Dev nD) : W10 m ρ c (Proc.devRef .tc main_arg12) = m ((c : Thread nD τ).loc main_arg12) :=
  W10_args m ρ c main_arg12 (by decide)
/-- `main_arg13` ends as launched. -/
theorem W10_main_arg13 (c : Dev nD) : W10 m ρ c (Proc.devRef .tc main_arg13) = m ((c : Thread nD τ).loc main_arg13) :=
  W10_args m ρ c main_arg13 (by decide)
/-- `main_arg14` ends as launched. -/
theorem W10_main_arg14 (c : Dev nD) : W10 m ρ c (Proc.devRef .tc main_arg14) = m ((c : Thread nD τ).loc main_arg14) :=
  W10_args m ρ c main_arg14 (by decide)
/-- `main_arg15` ends as launched. -/
theorem W10_main_arg15 (c : Dev nD) : W10 m ρ c (Proc.devRef .tc main_arg15) = m ((c : Thread nD τ).loc main_arg15) :=
  W10_args m ρ c main_arg15 (by decide)
/-- `main_arg16` ends as launched. -/
theorem W10_main_arg16 (c : Dev nD) : W10 m ρ c (Proc.devRef .tc main_arg16) = m ((c : Thread nD τ).loc main_arg16) :=
  W10_args m ρ c main_arg16 (by decide)
/-- `main_arg17` ends as launched. -/
theorem W10_main_arg17 (c : Dev nD) : W10 m ρ c (Proc.devRef .tc main_arg17) = m ((c : Thread nD τ).loc main_arg17) :=
  W10_args m ρ c main_arg17 (by decide)
/-- `main_arg18` ends as launched. -/
theorem W10_main_arg18 (c : Dev nD) : W10 m ρ c (Proc.devRef .tc main_arg18) = m ((c : Thread nD τ).loc main_arg18) :=
  W10_args m ρ c main_arg18 (by decide)
/-- `main_arg19` ends as launched. -/
theorem W10_main_arg19 (c : Dev nD) : W10 m ρ c (Proc.devRef .tc main_arg19) = m ((c : Thread nD τ).loc main_arg19) :=
  W10_args m ρ c main_arg19 (by decide)
/-- `main_arg20` ends as launched. -/
theorem W10_main_arg20 (c : Dev nD) : W10 m ρ c (Proc.devRef .tc main_arg20) = m ((c : Thread nD τ).loc main_arg20) :=
  W10_args m ρ c main_arg20 (by decide)
/-- `main_arg21` ends as launched. -/
theorem W10_main_arg21 (c : Dev nD) : W10 m ρ c (Proc.devRef .tc main_arg21) = m ((c : Thread nD τ).loc main_arg21) :=
  W10_args m ρ c main_arg21 (by decide)
/-- `main_arg22` ends as launched. -/
theorem W10_main_arg22 (c : Dev nD) : W10 m ρ c (Proc.devRef .tc main_arg22) = m ((c : Thread nD τ).loc main_arg22) :=
  W10_args m ρ c main_arg22 (by decide)

/-- The two pipelines are admissible. -/
abbrev adm : (p : Fin 2) → (pcfgs (F := F) p).Adm := fun p => (cfgs p).toPCfg_adm
/-- The two pipelines' proof data at their entry contents. -/
def pdats : (p : Fin 2) → (c : Dev nD) → Dat τ (Elt F) Unit ℕ (UR sig nD τ) ℕ (Pipeline.pin (pcfgs (F := F)) adm p) c
  | ⟨0, _⟩ => fun c => dat0 (V7 m ρ) c
  | ⟨1, _⟩ => fun c => dat1 (V9 m ρ) c
/-- No loop carries a variant. -/
abbrev 𝒱₀ : Variants := Variants.none
/-- Nothing is owed between cores. -/
abbrev L : GSem nD τ sig → Finset Unit := fun _ => ∅
/-- Every counter is at level zero. -/
abbrev lv : GSem nD τ sig → Unit → ℕ := fun _ _ => 0
/-- What rides along: the generator register and nothing owed. -/
abbrev R (c : Dev nD) : sProp 𝕄 := iprop((∃ r, prngReg c r) ∗ ∃ W, owes (c : Thread nD τ) (0 : CellTallies nD τ sig Unit) W)
/-- A stretch of host operations as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped reference is among those held through the run. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- What the core holds at the end. -/
abbrev Tₙ (c : Dev nD) : sProp 𝕄 := iprop(StableHlo.held (c : Thread nD τ) (Pipeline.ucRefs τ sig) (W10 m ρ c) ∗ ∃ r, prngReg c r)

set_option backward.isDefEq.respectTransparency.types false in
/-- The encoder as a segment of the run. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V7 m ρ) c).loose
  hwaits := Pipeline.hwaits_of_owed_zero _ _ _ _ L lv 0 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec0 c (V7 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V7 m ρ c) (A_eq0 (V7 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (PhiS_in (V7 m ρ) c)
    unfold Pipeline.ΦA
    iintro ⟨Hp, -, Hr⟩
    isplitl [Hr]; · iexact Hr
    iexact Hp
  hout c := by
    rw [Pipeline.ownSems0_none]
    refine (PhiS_out (V7 m ρ) c cfg0.N).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V7 m ρ c) (V8 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The head as a segment of the run. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V9 m ρ) c).loose
  hwaits := Pipeline.hwaits_of_owed_zero _ _ _ _ L lv 1 fun _ _ => rfl
  pre c := iprop(StableHlo.held (c : Thread nD τ) (Pipeline.ucRefs τ sig) (W9 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V9 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V9 m ρ c) (A_eq1 (V9 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V9 m ρ c) (V10 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The run's segments in order. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .host (hseg hostOps0_5 hostOps0_5_sub hostOps0_5_fresh (W5 m ρ)),
    .host (hseg hostOps0_6 hostOps0_6_sub hostOps0_6_fresh (W6 m ρ)),
    .region (reg0 m ρ),
    .host (hseg hostOps1 hostOps1_sub hostOps1_fresh (W8 m ρ)),
    .region (reg1 m ρ) ]
/-- The printed program is those segments in order. -/
theorem main_run (c : Dev nD) : main (F := F) c = Pipeline.Seg.run (segs m ρ) := (main_chain c).trans (by chain_rfl)

/-- Every counter of the core belongs to a region. -/
theorem no_unscoped : ∀ sm : SemLoc sig, sm.isScoped .tc = true := by decide

set_option backward.isDefEq.respectTransparency.types false in
/-- The whole run: every execution ends, with every held buffer at the last boundary's contents and every counter zero. -/
theorem main_runs : θ_run defs (onTc (τ := τ) (main (F := F))) ⟨m, fun _ => 0, ρ⟩ (fun r => (∀ c : Dev nD,
      ∀ b ∈ Pipeline.ucRefs τ sig, r.2.mem (((c : Thread nD τ)).1, b) = W10 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h hz => ⟨h, funext fun g => hz g (.inr (no_unscoped g.2))⟩)

/-- The arguments are unchanged by the run. -/
theorem args_kept (s : MemSt nD τ sig (Elt F)) (h : ∀ c : Dev nD, ∀ b ∈ Pipeline.ucRefs τ sig, s.mem (((c : Thread nD τ)).1, b) = W10 m ρ c b) (c : Dev nD) :
      s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9)
      ∧ s.mem ((c.tc : Thread nD τ).loc main_arg10) = m ((c.tc : Thread nD τ).loc main_arg10)
      ∧ s.mem ((c.tc : Thread nD τ).loc main_arg11) = m ((c.tc : Thread nD τ).loc main_arg11)
      ∧ s.mem ((c.tc : Thread nD τ).loc main_arg12) = m ((c.tc : Thread nD τ).loc main_arg12)
      ∧ s.mem ((c.tc : Thread nD τ).loc main_arg13) = m ((c.tc : Thread nD τ).loc main_arg13)
      ∧ s.mem ((c.tc : Thread nD τ).loc main_arg14) = m ((c.tc : Thread nD τ).loc main_arg14)
      ∧ s.mem ((c.tc : Thread nD τ).loc main_arg15) = m ((c.tc : Thread nD τ).loc main_arg15)
      ∧ s.mem ((c.tc : Thread nD τ).loc main_arg16) = m ((c.tc : Thread nD τ).loc main_arg16)
      ∧ s.mem ((c.tc : Thread nD τ).loc main_arg17) = m ((c.tc : Thread nD τ).loc main_arg17)
      ∧ s.mem ((c.tc : Thread nD τ).loc main_arg18) = m ((c.tc : Thread nD τ).loc main_arg18)
      ∧ s.mem ((c.tc : Thread nD τ).loc main_arg19) = m ((c.tc : Thread nD τ).loc main_arg19)
      ∧ s.mem ((c.tc : Thread nD τ).loc main_arg20) = m ((c.tc : Thread nD τ).loc main_arg20)
      ∧ s.mem ((c.tc : Thread nD τ).loc main_arg21) = m ((c.tc : Thread nD τ).loc main_arg21)
      ∧ s.mem ((c.tc : Thread nD τ).loc main_arg22) = m ((c.tc : Thread nD τ).loc main_arg22) :=
      ⟨(h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c),
       (h c _ (mem_uc main_arg13 (by decide))).trans (W10_main_arg13 m ρ c),
       (h c _ (mem_uc main_arg14 (by decide))).trans (W10_main_arg14 m ρ c),
       (h c _ (mem_uc main_arg15 (by decide))).trans (W10_main_arg15 m ρ c),
       (h c _ (mem_uc main_arg16 (by decide))).trans (W10_main_arg16 m ρ c),
       (h c _ (mem_uc main_arg17 (by decide))).trans (W10_main_arg17 m ρ c),
       (h c _ (mem_uc main_arg18 (by decide))).trans (W10_main_arg18 m ρ c),
       (h c _ (mem_uc main_arg19 (by decide))).trans (W10_main_arg19 m ρ c),
       (h c _ (mem_uc main_arg20 (by decide))).trans (W10_main_arg20 m ρ c),
       (h c _ (mem_uc main_arg21 (by decide))).trans (W10_main_arg21 m ρ c),
       (h c _ (mem_uc main_arg22 (by decide))).trans (W10_main_arg22 m ρ c)⟩

/-- The frame: every execution ends, the arguments unchanged and every counter zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22))
      ∧ r.2.sem = fun _ => 0) :=
  (θ_run defs _ _).mono (fun r h => ⟨args_kept m ρ r.2 h.1, h.2⟩) (main_runs m ρ)

/-- The result's buffer ends at the last boundary's contents, the arguments unchanged. -/
theorem result_runs : θ_run defs (onTc (τ := τ) (main (F := F))) ⟨m, fun _ => 0, ρ⟩ (fun r => ∀ c : Dev nD,
      r.2.mem ((c.tc : Thread nD τ).loc main_v73) = W10 m ρ c (Proc.devRef .tc main_v73) ∧
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  (θ_run defs _ _).mono (fun r h c => ⟨h.1 c _ (mem_uc main_v73 (by decide)), args_kept m ρ r.2 h.1 c⟩) (main_runs m ρ)

end Cert.KernelIdeal.Enc

end
-- ==== Proof.Value.Pre.lean ====
/- What the precondition says of the argument arrays: every species is one of six, and the three second biases vanish. -/
module

public import proofs.«01_k».proof.Pre_species_and_zero_bias
public import Idealize.ShloMosaic.Lib.ReduceAll
public import Idealize.ShloMosaic.Lib.Pointwise
public import Idealize.ShloMosaic.PureOps.Ideal

@[expose] public section

noncomputable section

namespace Cert.Value

open Idealize.ShloMosaic

/-- The precondition's shape facts. -/
instance preFacts : Cert.Pre_species_and_zero_bias.Facts where
  bcast_S_S8x286x1 := by decide
  reducesTo_S8x286x1_S_d0_1_2 := by decide
  h_S_ := by decide
  bcast_S_S32 := by decide
  reducesTo_S32_S_d0 := by decide
  bcast_S_S64 := by decide
  reducesTo_S64_S_d0 := by decide

/-- A conjunction of two bits is one when both are. -/
theorem andi_one (a b : BitVec 1) : IntOp.andi a b = 1#1 ↔ a = 1#1 ∧ b = 1#1 := by revert a b; decide
/-- A word between 0 and 6, both as signed comparisons, is the word of a number below six. -/
theorem word_six (w : BitVec 32) (h0 : IntOp.cmpi .sge w 0#32 = 1#1) (h6 : IntOp.cmpi .slt w 6#32 = 1#1) :
    ∃ k : Fin 6, w = BitVec.ofNat 32 k.val := by
  have a : (0#32).sle w = true := by
    revert h0; unfold IntOp.cmpi; cases (0#32).sle w <;> simp
  have b : w.slt 6#32 = true := by
    revert h6; unfold IntOp.cmpi; cases w.slt 6#32 <;> simp
  have lt : w.toNat < 6 := by
    rw [BitVec.sle_eq_decide] at a
    rw [BitVec.slt_eq_decide] at b
    have a := of_decide_eq_true a
    have b := of_decide_eq_true b
    simp only [BitVec.toInt_eq_toNat_cond] at a b
    simp at a b
    omega
  exact ⟨⟨w.toNat, lt⟩, by simp⟩
/-- A float compared equal to zero is zero. -/
theorem zero_of_oeq (x : EReal) (h : FloatOps.cmpf (F := Ideal) (φ := .f32) .oeq x (FloatOps.ofBits (F := Ideal) .f32 0x00000000#32) = 1#1) : x = 0 := by
  by_contra hx
  revert h
  pointwise []
  simp [hx]

section
variable (main_arg0 : FVec Ideal Cert.Pre_species_and_zero_bias.S8x286x3 .f32) (main_arg1 : IVec Cert.Pre_species_and_zero_bias.S8x286x1 32) (main_arg2 : FVec Ideal Cert.Pre_species_and_zero_bias.S6x4 .f32) (main_arg3 : FVec Ideal Cert.Pre_species_and_zero_bias.S3x32 .f32) (main_arg4 : FVec Ideal Cert.Pre_species_and_zero_bias.S32 .f32) (main_arg5 : FVec Ideal Cert.Pre_species_and_zero_bias.S32x32 .f32) (main_arg6 : FVec Ideal Cert.Pre_species_and_zero_bias.S32 .f32) (main_arg7 : FVec Ideal Cert.Pre_species_and_zero_bias.S3x32 .f32) (main_arg8 : FVec Ideal Cert.Pre_species_and_zero_bias.S32 .f32) (main_arg9 : FVec Ideal Cert.Pre_species_and_zero_bias.S32x64 .f32) (main_arg10 : FVec Ideal Cert.Pre_species_and_zero_bias.S64 .f32) (main_arg11 : FVec Ideal Cert.Pre_species_and_zero_bias.S3x32 .f32) (main_arg12 : FVec Ideal Cert.Pre_species_and_zero_bias.S32 .f32) (main_arg13 : FVec Ideal Cert.Pre_species_and_zero_bias.S32x64 .f32) (main_arg14 : FVec Ideal Cert.Pre_species_and_zero_bias.S64 .f32) (main_arg15 : FVec Ideal Cert.Pre_species_and_zero_bias.S24x24 .f32) (main_arg16 : FVec Ideal Cert.Pre_species_and_zero_bias.S24 .f32) (main_arg17 : FVec Ideal Cert.Pre_species_and_zero_bias.S24 .f32) (main_arg18 : FVec Ideal Cert.Pre_species_and_zero_bias.S24 .f32) (main_arg19 : FVec Ideal Cert.Pre_species_and_zero_bias.S24x48 .f32) (main_arg20 : FVec Ideal Cert.Pre_species_and_zero_bias.S48 .f32) (main_arg21 : FVec Ideal Cert.Pre_species_and_zero_bias.S48 .f32) (main_arg22 : FVec Ideal Cert.Pre_species_and_zero_bias.S48 .f32)

/-- The precondition, spelt out: species below six, second biases zero. -/
theorem pre_means (h : Cert.Pre_species_and_zero_bias.fn (F := Ideal) main_arg0 main_arg1 main_arg2 main_arg3 main_arg4 main_arg5 main_arg6 main_arg7 main_arg8 main_arg9 main_arg10 main_arg11 main_arg12 main_arg13 main_arg14 main_arg15 main_arg16 main_arg17 main_arg18 main_arg19 main_arg20 main_arg21 main_arg22 = fun _ => 1#1) :
    (∀ b j, ∃ k : Fin 6, main_arg1 (ix3 b j 0) = BitVec.ofNat 32 k.val) ∧ (∀ q, main_arg6 (ix1 q) = 0) ∧ (∀ q, main_arg10 (ix1 q) = 0) ∧ (∀ q, main_arg14 (ix1 q) = 0) := by
  have sub : Subsingleton Cert.Pre_species_and_zero_bias.S_.Idx := ⟨fun a b => funext fun i => i.elim0⟩
  have pre := congrFun h (fun a => a.elim0)
  simp only [Cert.Pre_species_and_zero_bias.fn, Cert.Pre_species_and_zero_bias.fn_part1, andi, andi_one] at pre
  obtain ⟨⟨⟨hz, h6⟩, h10⟩, h14⟩ := pre
  refine ⟨fun b j => ?_, fun q => ?_, fun q => ?_, fun q => ?_⟩
  · have e := (andi_one _ _).1 (Host.reduce_andi_all _ _ _ _ _ hz (ix3 b j 0))
    exact word_six _ e.1 e.2
  · exact zero_of_oeq _ (Host.reduce_andi_all _ _ _ _ _ h6 (ix1 q))
  · exact zero_of_oeq _ (Host.reduce_andi_all _ _ _ _ _ h10 (ix1 q))
  · exact zero_of_oeq _ (Host.reduce_andi_all _ _ _ _ _ h14 (ix1 q))

end

end Cert.Value
-- ==== Proof.Value.Spec.lean ====
/- The network in plain extended-real arithmetic, entry by entry: distances between atoms, the radial network's cosine
   basis and hidden layer, one convolution, the pooled norm, and the head. Both programs are read down to these. -/
module

public import Idealize.ShloMosaic.Lib.Pointwise

@[expose] public section

noncomputable section

namespace Cert.Value

open Idealize.ShloMosaic

/-- The cutoff radius 3. -/
abbrev three : EReal := Ideal.ofBits .f32 0x40400000#32
/-- The basis functions' spacing 1.5. -/
abbrev step : EReal := Ideal.ofBits .f32 0x3FC00000#32
/-- The softplus sharpness 5. -/
abbrev five : EReal := Ideal.ofBits .f32 0x40A00000#32
/-- Half of π, rounded. -/
abbrev hpi : EReal := Ideal.ofBits .f32 0x3FC90FDB#32
/-- The distance's offset. -/
abbrev eps : EReal := Ideal.ofBits .f32 0x3089705F#32

/-- The distance of two points, offset inside the root. -/
def distOf (x y : Fin 3 → EReal) : EReal :=
  Ideal.sqrt ((x 0 - y 0) * (x 0 - y 0) + (x 1 - y 1) * (x 1 - y 1) + (x 2 - y 2) * (x 2 - y 2) + eps)
/-- Whether a distance lies inside the cutoff, as 0 or 1. -/
def maskOf (r : EReal) : EReal := if r < three then 1 else 0
/-- A distance relative to basis centre `k`. -/
def relOf (r : EReal) (k : Fin 3) : EReal :=
  Ideal.div (r - FloatOps.sitofp (F := Ideal) .f32 (BitVec.ofNat 32 k.val) * step) step
/-- The cosine basis. -/
def basisOf (r : EReal) (k : Fin 3) : EReal :=
  if FloatOps.absf (F := Ideal) (φ := .f32) (relOf r k) < 1 then Ideal.cos (hpi * relOf r k) * Ideal.cos (hpi * relOf r k) else 0
/-- A hidden unit before its softplus, sharpened. -/
def preOf (w : Fin 3 → EReal) (b : EReal) (r : EReal) : EReal := five * ((∑ k : Fin 3, basisOf r k * w k) + b)
/-- The softplus of a sharpened value. -/
def softOf (a : EReal) : EReal :=
  Ideal.div (max a 0 + Ideal.log1p (Ideal.exp (0 - FloatOps.absf (F := Ideal) (φ := .f32) a))) five

end Cert.Value
-- ==== Proof.Value.Conv.lean ====
/- One convolution and the pooled norm in plain extended-real arithmetic, and the sums that bring the tiled, padded
   form of the convolution to the plain one. -/
module

public import proofs.«01_k».proof.Proof.Value.Spec
public import Idealize.ShloMosaic.Lib.IdealHost

@[expose] public section

noncomputable section

namespace Cert.Value

open Idealize.ShloMosaic

/-- The neighbours of an atom: how many distances in the row lie inside the cutoff, at least one. -/
def nbrs (r : Fin 286 → EReal) : EReal := max (∑ j : Fin 286, maskOf (r j)) 1
/-- An atom's convolution: over its neighbours and the incoming features, the radial network's kernel entry times the
    neighbour's feature, divided by the number of neighbours. -/
def convOf {d : ℕ} (r : Fin 286 → Fin 286 → EReal) (w0 : Fin 3 → Fin 32 → EReal) (b0 : Fin 32 → EReal)
    (w1 : Fin 32 → Fin 8 → Fin d → EReal) (f : Fin 286 → Fin d → EReal) (i : Fin 286) (o : Fin 8) : EReal :=
  Ideal.div (∑ j : Fin 286, ∑ c : Fin d,
    ((∑ k : Fin 32, softOf (preOf (fun a => w0 a k) (b0 k) (r i j)) * w1 k o c) * maskOf (r i j)) * f j c) (nbrs (r i))

/-- The three layers' columns side by side, each layer fed the one before. -/
def layersOf (r : Fin 286 → Fin 286 → EReal) (w0 : Fin 3 → Fin 3 → Fin 32 → EReal) (b0 : Fin 3 → Fin 32 → EReal)
    (wa : Fin 32 → Fin 8 → Fin 4 → EReal) (wb wc : Fin 32 → Fin 8 → Fin 8 → EReal) (f : Fin 286 → Fin 4 → EReal) (i : Fin 286) (q : Fin 24) : EReal :=
  if h : q.val < 8 then convOf r (w0 0) (b0 0) wa f i ⟨q.val, h⟩
  else if h : q.val - 8 < 8 then convOf r (w0 1) (b0 1) wb (convOf r (w0 0) (b0 0) wa f) i ⟨q.val - 8, h⟩
  else convOf r (w0 2) (b0 2) wc (convOf r (w0 1) (b0 1) wb (convOf r (w0 0) (b0 0) wa f)) i ⟨q.val - 16, by omega⟩

/-- The mask is zero or one. -/
theorem mask_or (r : EReal) : maskOf r = 0 ∨ maskOf r = 1 := by
  unfold maskOf; split
  · exact Or.inr rfl
  · exact Or.inl rfl
/-- The mask is not negative. -/
theorem mask_nonneg (r : EReal) : 0 ≤ maskOf r := by
  rcases mask_or r with h | h <;> rw [h]
  exact zero_le_one
/-- The neighbour count is not zero. -/
theorem nbrs_ne (r : Fin 286 → EReal) : nbrs r ≠ 0 :=
  ne_of_gt (lt_of_lt_of_le zero_lt_one (le_max_right _ _))

/-- A factor of 0 or 1 comes out of a weighted sum. -/
theorem sum_mask {ι : Type} [Fintype ι] (h w : ι → EReal) (m : EReal) (hm : m = 0 ∨ m = 1) :
    (∑ k, (h k * m) * w k) = (∑ k, h k * w k) * m := by
  rcases hm with rfl | rfl
  · simp
  · simp

/-- A sum over the padded neighbours whose padding vanishes is the sum over the atoms. -/
theorem sum_pad (g : Fin 384 → EReal) (h : ∀ j : Fin 384, 286 ≤ j.val → g j = 0) :
    (∑ j : Fin 384, g j) = ∑ j : Fin 286, g ⟨j.val, by omega⟩ := by
  have e := Fin.sum_univ_add (a := 286) (b := 98) (fun j => g j)
  refine e.trans ?_
  rw [Finset.sum_eq_zero (s := Finset.univ) (f := fun i : Fin 98 => g (Fin.natAdd 286 i)) (fun i _ => h _ (by show 286 ≤ 286 + i.val; omega)), add_zero]
  rfl

/-- The column sums picked out by the selection matrix are one sum per output column. -/
theorem sum_pick {d : ℕ} (y : Fin (d * 8) → EReal) (s : Fin (d * 8) → EReal) (o : Fin 8)
    (hs : ∀ q : Fin (d * 8), s q = if q.val % 8 = o.val then 1 else 0) :
    (∑ q, y q * s q) = ∑ c : Fin d, y (finProdFinEquiv (c, o)) := by
  rw [← finProdFinEquiv.sum_comp, Fintype.sum_prod_type]
  refine Finset.sum_congr rfl fun c _ => ?_
  rw [Finset.sum_eq_single o]
  · rw [hs, if_pos, mul_one]
    show (o.val + 8 * c.val) % 8 = o.val
    omega
  · intro p _ hp
    rw [hs, if_neg, mul_zero]
    show ¬ (p.val + 8 * c.val) % 8 = o.val
    intro h
    exact hp (Fin.ext (by omega))
  · intro h; exact absurd (Finset.mem_univ _) h

/-- The tiled convolution is the plain one. -/
theorem conv_tiled {d : ℕ} (hm : Fin 384 → Fin 32 → EReal) (inv : EReal) (w : Fin 32 → Fin (d * 8) → EReal) (s : Fin (d * 8) → EReal)
    (F : Fin 384 → Fin (d * 8) → EReal)
    (r : Fin 286 → Fin 286 → EReal) (w0 : Fin 3 → Fin 32 → EReal) (b0 : Fin 32 → EReal) (w1 : Fin 32 → Fin 8 → Fin d → EReal) (f : Fin 286 → Fin d → EReal) (i : Fin 286) (o : Fin 8)
    (hh : ∀ (j : Fin 286) k, hm ⟨j.val, by omega⟩ k = softOf (preOf (fun a => w0 a k) (b0 k) (r i j)) * maskOf (r i j))
    (h0 : ∀ (j : Fin 384) k, 286 ≤ j.val → hm j k = 0)
    (hinv : inv = Ideal.div 1 (nbrs (r i)))
    (hw : ∀ k (c : Fin d) (o : Fin 8), w k (finProdFinEquiv (c, o)) = w1 k o c)
    (hs : ∀ q : Fin (d * 8), s q = if q.val % 8 = o.val then 1 else 0)
    (hf : ∀ (j : Fin 286) (c : Fin d) (o : Fin 8), F ⟨j.val, by omega⟩ (finProdFinEquiv (c, o)) = f j c) :
    (∑ q, (∑ j, (∑ k, hm j k * w k q) * F j q) * s q) * inv = convOf r w0 b0 w1 f i o := by
  rw [sum_pick _ _ o hs, hinv, Ideal.mul_one_div (nbrs_ne _)]
  unfold convOf
  refine congrArg (fun x => Ideal.div x _) ?_
  have e : ∀ c : Fin d, (∑ j, (∑ k, hm j k * w k (finProdFinEquiv (c, o))) * F j (finProdFinEquiv (c, o)))
      = ∑ j : Fin 286, ((∑ k : Fin 32, softOf (preOf (fun a => w0 a k) (b0 k) (r i j)) * w1 k o c) * maskOf (r i j)) * f j c := by
    intro c
    rw [sum_pad]
    · refine Finset.sum_congr rfl fun j _ => ?_
      rw [hf, ← sum_mask _ _ _ (mask_or _)]
      simp only [hh, hw]
    · intro j hj
      simp only [h0 j _ hj, zero_mul, Finset.sum_const_zero]
  simp only [e]
  exact Finset.sum_comm

end Cert.Value
-- ==== Proof.Value.HeadSpec.lean ====
/- The network's head in plain extended-real arithmetic: an affine layer, its normalisation over the eight molecules,
   and the leaky rectifier. -/
module

public import proofs.«01_k».proof.Proof.Value.Conv

@[expose] public section

noncomputable section

namespace Cert.Value

open Idealize.ShloMosaic

/-- The rectifier's slope on negative inputs. -/
def slope : EReal := FloatOps.ofBits (F := Ideal) .f32 0x3E4CCCCD#32
/-- The number of molecules. -/
def eight : EReal := FloatOps.ofBits (F := Ideal) .f32 0x41000000#32
/-- What the variance is kept above zero by. -/
def tiny : EReal := FloatOps.ofBits (F := Ideal) .f32 0x3727C5AC#32

/-- An affine layer. -/
def affOf {n m : ℕ} (x : Fin 8 → Fin n → EReal) (w : Fin n → Fin m → EReal) (b : Fin m → EReal) (p : Fin 8) (q : Fin m) : EReal :=
  (∑ k : Fin n, x p k * w k q) + b q
/-- A column's mean over the molecules. -/
def meanOf {m : ℕ} (y : Fin 8 → Fin m → EReal) (q : Fin m) : EReal := Ideal.div (∑ p : Fin 8, y p q) eight
/-- A column's variance over the molecules. -/
def varOf {m : ℕ} (y : Fin 8 → Fin m → EReal) (q : Fin m) : EReal :=
  Ideal.div (∑ p : Fin 8, (y p q - meanOf y q) * (y p q - meanOf y q)) eight
/-- The columns centred, scaled to unit variance, and given a gain and a shift. -/
def normOf {m : ℕ} (y : Fin 8 → Fin m → EReal) (g s : Fin m → EReal) (p : Fin 8) (q : Fin m) : EReal :=
  Ideal.div (g q * (y p q - meanOf y q)) (Ideal.sqrt (varOf y q + tiny)) + s q
/-- The leaky rectifier. -/
def leakOf (y : EReal) : EReal := if 0 ≤ y then y else slope * y
/-- The head: two affine layers, each normalised and rectified. -/
def headOf (x : Fin 8 → Fin 24 → EReal) (w0 : Fin 24 → Fin 24 → EReal) (b0 g0 s0 : Fin 24 → EReal)
    (w1 : Fin 24 → Fin 48 → EReal) (b1 g1 s1 : Fin 48 → EReal) (p : Fin 8) (q : Fin 48) : EReal :=
  leakOf (normOf (affOf (fun p k => leakOf (normOf (affOf x w0 b0) g0 s0 p k)) w1 b1) g1 s1 p q)

end Cert.Value
-- ==== Proof.Value.HeadPayK.lean ====
/- The head's payload read at an index over the extended reals. -/
module

public import proofs.«01_k».proof.Proof.KernelIdeal.Head
public import proofs.«01_k».proof.Proof.Value.HeadSpec
public import Idealize.ShloMosaic.Lib.Pipeline.ValueKit
public import Idealize.ShloMosaic.Lib.Pointwise

@[expose] public section

set_option maxRecDepth 16384

noncomputable section

namespace Cert.KernelIdeal.Enc

open Idealize.ShloMosaic Idealize.ShloMosaic.TcCoe Idealize.SL Idealize.SL.Sem
open Cert.KernelIdeal Cert.KernelIdeal.Gen
open Cert.Value

/-- The first normalised layer. -/
theorem k1_pay1_apply (v0 : FVec Ideal S8x24 .f32) (v4 : FVec Ideal S24x24 .f32) (v7 v11 v13 : FVec Ideal S1x24 .f32) (p : Fin 8) (q : Fin 24) :
    k1_pay1 (F := Ideal) v0 v4 v7 v11 v13 (ix2 p q)
      = normOf (affOf (fun p k => v0 (ix2 p k)) (fun k q => v4 (ix2 k q)) (fun q => v7 (ix2 0 q))) (fun q => v11 (ix2 0 q)) (fun q => v13 (ix2 0 q)) p q := by
  pointwise [k1_pay1, normOf, varOf, meanOf, affOf]
  rfl

/-- The head's output entry. -/
theorem k1_pay4_apply (x0 : FVec Ideal S8x24 .f32) (x1 : FVec Ideal S24x24 .f32) (x2 x3 x4 : FVec Ideal S1x24 .f32)
    (x5 : FVec Ideal S24x48 .f32) (x6 x7 x8 : FVec Ideal S1x48 .f32) (p : Fin 8) (q : Fin 48) :
    k1_pay4 (F := Ideal) (k1_pay1 (F := Ideal) x0 x1 x2 x3 x4) (k1_pay2 (F := Ideal) x0 x1 x2 x3 x4) (k1_pay3 (F := Ideal)) x5 x6 x7 x8 (ix2 p q)
      = headOf (fun p k => x0 (ix2 p k)) (fun k q => x1 (ix2 k q)) (fun q => x2 (ix2 0 q)) (fun q => x3 (ix2 0 q)) (fun q => x4 (ix2 0 q))
          (fun k q => x5 (ix2 k q)) (fun q => x6 (ix2 0 q)) (fun q => x7 (ix2 0 q)) (fun q => x8 (ix2 0 q)) p q := by
  pointwise [k1_pay4, k1_pay2, k1_pay3, k1_pay1_apply, headOf, normOf, varOf, meanOf, affOf, leakOf]
  rfl

end Cert.KernelIdeal.Enc
-- ==== Proof.Value.HeadBlkK.lean ====
/- The head's blocks: each input block is its whole array, and the output array after the call is the head's buffer. -/
module

public import proofs.«01_k».proof.Proof.KernelIdeal.Head
public import Idealize.ShloMosaic.Lib.Pipeline.ValueKit
public import Idealize.ShloMosaic.Lib.Pointwise

@[expose] public section

set_option maxRecDepth 16384

noncomputable section

namespace Cert.KernelIdeal.Enc

open Idealize.ShloMosaic Idealize.ShloMosaic.TcCoe Idealize.SL Idealize.SL.Sem
open Cert.KernelIdeal Cert.KernelIdeal.Gen

variable (V : (c : Dev nD) → (b : Ref sig .tc) → Buf (Elt Ideal) ((c : Thread nD τ).loc b))

/-- Window 0 of the head stands at the origin. -/
theorem idx1_0 : ∀ t : Fin cfg1.N, win1_0.index t = ![0, 0] := (by decide +kernel : ∀ t : Fin grid1.N, _)
/-- Window 0's block is its array. -/
theorem blk1_0 (c : Dev nD) (t : Fin cfg1.N) : iblk1 V c 0 t = (V c main_v62 : S8x24.Idx → EReal) := by
  have e := idx1_0 t
  funext y
  unfold iblk1
  refine congrArg (V c main_v62 : S8x24.Idx → EReal) ?_
  blk_ext [e]

/-- Window 1 of the head stands at the origin. -/
theorem idx1_1 : ∀ t : Fin cfg1.N, win1_1.index t = ![0, 0] := (by decide +kernel : ∀ t : Fin grid1.N, _)
/-- Window 1's block is its array. -/
theorem blk1_1 (c : Dev nD) (t : Fin cfg1.N) : iblk1 V c 1 t = (V c main_v64 : S24x24.Idx → EReal) := by
  have e := idx1_1 t
  funext y
  unfold iblk1
  refine congrArg (V c main_v64 : S24x24.Idx → EReal) ?_
  blk_ext [e]

/-- Window 2 of the head stands at the origin. -/
theorem idx1_2 : ∀ t : Fin cfg1.N, win1_2.index t = ![0, 0] := (by decide +kernel : ∀ t : Fin grid1.N, _)
/-- Window 2's block is its array. -/
theorem blk1_2 (c : Dev nD) (t : Fin cfg1.N) : iblk1 V c 2 t = (V c main_v65 : S1x24.Idx → EReal) := by
  have e := idx1_2 t
  funext y
  unfold iblk1
  refine congrArg (V c main_v65 : S1x24.Idx → EReal) ?_
  blk_ext [e]

/-- Window 3 of the head stands at the origin. -/
theorem idx1_3 : ∀ t : Fin cfg1.N, win1_3.index t = ![0, 0] := (by decide +kernel : ∀ t : Fin grid1.N, _)
/-- Window 3's block is its array. -/
theorem blk1_3 (c : Dev nD) (t : Fin cfg1.N) : iblk1 V c 3 t = (V c main_v66 : S1x24.Idx → EReal) := by
  have e := idx1_3 t
  funext y
  unfold iblk1
  refine congrArg (V c main_v66 : S1x24.Idx → EReal) ?_
  blk_ext [e]

/-- Window 4 of the head stands at the origin. -/
theorem idx1_4 : ∀ t : Fin cfg1.N, win1_4.index t = ![0, 0] := (by decide +kernel : ∀ t : Fin grid1.N, _)
/-- Window 4's block is its array. -/
theorem blk1_4 (c : Dev nD) (t : Fin cfg1.N) : iblk1 V c 4 t = (V c main_v67 : S1x24.Idx → EReal) := by
  have e := idx1_4 t
  funext y
  unfold iblk1
  refine congrArg (V c main_v67 : S1x24.Idx → EReal) ?_
  blk_ext [e]

/-- Window 5 of the head stands at the origin. -/
theorem idx1_5 : ∀ t : Fin cfg1.N, win1_5.index t = ![0, 0] := (by decide +kernel : ∀ t : Fin grid1.N, _)
/-- Window 5's block is its array. -/
theorem blk1_5 (c : Dev nD) (t : Fin cfg1.N) : iblk1 V c 5 t = (V c main_v69 : S24x48.Idx → EReal) := by
  have e := idx1_5 t
  funext y
  unfold iblk1
  refine congrArg (V c main_v69 : S24x48.Idx → EReal) ?_
  blk_ext [e]

/-- Window 6 of the head stands at the origin. -/
theorem idx1_6 : ∀ t : Fin cfg1.N, win1_6.index t = ![0, 0] := (by decide +kernel : ∀ t : Fin grid1.N, _)
/-- Window 6's block is its array. -/
theorem blk1_6 (c : Dev nD) (t : Fin cfg1.N) : iblk1 V c 6 t = (V c main_v70 : S1x48.Idx → EReal) := by
  have e := idx1_6 t
  funext y
  unfold iblk1
  refine congrArg (V c main_v70 : S1x48.Idx → EReal) ?_
  blk_ext [e]

/-- Window 7 of the head stands at the origin. -/
theorem idx1_7 : ∀ t : Fin cfg1.N, win1_7.index t = ![0, 0] := (by decide +kernel : ∀ t : Fin grid1.N, _)
/-- Window 7's block is its array. -/
theorem blk1_7 (c : Dev nD) (t : Fin cfg1.N) : iblk1 V c 7 t = (V c main_v71 : S1x48.Idx → EReal) := by
  have e := idx1_7 t
  funext y
  unfold iblk1
  refine congrArg (V c main_v71 : S1x48.Idx → EReal) ?_
  blk_ext [e]

/-- Window 8 of the head stands at the origin. -/
theorem idx1_8 : ∀ t : Fin cfg1.N, win1_8.index t = ![0, 0] := (by decide +kernel : ∀ t : Fin grid1.N, _)
/-- Window 8's block is its array. -/
theorem blk1_8 (c : Dev nD) (t : Fin cfg1.N) : iblk1 V c 8 t = (V c main_v72 : S1x48.Idx → EReal) := by
  have e := idx1_8 t
  funext y
  unfold iblk1
  refine congrArg (V c main_v72 : S1x48.Idx → EReal) ?_
  blk_ext [e]

/-- The head's output window stands at the origin. -/
theorem idx1_9 : ∀ t : Fin cfg1.N, win1_9.index t = ![0, 0] := (by decide +kernel : ∀ t : Fin grid1.N, _)
/-- The head's output buffer is its payload. -/
theorem out1_9_eq (x0 : Vec Ideal S8x24 .f32) (x1 : Vec Ideal S24x24 .f32) (x2 x3 x4 : Vec Ideal S1x24 .f32) (x5 : Vec Ideal S24x48 .f32) (x6 x7 x8 : Vec Ideal S1x48 .f32) :
    out1_9 (F := Ideal) x0 x1 x2 x3 x4 x5 x6 x7 x8 = k1_pay4 (k1_pay1 x0 x1 x2 x3 x4) (k1_pay2 x0 x1 x2 x3 x4) (k1_pay3 (F := Ideal)) x5 x6 x7 x8 := by
  have z : ∀ a : Fin 2, (![0, 0] : Fin 2 → ℕ) a = 0 := by decide
  have e0 : View.ld x0 r1_0 = x0 := View.ld_unit_lit (Val := Elt Ideal) _ x0 z
  have e1 : View.ld x1 r1_1 = x1 := View.ld_unit_lit (Val := Elt Ideal) _ x1 z
  have e2 : View.ld x2 r1_2 = x2 := View.ld_unit_lit (Val := Elt Ideal) _ x2 z
  have e3 : View.ld x3 r1_2 = x3 := View.ld_unit_lit (Val := Elt Ideal) _ x3 z
  have e4 : View.ld x4 r1_2 = x4 := View.ld_unit_lit (Val := Elt Ideal) _ x4 z
  have e5 : View.ld x5 r1_3 = x5 := View.ld_unit_lit (Val := Elt Ideal) _ x5 z
  have e6 : View.ld x6 r1_4 = x6 := View.ld_unit_lit (Val := Elt Ideal) _ x6 z
  have e7 : View.ld x7 r1_4 = x7 := View.ld_unit_lit (Val := Elt Ideal) _ x7 z
  have e8 : View.ld x8 r1_4 = x8 := View.ld_unit_lit (Val := Elt Ideal) _ x8 z
  unfold out1_9
  rw [e0, e1, e2, e3, e4, e5, e6, e7, e8]
  exact View.canon_cons_unit_lit (Val := Elt Ideal) _ _ [] z
/-- The head's output array after the call. -/
theorem head_arr (c : Dev nD) :
    (dat1 V c).arrAt 9 cfg1.N = out1_9 (F := Ideal) (V c main_v62) (V c main_v64) (V c main_v65) (V c main_v66) (V c main_v67) (V c main_v69) (V c main_v70) (V c main_v71) (V c main_v72) := by
  refine (dat1 V c).arrAt_eq_of_covers 9 _ (by decide +kernel) fun t hf y => ?_
  have e := idx1_9 t
  blk_simp [e]
  rw [after1_9, blk1_0, blk1_1, blk1_2, blk1_3, blk1_4, blk1_5, blk1_6, blk1_7, blk1_8]
  refine congrArg (out1_9 _ _ _ _ _ _ _ _ _) ?_
  blk_ext [e]

end Cert.KernelIdeal.Enc
-- ==== Proof.Value.PayK.lean ====
/- The encoder body's payloads read at an index over the extended reals: distances, masks, hidden layers, inverse
   counts, one chunk of a convolution, and the pooled squares. -/
module

public import proofs.«01_k».proof.Proof.KernelIdeal.Step
public import proofs.«01_k».proof.Proof.Value.Spec
public import Idealize.ShloMosaic.Lib.Pointwise
public import Idealize.ShloMosaic.Lib.Routing.Words

@[expose] public section

set_option maxRecDepth 16384

noncomputable section

namespace Cert.KernelIdeal.Enc

open Idealize.ShloMosaic Idealize.SL.Sem
open Cert.KernelIdeal Cert.KernelIdeal.Gen
open Cert.Value

/-- A column of a [384, 8] array. -/
def colOf (f : FVec Ideal S384x8 .f32) (k : Fin 8) : FVec Ideal S384x1 .f32 := fun y => f (ix2 (y 0) k)
/-- A column eight times. -/
def rep8 (v : FVec Ideal S384x1 .f32) : FVec Ideal S384x8 .f32 :=
  concatenate S384x8 1 [⟨S384x1, v⟩, ⟨S384x1, v⟩, ⟨S384x1, v⟩, ⟨S384x1, v⟩, ⟨S384x1, v⟩, ⟨S384x1, v⟩, ⟨S384x1, v⟩, ⟨S384x1, v⟩] concatenates_S384x1_S384x1_S384x1_S384x1_S384x1_S384x1_S384x1_S384x1_S384x8_d1
/-- Each of the eight columns is the one repeated. -/
theorem rep8_apply (v : FVec Ideal S384x1 .f32) (j : Fin 384) (k : Fin 8) : rep8 v (ix2 j k) = v (ix2 j 0) := by
  pointwise [rep8]
  fin_vals k with hk
  all_goals simp only [hk, Nat.reduceSub, Nat.reduceLT, ↓reduceDIte]
  all_goals rfl
/-- The eight columns, each eight times, side by side. -/
def wide8 (f : FVec Ideal S384x8 .f32) : FVec Ideal S384x64 .f32 :=
  concatenate S384x64 1 [⟨S384x8, rep8 (colOf f 0)⟩, ⟨S384x8, rep8 (colOf f 1)⟩, ⟨S384x8, rep8 (colOf f 2)⟩, ⟨S384x8, rep8 (colOf f 3)⟩, ⟨S384x8, rep8 (colOf f 4)⟩, ⟨S384x8, rep8 (colOf f 5)⟩, ⟨S384x8, rep8 (colOf f 6)⟩, ⟨S384x8, rep8 (colOf f 7)⟩] concatenates_S384x8_S384x8_S384x8_S384x8_S384x8_S384x8_S384x8_S384x8_S384x64_d1
/-- The first four columns, each eight times, side by side. -/
def wide4 (f : FVec Ideal S384x8 .f32) : FVec Ideal S384x32 .f32 :=
  concatenate S384x32 1 [⟨S384x8, rep8 (colOf f 0)⟩, ⟨S384x8, rep8 (colOf f 1)⟩, ⟨S384x8, rep8 (colOf f 2)⟩, ⟨S384x8, rep8 (colOf f 3)⟩] concatenates_S384x8_S384x8_S384x8_S384x8_S384x32_d1
/-- Column `q` of the widened features is feature `q / 8`. -/
theorem wide4_apply (f : FVec Ideal S384x8 .f32) (j : Fin 384) (q : Fin 32) : wide4 f (ix2 j q) = f (ix2 j ⟨q.val / 8, by omega⟩) := by
  pointwise [wide4, rep8_apply, colOf]
  split_ifs
  all_goals exact congrArg (fun k => f (ix2 j k)) (Fin.ext (by simp; omega))
/-- Column `q` of the widened features is feature `q / 8`. -/
theorem wide8_apply (f : FVec Ideal S384x8 .f32) (j : Fin 384) (q : Fin 64) : wide8 f (ix2 j q) = f (ix2 j ⟨q.val / 8, by omega⟩) := by
  pointwise [wide8, rep8_apply, colOf]
  split_ifs
  all_goals exact congrArg (fun k => f (ix2 j k)) (Fin.ext (by simp; omega))

/-- The eightfold column, folded. -/
theorem fold_rep8 (v : FVec Ideal S384x1 .f32) :
    concatenate S384x8 1 [⟨S384x1, v⟩, ⟨S384x1, v⟩, ⟨S384x1, v⟩, ⟨S384x1, v⟩, ⟨S384x1, v⟩, ⟨S384x1, v⟩, ⟨S384x1, v⟩, ⟨S384x1, v⟩] concatenates_S384x1_S384x1_S384x1_S384x1_S384x1_S384x1_S384x1_S384x1_S384x8_d1 = rep8 v := rfl
/-- The eight widened columns, folded. -/
theorem fold_wide8 (f : FVec Ideal S384x8 .f32) :
    concatenate S384x64 1 [⟨S384x8, rep8 (colOf f 0)⟩, ⟨S384x8, rep8 (colOf f 1)⟩, ⟨S384x8, rep8 (colOf f 2)⟩, ⟨S384x8, rep8 (colOf f 3)⟩, ⟨S384x8, rep8 (colOf f 4)⟩, ⟨S384x8, rep8 (colOf f 5)⟩, ⟨S384x8, rep8 (colOf f 6)⟩, ⟨S384x8, rep8 (colOf f 7)⟩] concatenates_S384x8_S384x8_S384x8_S384x8_S384x8_S384x8_S384x8_S384x8_S384x64_d1 = wide8 f := rfl
/-- The four widened columns, folded. -/
theorem fold_wide4 (f : FVec Ideal S384x8 .f32) :
    concatenate S384x32 1 [⟨S384x8, rep8 (colOf f 0)⟩, ⟨S384x8, rep8 (colOf f 1)⟩, ⟨S384x8, rep8 (colOf f 2)⟩, ⟨S384x8, rep8 (colOf f 3)⟩] concatenates_S384x8_S384x8_S384x8_S384x8_S384x32_d1 = wide4 f := rfl
/-- The body's slice of column 0, among four; the roundings change nothing here. -/
theorem col4_0 (f : FVec Ideal S384x8 .f32) :
    extractStridedSlice S384x1 ![0, 0] (extf .f32 (truncf .bf16 (extractStridedSlice S384x4 ![0, 0] f slices_S384x8_o0_0_S384x4) bitsLt_bf16_f32) bitsLt_bf16_f32) slices_S384x4_o0_0_S384x1 = colOf f 0 := by
  funext y
  idx_vars y
  pointwise [colOf]
/-- The body's slice of column 1, among four; the roundings change nothing here. -/
theorem col4_1 (f : FVec Ideal S384x8 .f32) :
    extractStridedSlice S384x1 ![0, 1] (extf .f32 (truncf .bf16 (extractStridedSlice S384x4 ![0, 0] f slices_S384x8_o0_0_S384x4) bitsLt_bf16_f32) bitsLt_bf16_f32) slices_S384x4_o0_1_S384x1 = colOf f 1 := by
  funext y
  idx_vars y
  pointwise [colOf]
/-- The body's slice of column 2, among four; the roundings change nothing here. -/
theorem col4_2 (f : FVec Ideal S384x8 .f32) :
    extractStridedSlice S384x1 ![0, 2] (extf .f32 (truncf .bf16 (extractStridedSlice S384x4 ![0, 0] f slices_S384x8_o0_0_S384x4) bitsLt_bf16_f32) bitsLt_bf16_f32) slices_S384x4_o0_2_S384x1 = colOf f 2 := by
  funext y
  idx_vars y
  pointwise [colOf]
/-- The body's slice of column 3, among four; the roundings change nothing here. -/
theorem col4_3 (f : FVec Ideal S384x8 .f32) :
    extractStridedSlice S384x1 ![0, 3] (extf .f32 (truncf .bf16 (extractStridedSlice S384x4 ![0, 0] f slices_S384x8_o0_0_S384x4) bitsLt_bf16_f32) bitsLt_bf16_f32) slices_S384x4_o0_3_S384x1 = colOf f 3 := by
  funext y
  idx_vars y
  pointwise [colOf]
/-- The body's slice of column 0, among eight; the roundings change nothing here. -/
theorem col8_0 (f : FVec Ideal S384x8 .f32) :
    extractStridedSlice S384x1 ![0, 0] (extf .f32 (truncf .bf16 f bitsLt_bf16_f32) bitsLt_bf16_f32) slices_S384x8_o0_0_S384x1 = colOf f 0 := by
  funext y
  idx_vars y
  pointwise [colOf]
/-- The body's slice of column 1, among eight; the roundings change nothing here. -/
theorem col8_1 (f : FVec Ideal S384x8 .f32) :
    extractStridedSlice S384x1 ![0, 1] (extf .f32 (truncf .bf16 f bitsLt_bf16_f32) bitsLt_bf16_f32) slices_S384x8_o0_1_S384x1 = colOf f 1 := by
  funext y
  idx_vars y
  pointwise [colOf]
/-- The body's slice of column 2, among eight; the roundings change nothing here. -/
theorem col8_2 (f : FVec Ideal S384x8 .f32) :
    extractStridedSlice S384x1 ![0, 2] (extf .f32 (truncf .bf16 f bitsLt_bf16_f32) bitsLt_bf16_f32) slices_S384x8_o0_2_S384x1 = colOf f 2 := by
  funext y
  idx_vars y
  pointwise [colOf]
/-- The body's slice of column 3, among eight; the roundings change nothing here. -/
theorem col8_3 (f : FVec Ideal S384x8 .f32) :
    extractStridedSlice S384x1 ![0, 3] (extf .f32 (truncf .bf16 f bitsLt_bf16_f32) bitsLt_bf16_f32) slices_S384x8_o0_3_S384x1 = colOf f 3 := by
  funext y
  idx_vars y
  pointwise [colOf]
/-- The body's slice of column 4, among eight; the roundings change nothing here. -/
theorem col8_4 (f : FVec Ideal S384x8 .f32) :
    extractStridedSlice S384x1 ![0, 4] (extf .f32 (truncf .bf16 f bitsLt_bf16_f32) bitsLt_bf16_f32) slices_S384x8_o0_4_S384x1 = colOf f 4 := by
  funext y
  idx_vars y
  pointwise [colOf]
/-- The body's slice of column 5, among eight; the roundings change nothing here. -/
theorem col8_5 (f : FVec Ideal S384x8 .f32) :
    extractStridedSlice S384x1 ![0, 5] (extf .f32 (truncf .bf16 f bitsLt_bf16_f32) bitsLt_bf16_f32) slices_S384x8_o0_5_S384x1 = colOf f 5 := by
  funext y
  idx_vars y
  pointwise [colOf]
/-- The body's slice of column 6, among eight; the roundings change nothing here. -/
theorem col8_6 (f : FVec Ideal S384x8 .f32) :
    extractStridedSlice S384x1 ![0, 6] (extf .f32 (truncf .bf16 f bitsLt_bf16_f32) bitsLt_bf16_f32) slices_S384x8_o0_6_S384x1 = colOf f 6 := by
  funext y
  idx_vars y
  pointwise [colOf]
/-- The body's slice of column 7, among eight; the roundings change nothing here. -/
theorem col8_7 (f : FVec Ideal S384x8 .f32) :
    extractStridedSlice S384x1 ![0, 7] (extf .f32 (truncf .bf16 f bitsLt_bf16_f32) bitsLt_bf16_f32) slices_S384x8_o0_7_S384x1 = colOf f 7 := by
  funext y
  idx_vars y
  pointwise [colOf]

/-- A chunk's convolution over 4 input columns, the widened features given. -/
def convBy4 (w : FVec Ideal S32x32 .f32) (s : FVec Ideal S32x8 .f32) (fq : FVec Ideal S384x32 .f32) (h : FVec Ideal S6144x32 .bf16) (v : FVec Ideal S16x1 .f32) : FVec Ideal S16x8 .f32 :=
  mulf (matmul dot_S16x32_S32x8_S16x8_1_0_0_1_n_n (some .fp32)
    (multiReduction .add [1] S16x32
      (mulf (shapeCast S16x384x32 (extf .f32 (truncf .bf16 (matmul dot_S6144x32_S32x32_S6144x32_1_0_0_1_n_n (some .fp32) (extf .f32 h bitsLt_bf16_f32) (shapeCast S32x32 w shapeCasts_S32x32_S32x32) (constant S6144x32 .f32 0x00000000#32)) bitsLt_bf16_f32) bitsLt_bf16_f32) shapeCasts_S6144x32_S16x384x32)
        (broadcastTo S16x384x32 (shapeCast S1x384x32 fq shapeCasts_S384x32_S1x384x32) broadcasts_S1x384x32_S16x384x32))
      0x00000000#32 reduces_S16x384x32_S16x32 (.inl rfl) rfl) (shapeCast S32x8 s shapeCasts_S32x8_S32x8) (constant S16x8 .f32 0x00000000#32))
    (broadcastTo S16x8 v broadcasts_S16x1_S16x8)

/-- A chunk's convolution over 4 input columns, at coordinates. -/
theorem convBy4_apply (w : FVec Ideal S32x32 .f32) (s : FVec Ideal S32x8 .f32) (fq : FVec Ideal S384x32 .f32) (h : FVec Ideal S6144x32 .bf16) (v : FVec Ideal S16x1 .f32) (r : Fin 16) (o : Fin 8) :
    convBy4 w s fq h v (ix2 r o) = (∑ q : Fin 32, (∑ j : Fin 384, (∑ k : Fin 32, h (ix2 ⟨r.val * 384 + j.val, by omega⟩ k) * w (ix2 k q)) * fq (ix2 j q)) * s (ix2 q o)) * v (ix2 r 0) := by
  pointwise [convBy4]

/-- The body's first convolution is the one over four columns. -/
theorem pay18_eq (w : FVec Ideal S32x32 .f32) (s : FVec Ideal S32x8 .f32) (f : FVec Ideal S384x8 .f32) (h : FVec Ideal S6144x32 .bf16) (v : FVec Ideal S16x1 .f32) :
    k0_pay18 (F := Ideal) w s f h v = convBy4 w s (wide4 f) h v := by
  simp only [k0_pay18, fold_rep8]
  funext y
  idx_vars y
  rw [convBy4_apply]
  simp only [wide4_apply]
  pointwise [rep8_apply]
  refine Ideal.mul_congr (Finset.sum_congr rfl fun q _ => Ideal.mul_congr (Finset.sum_congr rfl fun j _ => Ideal.mul_congr rfl ?_) rfl) rfl
  split_ifs
  all_goals exact congrArg (fun k => f (ix2 j k)) (Fin.ext (by simp; omega))

/-- A chunk's convolution over 4 input columns, at row `r` and output column `o`. -/
theorem pay18_apply (w : FVec Ideal S32x32 .f32) (s : FVec Ideal S32x8 .f32) (f : FVec Ideal S384x8 .f32) (h : FVec Ideal S6144x32 .bf16) (v : FVec Ideal S16x1 .f32) (r : Fin 16) (o : Fin 8) :
    k0_pay18 (F := Ideal) w s f h v (ix2 r o) = (∑ q : Fin 32, (∑ j : Fin 384, (∑ k : Fin 32, h (ix2 ⟨r.val * 384 + j.val, by omega⟩ k) * w (ix2 k q)) * f (ix2 j ⟨q.val / 8, by omega⟩)) * s (ix2 q o)) * v (ix2 r 0) := by
  rw [pay18_eq, convBy4_apply]
  simp only [wide4_apply]

/-- A chunk's convolution over 8 input columns, the widened features given. -/
def convBy8 (w : FVec Ideal S32x64 .f32) (s : FVec Ideal S64x8 .f32) (fq : FVec Ideal S384x64 .f32) (h : FVec Ideal S6144x32 .bf16) (v : FVec Ideal S16x1 .f32) : FVec Ideal S16x8 .f32 :=
  mulf (matmul dot_S16x64_S64x8_S16x8_1_0_0_1_n_n (some .fp32)
    (multiReduction .add [1] S16x64
      (mulf (shapeCast S16x384x64 (extf .f32 (truncf .bf16 (matmul dot_S6144x32_S32x64_S6144x64_1_0_0_1_n_n (some .fp32) (extf .f32 h bitsLt_bf16_f32) (shapeCast S32x64 w shapeCasts_S32x64_S32x64) (constant S6144x64 .f32 0x00000000#32)) bitsLt_bf16_f32) bitsLt_bf16_f32) shapeCasts_S6144x64_S16x384x64)
        (broadcastTo S16x384x64 (shapeCast S1x384x64 fq shapeCasts_S384x64_S1x384x64) broadcasts_S1x384x64_S16x384x64))
      0x00000000#32 reduces_S16x384x64_S16x64 (.inl rfl) rfl) (shapeCast S64x8 s shapeCasts_S64x8_S64x8) (constant S16x8 .f32 0x00000000#32))
    (broadcastTo S16x8 v broadcasts_S16x1_S16x8)

/-- A chunk's convolution over 8 input columns, at coordinates. -/
theorem convBy8_apply (w : FVec Ideal S32x64 .f32) (s : FVec Ideal S64x8 .f32) (fq : FVec Ideal S384x64 .f32) (h : FVec Ideal S6144x32 .bf16) (v : FVec Ideal S16x1 .f32) (r : Fin 16) (o : Fin 8) :
    convBy8 w s fq h v (ix2 r o) = (∑ q : Fin 64, (∑ j : Fin 384, (∑ k : Fin 32, h (ix2 ⟨r.val * 384 + j.val, by omega⟩ k) * w (ix2 k q)) * fq (ix2 j q)) * s (ix2 q o)) * v (ix2 r 0) := by
  pointwise [convBy8]

/-- The body's later convolutions are the one over eight columns. -/
theorem pay20_eq (w : FVec Ideal S32x64 .f32) (s : FVec Ideal S64x8 .f32) (f : FVec Ideal S384x8 .f32) (h : FVec Ideal S6144x32 .bf16) (v : FVec Ideal S16x1 .f32) :
    k0_pay20 (F := Ideal) w s f h v = convBy8 w s (wide8 f) h v := by
  simp only [k0_pay20, fold_rep8]
  funext y
  idx_vars y
  rw [convBy8_apply]
  simp only [wide8_apply]
  pointwise [rep8_apply]
  refine Ideal.mul_congr (Finset.sum_congr rfl fun q _ => Ideal.mul_congr (Finset.sum_congr rfl fun j _ => Ideal.mul_congr rfl ?_) rfl) rfl
  split_ifs
  all_goals exact congrArg (fun k => f (ix2 j k)) (Fin.ext (by simp; omega))

/-- A chunk's convolution over 8 input columns, at row `r` and output column `o`. -/
theorem pay20_apply (w : FVec Ideal S32x64 .f32) (s : FVec Ideal S64x8 .f32) (f : FVec Ideal S384x8 .f32) (h : FVec Ideal S6144x32 .bf16) (v : FVec Ideal S16x1 .f32) (r : Fin 16) (o : Fin 8) :
    k0_pay20 (F := Ideal) w s f h v (ix2 r o) = (∑ q : Fin 64, (∑ j : Fin 384, (∑ k : Fin 32, h (ix2 ⟨r.val * 384 + j.val, by omega⟩ k) * w (ix2 k q)) * f (ix2 j ⟨q.val / 8, by omega⟩)) * s (ix2 q o)) * v (ix2 r 0) := by
  rw [pay20_eq, convBy8_apply]
  simp only [wide8_apply]

/-! ## The rest of the body -/

/-- The rows stored are the rows computed, at coordinates. -/
theorem pay19_apply (w : FVec Ideal S32x32 .f32) (s : FVec Ideal S32x8 .f32) (f : FVec Ideal S384x8 .f32) (h : FVec Ideal S6144x32 .bf16) (v : FVec Ideal S16x1 .f32) (r : Fin 16) (o : Fin 8) :
    k0_pay19 (F := Ideal) w s f h v (ix2 r o) = k0_pay18 (F := Ideal) w s f h v (ix2 r o) := by
  unfold k0_pay19
  generalize k0_pay18 (F := Ideal) w s f h v = t
  pointwise
/-- The rows stored are the rows given. -/
theorem pay6_apply (t : FVec Ideal S16x8 .f32) (r : Fin 16) (o : Fin 8) : k0_pay6 t (ix2 r o) = t (ix2 r o) := by
  pointwise [k0_pay6]
/-- The third layer's convolution is the second's. -/
theorem pay21_eq (w : FVec Ideal S32x64 .f32) (s : FVec Ideal S64x8 .f32) (f : FVec Ideal S384x8 .f32) (h : FVec Ideal S6144x32 .bf16) (v : FVec Ideal S16x1 .f32) :
    k0_pay21 (F := Ideal) w s f h v = k0_pay20 (F := Ideal) w s f h v := rfl
/-- The pooled sums start at zero. -/
theorem pay2_apply (q : Fin 24) : k0_pay2 (F := Ideal) (ix2 0 q) = 0 := by
  pointwise [k0_pay2]
/-- The emitted row is the root of the pooled sums. -/
theorem pay9_apply (pl : FVec Ideal S1x24 .f32) (q : Fin 24) : k0_pay9 (F := Ideal) pl (ix3 0 0 q) = Ideal.sqrt (pl (ix2 0 q)) := by
  pointwise [k0_pay9]

/-- The distance of a chunk's pair from the six coordinates laid beside each other. -/
theorem pay10_apply (x : Vec Ideal S1x6144x8 .f32) (p : Fin 6144) :
    k0_pay10 x (ix2 p 0) = distOf (fun k => x (ix3 0 p ⟨k.val, by omega⟩)) (fun k => x (ix3 0 p ⟨3 + k.val, by omega⟩)) := by
  pointwise [k0_pay10, distOf]

/-- The body's test of a pair: nearer than the radius, and its column one of the 286 atoms. -/
theorem pay11_apply (x : Vec Ideal S1x6144x8 .f32) (p : Fin 6144) :
    k0_pay11 x (ix2 p 0) = IntOp.andi (BitVec.ofBool (decide (k0_pay10 x (ix2 p 0) < three))) (BitVec.ofBool (decide (p.val % 384 < 286))) := by
  unfold k0_pay11
  generalize k0_pay10 x = r
  pointwise
  refine congrArg₂ IntOp.andi rfl ?_
  have hp := p.isLt
  generalize p.val = n at hp
  have e0 : Scalar.select (Scalar.cmpi .eq 384#32 0#32) 1#32 384#32 = 384#32 := by decide
  rw [e0]
  have e1 : IntOp.remsi .vector (BitVec.ofNat 32 n) 384#32 = BitVec.ofNat 32 (n % 384) :=
    Routing.remsi_word .vector (a := n) (b := 384) (by omega) (by omega) (by omega)
  rw [e1]
  have hm : n % 384 < 384 := Nat.mod_lt _ (by omega)
  generalize n % 384 = k at hm
  have e2 : IntOp.cmpi .slt (BitVec.ofNat 32 k) 0#32 = 0#1 := by
    rw [show (0#32) = BitVec.ofNat 32 0 from rfl, WordCmp.cmpi_slt_ofNat (by omega) (by omega)]; simp
  have e3 : Scalar.cmpi .slt (384#32) 0#32 = 0#1 := by decide
  have e4 : ∀ b : BitVec 1, IntOp.andi (IntOp.xori 0#1 0#1) b = 0#1 := by decide
  rw [e2, e3, e4]
  show IntOp.cmpi .slt (BitVec.ofNat 32 k) (BitVec.ofNat 32 286) = _
  rw [WordCmp.cmpi_slt_ofNat (by omega) (by omega)]

/-- A pair's mask: the distance test for the atoms, zero for the padded columns. -/
theorem mask_apply (x : Vec Ideal S1x6144x8 .f32) (p : Fin 6144) :
    k0_pay14 (F := Ideal) (k0_pay11 x) k0_pay12 k0_pay13 (ix2 p 0) = if p.val % 384 < 286 then maskOf (k0_pay10 x (ix2 p 0)) else 0 := by
  pointwise [k0_pay14, k0_pay12, k0_pay13]
  rw [pay11_apply]
  unfold maskOf
  by_cases h1 : k0_pay10 x (ix2 p 0) < three <;> by_cases h2 : p.val % 384 < 286 <;> simp [h1, h2] <;> rfl

/-- The affine map of the body's basis at a distance. -/
theorem pay16_apply (r : FVec Ideal S6144x1 .f32) (w : FVec Ideal S3x96 .f32) (b : FVec Ideal S1x96 .f32) (p : Fin 6144) (q : Fin 96) :
    k0_pay16 r w b (ix2 p q) = preOf (fun k => w (ix2 k q)) (b (ix2 0 q)) (r (ix2 p 0)) := by
  pointwise [k0_pay16, preOf]
  rfl

/-- A hidden layer entry: the softplus times the mask. -/
theorem pay1_apply (m : FVec Ideal S6144x1 .f32) (a : FVec Ideal S6144x96 .f32) (p : Fin 6144) (q : Fin 96) :
    k0_pay1 m a k0_pay17 (ix2 p ⟨q.val, by omega⟩) = softOf (a (ix2 p q)) * m (ix2 p 0) := by
  pointwise [k0_pay1, k0_pay17, softOf]

/-- The reciprocal of a row's neighbour count, at least one. -/
theorem pay15_apply (x : Vec Ideal S1x6144x8 .f32) (r : Fin 16) :
    k0_pay15 (F := Ideal) (k0_pay11 x) k0_pay12 k0_pay13 (ix2 r 0)
      = Ideal.div 1 (max (∑ j : Fin 384, k0_pay14 (F := Ideal) (k0_pay11 x) k0_pay12 k0_pay13 (ix2 ⟨r.val * 384 + j.val, by omega⟩ 0)) 1) := by
  pointwise [k0_pay15, k0_pay14, k0_pay12, k0_pay13]

/-- An atom's first features: the sum over the species of the table's rows that match. -/
theorem pay3_apply (z : Vec Ideal S1x384x1 .i32) (e : Vec Ideal S6x4 .f32) (p : Fin 384) (q : Fin 4) :
    k0_pay3 z e (ix2 p ⟨q.val, by omega⟩) = ∑ x : Fin 6, if z (ix3 0 p 0) = BitVec.ofNat 32 x.val then (e (ix2 x q) : EReal) else 0 := by
  pointwise [k0_pay3]
  refine Finset.sum_congr rfl fun x _ => ?_
  by_cases h : z (ix3 0 p 0) = BitVec.ofNat 32 x.val
  · rw [if_pos h, h]; simp [Scalar.select, IntOp.cmpi]
  · rw [if_neg h]; simp [Scalar.select, IntOp.cmpi, beq_eq_false_iff_ne.mpr h]

/-- The word test of a chunk's row number against 286. -/
theorem rowsel (c : Fin 18) (r : Fin 16) (a : EReal) :
    Scalar.select (IntOp.cmpi .slt (IntOp.addi (BitVec.ofNat 32 r.val) (Scalar.muli (BitVec.ofNat 32 c.val) 16#32)) 286#32) a 0
      = if 16 * c.val + r.val < 286 then a else 0 := by
  have hc := c.isLt
  have hr := r.isLt
  generalize c.val = m at hc
  generalize r.val = n at hr
  have e : IntOp.addi (BitVec.ofNat 32 n) (Scalar.muli (BitVec.ofNat 32 m) 16#32) = BitVec.ofNat 32 (n + m * 16) :=
    (congrArg (IntOp.addi _) (WordCmp.muli_ofNat m 16)).trans (WordCmp.addi_ofNat n (m * 16))
  rw [e]
  show Scalar.select (IntOp.cmpi .slt (BitVec.ofNat 32 (n + m * 16)) (BitVec.ofNat 32 286)) a 0 = _
  rw [WordCmp.cmpi_slt_ofNat (by omega) (by omega), show n + m * 16 = 16 * m + n by omega]
  by_cases h : 16 * m + n < 286 <;> simp [h, Scalar.select]

/-- A layer's pooled sums gain the squares of the chunk's rows that are atoms. -/
theorem pay5_apply (c : Fin 18) (o : FVec Ideal S16x8 .f32) (pl : FVec Ideal S1x8 .f32) (q : Fin 8) :
    k0_pay5 (BitVec.ofNat 32 c.val) o (iota .tc S16x1 32 [0] iota_S16x1_d0_w32) 16#32 pl (ix2 0 q)
      = pl (ix2 0 q) + ∑ r : Fin 16, if 16 * c.val + r.val < 286 then o (ix2 r q) * o (ix2 r q) else 0 := by
  pointwise [k0_pay5]
  exact congrArg _ (Finset.sum_congr rfl fun r _ => rowsel c r _)
/-- A layer's pooled sums gain the squares of the chunk's rows that are atoms. -/
theorem pay7_apply (c : Fin 18) (o : FVec Ideal S16x8 .f32) (pl : FVec Ideal S1x8 .f32) (q : Fin 8) :
    k0_pay7 (BitVec.ofNat 32 c.val) o pl (ix2 0 q)
      = pl (ix2 0 q) + ∑ r : Fin 16, if 16 * c.val + r.val < 286 then o (ix2 r q) * o (ix2 r q) else 0 := by
  pointwise [k0_pay7]
  exact congrArg _ (Finset.sum_congr rfl fun r _ => rowsel c r _)
/-- A layer's pooled sums gain the squares of the chunk's rows that are atoms. -/
theorem pay8_apply (c : Fin 18) (o : FVec Ideal S16x8 .f32) (pl : FVec Ideal S1x8 .f32) (q : Fin 8) :
    k0_pay8 o (iota .tc S16x1 32 [0] iota_S16x1_d0_w32) (Scalar.muli (BitVec.ofNat 32 c.val) 16#32) pl (ix2 0 q)
      = pl (ix2 0 q) + ∑ r : Fin 16, if 16 * c.val + r.val < 286 then o (ix2 r q) * o (ix2 r q) else 0 := by
  pointwise [k0_pay8]
  exact congrArg _ (Finset.sum_congr rfl fun r _ => rowsel c r _)

end Cert.KernelIdeal.Enc
-- ==== Proof.Value.EncK.lean ====
/- A batch's run of the encoder over the extended reals: what each layer's rows and the pooled squares hold after the
   batch's 72 working points, in the hidden layers, the inverse counts, the weights and the species' embeddings. -/
module

public import proofs.«01_k».proof.Proof.KernelIdeal.Traj
public import proofs.«01_k».proof.Proof.Value.PayK

@[expose] public section

set_option maxRecDepth 16384

noncomputable section

namespace Cert.KernelIdeal.Enc

open Idealize.ShloMosaic Idealize.SL.Sem
open Cert.KernelIdeal Cert.KernelIdeal.Gen
open Cert.Value

/-! ## Windows and writes at an index -/

/-- A row block written over an array, at an index. -/
theorem put_rows {n k d : ℕ} {α : Type} (v : (⟨2, ![n, k]⟩ : Shape).Idx → α) (o : ℕ) (p : (⟨2, ![d, k]⟩ : Shape).Idx → α) (i : Fin n) (q : Fin k) :
    VecWindow.put (s := ⟨2, ![n, k]⟩) v ![o, 0] (⟨2, ![d, k]⟩ : Shape).size p (ix2 i q)
      = if h : o ≤ i.val ∧ i.val < o + d then p (ix2 ⟨i.val - o, by omega⟩ q) else v (ix2 i q) := by
  rw [VecWindow.put]
  by_cases h : o ≤ i.val ∧ i.val < o + d
  · rw [dif_pos h, dif_pos (fun a => match a with
      | 0 => h
      | 1 => ⟨Nat.zero_le _, by show q.val < 0 + k; omega⟩)]
    refine congrArg p (funext fun a => Fin.ext ?_)
    match a with
    | 0 => rfl
    | 1 => rfl
  · rw [dif_neg h, dif_neg (fun hb => h (hb 0))]

/-- Columns written over a row, at an index. -/
theorem put_cols {k d : ℕ} {α : Type} (v : (⟨2, ![1, k]⟩ : Shape).Idx → α) (o : ℕ) (p : (⟨2, ![1, d]⟩ : Shape).Idx → α) (q : Fin k) :
    VecWindow.put (s := ⟨2, ![1, k]⟩) v ![0, o] (⟨2, ![1, d]⟩ : Shape).size p (ix2 0 q)
      = if h : o ≤ q.val ∧ q.val < o + d then p (ix2 0 ⟨q.val - o, by omega⟩) else v (ix2 0 q) := by
  rw [VecWindow.put]
  by_cases h : o ≤ q.val ∧ q.val < o + d
  · rw [dif_pos h, dif_pos (fun a => match a with
      | 0 => ⟨Nat.zero_le _, by show 0 < 0 + 1; omega⟩
      | 1 => h)]
    refine congrArg p (funext fun a => Fin.ext ?_)
    match a with
    | 0 => rfl
    | 1 => rfl
  · rw [dif_neg h, dif_neg (fun hb => h (hb 1))]

/-- A chunk's slice of the hidden features, at coordinates. -/
theorem hmAt_apply (st : St Ideal) (c : Fin 18) (k : ℕ) (hk : k ≤ 96) (p : Fin 6144) (q : Fin 32) :
    hmAt st c k hk (ix2 p q) = st.hm (ix2 ⟨6144 * c.val + p.val, by omega⟩ ⟨k + q.val, by omega⟩) := by
  refine congrArg st.hm (funext fun a => Fin.ext ?_)
  match a with
  | 0 => show 6144 * c.val + 1 * p.val = 6144 * c.val + p.val; omega
  | 1 => show k + 1 * q.val = k + q.val; omega
/-- A chunk's slice of the reciprocal neighbour counts, at coordinates. -/
theorem invAt_apply (st : St Ideal) (c : Fin 18) (r : Fin 16) :
    invAt st c (ix2 r 0) = st.invn (ix2 ⟨16 * c.val + r.val, by omega⟩ 0) := by
  refine congrArg st.invn (funext fun a => Fin.ext ?_)
  match a with
  | 0 => show 16 * c.val + 1 * r.val = 16 * c.val + r.val; omega
  | 1 => rfl
/-- A layer's slice of the pooled sums, at coordinates. -/
theorem poolAt_apply (st : St Ideal) (k : ℕ) (hk : k ≤ 16) (q : Fin 8) :
    poolAt st k hk (ix2 0 q) = st.pool (ix2 0 ⟨k + q.val, by omega⟩) := by
  refine congrArg st.pool (funext fun a => Fin.ext ?_)
  match a with
  | 0 => rfl
  | 1 => show k + 1 * q.val = k + q.val; omega

/-! ## One layer's rows -/

/-- Row `i`, column `o` of the convolution of width 4 columns, hidden columns from `l`. -/
def rowC4 (hm : Vec Ideal S110592x128 .bf16) (inv : Vec Ideal S288x1 .f32) (w : Vec Ideal S32x32 .f32) (s : Vec Ideal S32x8 .f32)
    (f : Vec Ideal S384x8 .f32) (i : Fin 288) (o : Fin 8) : EReal :=
  (∑ q : Fin 32, (∑ j : Fin 384, (∑ k : Fin 32, hm (ix2 ⟨384 * i.val + j.val, by omega⟩ ⟨k.val, by omega⟩) * w (ix2 k q))
    * f (ix2 j ⟨q.val / 8, by omega⟩)) * s (ix2 q o)) * inv (ix2 i 0)
/-- Row `i`, column `o` of the convolution of width 8 columns, hidden columns from `l`. -/
def rowC8 (l : ℕ) (hl : l ≤ 96) (hm : Vec Ideal S110592x128 .bf16) (inv : Vec Ideal S288x1 .f32) (w : Vec Ideal S32x64 .f32) (s : Vec Ideal S64x8 .f32)
    (f : Vec Ideal S384x8 .f32) (i : Fin 288) (o : Fin 8) : EReal :=
  (∑ q : Fin 64, (∑ j : Fin 384, (∑ k : Fin 32, hm (ix2 ⟨384 * i.val + j.val, by omega⟩ ⟨l + k.val, by omega⟩) * w (ix2 k q))
    * f (ix2 j ⟨q.val / 8, by omega⟩)) * s (ix2 q o)) * inv (ix2 i 0)

/-- What the first layer computes of a chunk is its rows of the layer. -/
theorem chunk4 (st : St Ideal) (c : Fin 18) (w : Vec Ideal S32x32 .f32) (s : Vec Ideal S32x8 .f32) (f : Vec Ideal S384x8 .f32) (r : Fin 16) (o : Fin 8) :
    k0_pay18 w s f (hmAt st c 0 (by omega)) (invAt st c) (ix2 r o) = rowC4 st.hm st.invn w s f ⟨16 * c.val + r.val, by omega⟩ o := by
  rw [pay18_apply, rowC4, invAt_apply]
  refine Ideal.mul_congr (Finset.sum_congr rfl fun q _ => Ideal.mul_congr (Finset.sum_congr rfl fun j _ => Ideal.mul_congr (Finset.sum_congr rfl fun k _ => Ideal.mul_congr ?_ rfl) rfl) rfl) rfl
  rw [hmAt_apply]
  have e1 : (⟨6144 * c.val + (r.val * 384 + j.val), by omega⟩ : Fin 110592) = ⟨384 * (16 * c.val + r.val) + j.val, by omega⟩ := Fin.ext (by show 6144 * c.val + (r.val * 384 + j.val) = 384 * (16 * c.val + r.val) + j.val; omega)
  have e2 : (⟨0 + k.val, by omega⟩ : Fin 128) = ⟨k.val, by omega⟩ := Fin.ext (Nat.zero_add _)
  exact congrArg₂ (fun a b => st.hm (ix2 a b)) e1 e2
/-- What a later layer computes of a chunk is its rows of the layer. -/
theorem chunk8 (l : ℕ) (hl : l ≤ 96) (st : St Ideal) (c : Fin 18) (w : Vec Ideal S32x64 .f32) (s : Vec Ideal S64x8 .f32) (f : Vec Ideal S384x8 .f32) (r : Fin 16) (o : Fin 8) :
    k0_pay20 w s f (hmAt st c l hl) (invAt st c) (ix2 r o) = rowC8 l hl st.hm st.invn w s f ⟨16 * c.val + r.val, by omega⟩ o := by
  rw [pay20_apply, rowC8, invAt_apply]
  refine Ideal.mul_congr (Finset.sum_congr rfl fun q _ => Ideal.mul_congr (Finset.sum_congr rfl fun j _ => Ideal.mul_congr (Finset.sum_congr rfl fun k _ => Ideal.mul_congr ?_ rfl) rfl) rfl) rfl
  rw [hmAt_apply]
  have e1 : (⟨6144 * c.val + (r.val * 384 + j.val), by omega⟩ : Fin 110592) = ⟨384 * (16 * c.val + r.val) + j.val, by omega⟩ := Fin.ext (by show 6144 * c.val + (r.val * 384 + j.val) = 384 * (16 * c.val + r.val) + j.val; omega)
  exact congrArg (fun a => st.hm (ix2 a _)) e1

/-- The square a row adds to the pool: nothing for the rows past the atoms. -/
def sqAt (g : Fin 288 → Fin 8 → EReal) (o : Fin 8) (i : ℕ) : EReal :=
  if h : i < 286 then g ⟨i, by omega⟩ o * g ⟨i, by omega⟩ o else 0

/-- Adding a chunk's squares extends the sum by 16 rows. -/
theorem sq_chunk (g : Fin 288 → Fin 8 → EReal) (t : FVec Ideal S16x8 .f32) (c : Fin 18) (o : Fin 8)
    (ht : ∀ r : Fin 16, t (ix2 r o) = g ⟨16 * c.val + r.val, by omega⟩ o) :
    (∑ i ∈ Finset.range (16 * c.val), sqAt g o i) + (∑ r : Fin 16, if 16 * c.val + r.val < 286 then t (ix2 r o) * t (ix2 r o) else 0)
      = ∑ i ∈ Finset.range (16 * (c.val + 1)), sqAt g o i := by
  rw [Nat.mul_add, Finset.sum_range_add, Finset.sum_range (fun x => sqAt g o (16 * c.val + x))]
  refine congrArg _ (Finset.sum_congr rfl fun r _ => ?_)
  unfold sqAt
  by_cases h : 16 * c.val + r.val < 286
  · rw [if_pos h, dif_pos h, ht]
  · rw [if_neg h, dif_neg h]

/-! ## The three layers in turn -/

variable (X : ℕ → Ins Ideal) (Y : Ins Ideal)

/-- Every point of the batch reads the same blocks but for the geometry. -/
def SameIns : Prop := ∀ s, s < 73 → X s = { Y with x0 := (X s).x0 }

/-- The first features: the species' embeddings, four columns, then zeros. -/
abbrev feat0 : Vec Ideal S384x8 .f32 := k0_pay3 Y.x1 Y.x2
/-- The first layer's rows. -/
abbrev rows0 : Fin 288 → Fin 8 → EReal := rowC4 (hmAll X) (invAll X) Y.x5 Y.x6 (feat0 Y)
/-- The features the second layer reads. -/
def feat1 : Vec Ideal S384x8 .f32 := fun y => if h : (y 0).val < 288 then rows0 X Y ⟨(y 0).val, h⟩ (y 1) else k0_pay4 (F := Ideal) y
/-- The second layer's rows. -/
abbrev rows1 : Fin 288 → Fin 8 → EReal := rowC8 32 (by omega) (hmAll X) (invAll X) Y.x7 Y.x8 (feat1 X Y)
/-- The features the third layer reads. -/
def feat2 : Vec Ideal S384x8 .f32 := fun y => if h : (y 0).val < 288 then rows1 X Y ⟨(y 0).val, h⟩ (y 1) else feat0 Y y
/-- The third layer's rows. -/
abbrev rows2 : Fin 288 → Fin 8 → EReal := rowC8 64 (by omega) (hmAll X) (invAll X) Y.x9 Y.x10 (feat2 X Y)

/-- The state once `n` chunks of the first layer are through. -/
def After0 (n : ℕ) (st : St Ideal) : Prop :=
  st.hm = hmAll X ∧ st.invn = invAll X ∧ st.fa = feat0 Y
  ∧ (∀ (j : Fin 384) (o : Fin 8), st.fb (ix2 j o) = if h : j.val < 16 * n ∧ j.val < 288 then rows0 X Y ⟨j.val, h.2⟩ o else k0_pay4 (F := Ideal) (ix2 j o))
  ∧ (∀ q : Fin 24, st.pool (ix2 0 q) = if h : q.val < 8 then ∑ i ∈ Finset.range (16 * n), sqAt (rows0 X Y) ⟨q.val, h⟩ i else 0)

/-- One point of the first layer adds a chunk. -/
theorem conv0_step (hX : SameIns X Y) (c : Fin 18) (s : ℕ) (hs : s < 73) (st : St Ideal) (h : After0 X Y c.val st) :
    After0 X Y (c.val + 1) (stConv0 c (X s) st) := by
  obtain ⟨h1, h2, h3, h4, h5⟩ := h
  have x5 : (X s).x5 = Y.x5 := by rw [hX s hs]
  have x6 : (X s).x6 = Y.x6 := by rw [hX s hs]
  have hc := c.isLt
  have key : ∀ (r : Fin 16) (o : Fin 8), k0_pay18 (X s).x5 (X s).x6 st.fa (hmAt st c 0 (by omega)) (invAt st c) (ix2 r o) = rows0 X Y ⟨16 * c.val + r.val, by omega⟩ o := by
    intro r o
    rw [chunk4, h1, h2, h3, x5, x6]
  refine ⟨h1, h2, h3, fun j o => ?_, fun q => ?_⟩
  · refine (put_rows (n := 384) (k := 8) (d := 16) st.fb (16 * c.val) _ j o).trans ?_
    by_cases hj : 16 * c.val ≤ j.val ∧ j.val < 16 * c.val + 16
    · rw [dif_pos hj, dif_pos ⟨by omega, by omega⟩, pay19_apply, key]
      exact congrArg (fun i => rows0 X Y i o) (Fin.ext (by show 16 * c.val + (j.val - 16 * c.val) = j.val; omega))
    · rw [dif_neg hj, h4]
      by_cases hk : j.val < 16 * c.val ∧ j.val < 288
      · rw [dif_pos hk, dif_pos ⟨by omega, hk.2⟩]
      · rw [dif_neg hk, dif_neg (by omega)]
  · refine (put_cols (k := 24) (d := 8) st.pool 0 _ q).trans ?_
    by_cases hq : q.val < 8
    · rw [dif_pos ⟨Nat.zero_le _, by omega⟩, dif_pos hq]
      generalize k0_pay18 (F := Ideal) (X s).x5 (X s).x6 st.fa (hmAt st c 0 (by omega)) (invAt st c) = t at key ⊢
      rw [pay5_apply, poolAt_apply, h5, dif_pos (by show 0 + (q.val - 0) < 8; omega)]
      have e : (⟨q.val - 0, by omega⟩ : Fin 8) = ⟨q.val, hq⟩ := Fin.ext (Nat.sub_zero _)
      have e' : (⟨0 + (q.val - 0), by omega⟩ : Fin 8) = ⟨q.val, hq⟩ := Fin.ext (by show 0 + (q.val - 0) = q.val; omega)
      simp only [e, e']
      exact sq_chunk (rows0 X Y) _ c ⟨q.val, hq⟩ (fun r => key r _)
    · rw [dif_neg (by omega), dif_neg hq, h5, dif_neg hq]

/-- The state once the first layer and `n` chunks of the second are through. -/
def After1 (n : ℕ) (st : St Ideal) : Prop :=
  st.hm = hmAll X ∧ st.invn = invAll X ∧ st.fb = feat1 X Y
  ∧ (∀ (j : Fin 384) (o : Fin 8), st.fa (ix2 j o) = if h : j.val < 16 * n ∧ j.val < 288 then rows1 X Y ⟨j.val, h.2⟩ o else feat0 Y (ix2 j o))
  ∧ (∀ q : Fin 24, st.pool (ix2 0 q) = if h : q.val < 8 then ∑ i ∈ Finset.range 288, sqAt (rows0 X Y) ⟨q.val, h⟩ i
      else if h : q.val - 8 < 8 then ∑ i ∈ Finset.range (16 * n), sqAt (rows1 X Y) ⟨q.val - 8, h⟩ i else 0)

/-- One point of the second layer adds a chunk. -/
theorem conv1_step (hX : SameIns X Y) (c : Fin 18) (s : ℕ) (hs : s < 73) (st : St Ideal) (h : After1 X Y c.val st) :
    After1 X Y (c.val + 1) (stConv1 c (X s) st) := by
  obtain ⟨h1, h2, h3, h4, h5⟩ := h
  have x7 : (X s).x7 = Y.x7 := by rw [hX s hs]
  have x8 : (X s).x8 = Y.x8 := by rw [hX s hs]
  have hc := c.isLt
  have key : ∀ (r : Fin 16) (o : Fin 8), k0_pay20 (X s).x7 (X s).x8 st.fb (hmAt st c 32 (by omega)) (invAt st c) (ix2 r o) = rows1 X Y ⟨16 * c.val + r.val, by omega⟩ o := by
    intro r o
    rw [chunk8, h1, h2, h3, x7, x8]
  refine ⟨h1, h2, h3, fun j o => ?_, fun q => ?_⟩
  · refine (put_rows (n := 384) (k := 8) (d := 16) st.fa (16 * c.val) _ j o).trans ?_
    by_cases hj : 16 * c.val ≤ j.val ∧ j.val < 16 * c.val + 16
    · rw [dif_pos hj, dif_pos ⟨by omega, by omega⟩, pay6_apply, key]
      exact congrArg (fun i => rows1 X Y i o) (Fin.ext (by show 16 * c.val + (j.val - 16 * c.val) = j.val; omega))
    · rw [dif_neg hj, h4]
      by_cases hk : j.val < 16 * c.val ∧ j.val < 288
      · rw [dif_pos hk, dif_pos ⟨by omega, hk.2⟩]
      · rw [dif_neg hk, dif_neg (by omega)]
  · refine (put_cols (k := 24) (d := 8) st.pool 8 _ q).trans ?_
    by_cases hq : 8 ≤ q.val ∧ q.val < 8 + 8
    · rw [dif_pos hq, dif_neg (by omega), dif_pos (by omega), pay7_apply, poolAt_apply, h5,
        dif_neg (by show ¬ 8 + (q.val - 8) < 8; omega), dif_pos (by show 8 + (q.val - 8) - 8 < 8; omega)]
      have e' : (⟨8 + (q.val - 8) - 8, by omega⟩ : Fin 8) = ⟨q.val - 8, by omega⟩ := Fin.ext (by show 8 + (q.val - 8) - 8 = q.val - 8; omega)
      rw [e']
      exact sq_chunk (rows1 X Y) _ c ⟨q.val - 8, by omega⟩ (fun r => key r _)
    · rw [dif_neg hq, h5]
      by_cases h8 : q.val < 8
      · rw [dif_pos h8, dif_pos h8]
      · rw [dif_neg h8, dif_neg h8, dif_neg (by omega), dif_neg (by omega)]

/-- The state once two layers and `n` chunks of the third are through. -/
def After2 (n : ℕ) (st : St Ideal) : Prop :=
  st.hm = hmAll X ∧ st.invn = invAll X ∧ st.fa = feat2 X Y
  ∧ (∀ q : Fin 24, st.pool (ix2 0 q) = if h : q.val < 8 then ∑ i ∈ Finset.range 288, sqAt (rows0 X Y) ⟨q.val, h⟩ i
      else if h : q.val - 8 < 8 then ∑ i ∈ Finset.range 288, sqAt (rows1 X Y) ⟨q.val - 8, h⟩ i
      else ∑ i ∈ Finset.range (16 * n), sqAt (rows2 X Y) ⟨q.val - 16, by omega⟩ i)

/-- One point of the third layer adds a chunk. -/
theorem conv2_step (hX : SameIns X Y) (c : Fin 18) (s : ℕ) (hs : s < 73) (st : St Ideal) (h : After2 X Y c.val st) :
    After2 X Y (c.val + 1) (stConv2 c (X s) st) := by
  obtain ⟨h1, h2, h3, h5⟩ := h
  have x9 : (X s).x9 = Y.x9 := by rw [hX s hs]
  have x10 : (X s).x10 = Y.x10 := by rw [hX s hs]
  have hc := c.isLt
  have key : ∀ (r : Fin 16) (o : Fin 8), k0_pay21 (X s).x9 (X s).x10 st.fa (hmAt st c 64 (by omega)) (invAt st c) (ix2 r o) = rows2 X Y ⟨16 * c.val + r.val, by omega⟩ o := by
    intro r o
    rw [pay21_eq, chunk8, h1, h2, h3, x9, x10]
  refine ⟨h1, h2, h3, fun q => ?_⟩
  refine (put_cols (k := 24) (d := 8) st.pool 16 _ q).trans ?_
  by_cases hq : 16 ≤ q.val ∧ q.val < 16 + 8
  · rw [dif_pos hq, dif_neg (by omega), dif_neg (by omega), pay8_apply, poolAt_apply, h5,
      dif_neg (by show ¬ 16 + (q.val - 16) < 8; omega), dif_neg (by show ¬ 16 + (q.val - 16) - 8 < 8; omega)]
    have e' : (⟨16 + (q.val - 16) - 16, by omega⟩ : Fin 8) = ⟨q.val - 16, by omega⟩ := Fin.ext (by show 16 + (q.val - 16) - 16 = q.val - 16; omega)
    rw [e']
    exact sq_chunk (rows2 X Y) _ c ⟨q.val - 16, by omega⟩ (fun r => key r _)
  · rw [dif_neg hq, h5]
    have hq24 := q.isLt
    by_cases h8 : q.val < 8
    · rw [dif_pos h8, dif_pos h8]
    · rw [dif_neg h8, dif_neg h8, dif_pos (by omega), dif_pos (by omega)]

/-! ## The batch -/

variable (hX : SameIns X Y) (st₀ : St Ideal)
include hX

/-- The state after the first layer's points. -/
theorem run0 (n : ℕ) (hn : n + 1 ≤ 18) : After0 X Y (n + 1) (stRun X st₀ (18 + (n + 1))) := by
  induction n with
  | zero =>
    rw [show 18 + (0 + 1) = 19 from rfl, stRun_19]
    refine conv0_step X Y hX 0 18 (by omega) _ ⟨rfl, rfl, ?_, fun j o => ?_, fun q => ?_⟩
    · show k0_pay3 (X 18).x1 (X 18).x2 = _
      rw [show (X 18).x1 = Y.x1 by rw [hX 18 (by omega)], show (X 18).x2 = Y.x2 by rw [hX 18 (by omega)]]
    · rw [dif_neg (by show ¬ (j.val < 16 * 0 ∧ _); omega)]
    · show k0_pay2 (F := Ideal) (ix2 0 q) = _
      rw [pay2_apply]
      split <;> rfl
  | succ n ih =>
    have e : stRun X st₀ (18 + (n + 1 + 1)) = stConv0 ⟨n + 1, by omega⟩ (X (18 + (n + 1))) (stRun X st₀ (18 + (n + 1))) := by
      show stStep (18 + (n + 1)) (X (18 + (n + 1))) (stRun X st₀ (18 + (n + 1))) = _
      rw [stStep, dif_neg (by omega), dif_neg (by omega), dif_pos (by omega)]
      exact congrArg (fun c => stConv0 c _ _) (Fin.ext (by show 18 + (n + 1) - 18 = n + 1; omega))
    rw [e]
    exact conv0_step X Y hX ⟨n + 1, by omega⟩ _ (by omega) _ (ih (by omega))

/-- The state after the second layer's points. -/
theorem run1 (n : ℕ) (hn : n ≤ 18) : After1 X Y n (stRun X st₀ (36 + n)) := by
  induction n with
  | zero =>
    obtain ⟨h1, h2, h3, h4, h5⟩ := run0 X Y hX st₀ 17 (by omega)
    refine ⟨h1, h2, funext fun y => ?_, fun j o => ?_, fun q => ?_⟩
    · obtain ⟨j, o, rfl⟩ : ∃ (j : Fin 384) (o : Fin 8), y = ix2 j o := ⟨y 0, y 1, eq_ix2 y⟩
      refine (h4 j o).trans ?_
      unfold feat1
      by_cases hj : j.val < 288
      · rw [dif_pos ⟨by omega, hj⟩, dif_pos (show ((ix2 j o : S384x8.Idx) 0).val < 288 from hj)]
        rfl
      · rw [dif_neg (by omega), dif_neg (show ¬ ((ix2 j o : S384x8.Idx) 0).val < 288 from hj)]
    · rw [dif_neg (by omega)]
      exact congrFun h3 _
    · refine (h5 q).trans ?_
      by_cases h8 : q.val < 8
      · rw [dif_pos h8, dif_pos h8]
      · rw [dif_neg h8, dif_neg h8]
        split <;> rfl
  | succ n ih =>
    have e : stRun X st₀ (36 + (n + 1)) = stConv1 ⟨n, by omega⟩ (X (36 + n)) (stRun X st₀ (36 + n)) := by
      show stStep (36 + n) (X (36 + n)) (stRun X st₀ (36 + n)) = _
      rw [stStep, dif_neg (by omega), dif_neg (by omega), dif_neg (by omega), dif_pos (by omega)]
      exact congrArg (fun c => stConv1 c _ _) (Fin.ext (by show 36 + n - 36 = n; omega))
    rw [e]
    exact conv1_step X Y hX ⟨n, by omega⟩ _ (by omega) _ (ih (by omega))

/-- The state after the third layer's points. -/
theorem run2 (n : ℕ) (hn : n ≤ 18) : After2 X Y n (stRun X st₀ (54 + n)) := by
  induction n with
  | zero =>
    obtain ⟨h1, h2, h3, h4, h5⟩ := run1 X Y hX st₀ 18 (by omega)
    refine ⟨h1, h2, funext fun y => ?_, fun q => ?_⟩
    · obtain ⟨j, o, rfl⟩ : ∃ (j : Fin 384) (o : Fin 8), y = ix2 j o := ⟨y 0, y 1, eq_ix2 y⟩
      refine (h4 j o).trans ?_
      unfold feat2
      by_cases hj : j.val < 288
      · rw [dif_pos ⟨by omega, hj⟩, dif_pos (show ((ix2 j o : S384x8.Idx) 0).val < 288 from hj)]
        rfl
      · rw [dif_neg (by omega), dif_neg (show ¬ ((ix2 j o : S384x8.Idx) 0).val < 288 from hj)]
    · refine (h5 q).trans ?_
      by_cases h8 : q.val < 8
      · rw [dif_pos h8, dif_pos h8]
      · rw [dif_neg h8, dif_neg h8]
        by_cases h16 : q.val - 8 < 8
        · rw [dif_pos h16, dif_pos h16]
        · rw [dif_neg h16, dif_neg h16]; rfl
  | succ n ih =>
    have e : stRun X st₀ (54 + (n + 1)) = stConv2 ⟨n, by omega⟩ (X (54 + n)) (stRun X st₀ (54 + n)) := by
      show stStep (54 + n) (X (54 + n)) (stRun X st₀ (54 + n)) = _
      rw [stStep, dif_neg (by omega), dif_neg (by omega), dif_neg (by omega), dif_neg (by omega), dif_pos (by omega)]
      exact congrArg (fun c => stConv2 c _ _) (Fin.ext (by show 54 + n - 54 = n; omega))
    rw [e]
    exact conv2_step X Y hX ⟨n, by omega⟩ _ (by omega) _ (ih (by omega))

/-- The sum over all 288 rows is the sum over the 286 atoms. -/
theorem sum_rows (g : Fin 288 → Fin 8 → EReal) (o : Fin 8) :
    (∑ i ∈ Finset.range 288, sqAt g o i) = ∑ i : Fin 286, g ⟨i.val, by omega⟩ o * g ⟨i.val, by omega⟩ o := by
  refine (Finset.sum_range_add (sqAt g o) 286 2).trans ?_
  rw [Finset.sum_range (sqAt g o)]
  have e : (∑ x ∈ Finset.range 2, sqAt g o (286 + x)) = 0 :=
    Finset.sum_eq_zero fun x _ => by unfold sqAt; rw [dif_neg (by omega)]
  rw [e, add_zero]
  refine Finset.sum_congr rfl fun i _ => ?_
  unfold sqAt
  rw [dif_pos i.isLt]

/-- The row a batch writes out: the root of each layer's summed squares, eight columns a layer. -/
theorem outRow_apply (q : Fin 24) :
    outRow X (ix3 0 0 q) = Ideal.sqrt (
      if h : q.val < 8 then ∑ i : Fin 286, rows0 X Y ⟨i.val, by omega⟩ ⟨q.val, h⟩ * rows0 X Y ⟨i.val, by omega⟩ ⟨q.val, h⟩
      else if h : q.val - 8 < 8 then ∑ i : Fin 286, rows1 X Y ⟨i.val, by omega⟩ ⟨q.val - 8, h⟩ * rows1 X Y ⟨i.val, by omega⟩ ⟨q.val - 8, h⟩
      else ∑ i : Fin 286, rows2 X Y ⟨i.val, by omega⟩ ⟨q.val - 16, by omega⟩ * rows2 X Y ⟨i.val, by omega⟩ ⟨q.val - 16, by omega⟩) := by
  obtain ⟨-, -, -, h5⟩ := run2 X Y hX stAny 18 (by omega)
  unfold outRow
  rw [pay9_apply]
  refine congrArg Ideal.sqrt ((h5 q).trans ?_)
  by_cases h8 : q.val < 8
  · rw [dif_pos h8, dif_pos h8, sum_rows X Y hX]
  · rw [dif_neg h8, dif_neg h8]
    by_cases h16 : q.val - 8 < 8
    · rw [dif_pos h16, dif_pos h16, sum_rows X Y hX]
    · rw [dif_neg h16, dif_neg h16, sum_rows X Y hX]

end Cert.KernelIdeal.Enc
-- ==== Proof.Value.NetK.lean ====
/- A batch of the encoder against the plain network: given what its input blocks hold, the row it writes out is the root
   of the three plain convolutions' summed squares. -/
module

public import proofs.«01_k».proof.Proof.Value.EncK
public import proofs.«01_k».proof.Proof.Value.Conv

@[expose] public section

set_option maxRecDepth 16384

noncomputable section

namespace Cert.KernelIdeal.Enc

open Idealize.ShloMosaic Idealize.SL.Sem
open Cert.KernelIdeal Cert.KernelIdeal.Gen
open Cert.Value

/-- What a batch's input blocks hold: the atoms' coordinates laid out pair by pair, their species, the table, and the
    three radial networks' weights, columns reordered, beside the matrices that pick an output column. -/
structure Reads (X : ℕ → Ins Ideal) (Y : Ins Ideal) (x : Fin 286 → Fin 3 → EReal) (z : Fin 286 → Fin 6) (e : Fin 6 → Fin 4 → EReal)
    (w0 : Fin 3 → Fin 3 → Fin 32 → EReal) (b0 : Fin 3 → Fin 32 → EReal)
    (wa : Fin 32 → Fin 8 → Fin 4 → EReal) (wb wc : Fin 32 → Fin 8 → Fin 8 → EReal) : Prop where
  same : SameIns X Y
  xi : ∀ (i : Fin 286) (j : Fin 384) (k : Fin 3),
    (X (i.val / 16)).x0 (ix3 0 ⟨384 * (i.val % 16) + j.val, by omega⟩ ⟨k.val, by omega⟩) = x i k
  xj : ∀ (i : Fin 286) (j : Fin 286) (k : Fin 3),
    (X (i.val / 16)).x0 (ix3 0 ⟨384 * (i.val % 16) + j.val, by omega⟩ ⟨3 + k.val, by omega⟩) = x j k
  species : ∀ j : Fin 286, Y.x1 (ix3 0 ⟨j.val, by omega⟩ 0) = BitVec.ofNat 32 (z j).val
  table : ∀ a q, Y.x2 (ix2 a q) = e a q
  w0_eq : ∀ (l : Fin 3) (a : Fin 3) (k : Fin 32), Y.x3 (ix2 a ⟨32 * l.val + k.val, by omega⟩) = w0 l a k
  b0_eq : ∀ (l : Fin 3) (k : Fin 32), Y.x4 (ix2 0 ⟨32 * l.val + k.val, by omega⟩) = b0 l k
  wa_eq : ∀ k (c : Fin 4) (o : Fin 8), Y.x5 (ix2 k (finProdFinEquiv (m := 4) (n := 8) (c, o))) = wa k o c
  wb_eq : ∀ k (c : Fin 8) (o : Fin 8), Y.x7 (ix2 k (finProdFinEquiv (m := 8) (n := 8) (c, o))) = wb k o c
  wc_eq : ∀ k (c : Fin 8) (o : Fin 8), Y.x9 (ix2 k (finProdFinEquiv (m := 8) (n := 8) (c, o))) = wc k o c
  sa : ∀ (q : Fin 32) (o : Fin 8), Y.x6 (ix2 q o) = if q.val % 8 = o.val then 1 else 0
  sb : ∀ (q : Fin 64) (o : Fin 8), Y.x8 (ix2 q o) = if q.val % 8 = o.val then 1 else 0
  sc : ∀ (q : Fin 64) (o : Fin 8), Y.x10 (ix2 q o) = if q.val % 8 = o.val then 1 else 0

variable {X : ℕ → Ins Ideal} {Y : Ins Ideal} {x : Fin 286 → Fin 3 → EReal} {z : Fin 286 → Fin 6} {e : Fin 6 → Fin 4 → EReal}
  {w0 : Fin 3 → Fin 3 → Fin 32 → EReal} {b0 : Fin 3 → Fin 32 → EReal}
  {wa : Fin 32 → Fin 8 → Fin 4 → EReal} {wb wc : Fin 32 → Fin 8 → Fin 8 → EReal}

/-- The distances of a batch. -/
abbrev dists (x : Fin 286 → Fin 3 → EReal) (i j : Fin 286) : EReal := distOf (x i) (x j)

/-- A pair's hidden features are those its chunk computes. -/
theorem hmAll_apply (X : ℕ → Ins Ideal) (i : Fin 288) (j : Fin 384) (q : Fin 96) :
    hmAll X (ix2 ⟨384 * i.val + j.val, by omega⟩ ⟨q.val, by omega⟩)
      = hmNew (X (i.val / 16)) (ix2 ⟨384 * (i.val % 16) + j.val, by omega⟩ ⟨q.val, by omega⟩) := by
  have e1 : (384 * i.val + j.val) / 6144 = i.val / 16 := by omega
  have e2 : (384 * i.val + j.val) % 6144 = 384 * (i.val % 16) + j.val := by omega
  show hmNew (X ((384 * i.val + j.val) / 6144)) (ix2 (⟨(384 * i.val + j.val) % 6144, _⟩ : Fin 6144) ⟨q.val, _⟩) = _
  simp only [e1, e2]

/-- A chunk's hidden features: the softplus of the affine map of the basis, times the mask, zero in the padded columns. -/
theorem hmNew_apply (Z : Ins Ideal) (p : Fin 6144) (q : Fin 96) :
    hmNew Z (ix2 p ⟨q.val, by omega⟩) = softOf (preOf (fun k => Z.x3 (ix2 k q)) (Z.x4 (ix2 0 q)) (k0_pay10 Z.x0 (ix2 p 0)))
      * (if p.val % 384 < 286 then maskOf (k0_pay10 Z.x0 (ix2 p 0)) else 0) := by
  unfold hmNew
  rw [pay1_apply, mask_apply, pay16_apply]

section
variable (R : Reads X Y x z e w0 b0 wa wb wc)
include R

/-- The distance of a pair of atoms, as the blocks give it. -/
theorem dist_read (i j : Fin 286) :
    k0_pay10 (X (i.val / 16)).x0 (ix2 ⟨384 * (i.val % 16) + j.val, by omega⟩ 0) = dists x i j := by
  rw [pay10_apply]
  unfold dists
  congr 1
  · funext k; exact R.xi i ⟨j.val, by omega⟩ k
  · funext k; exact R.xj i j k

/-- A hidden entry of two atoms. -/
theorem hm_read (l : Fin 3) (i j : Fin 286) (k : Fin 32) :
    hmAll X (ix2 ⟨384 * i.val + j.val, by omega⟩ ⟨32 * l.val + k.val, by omega⟩)
      = softOf (preOf (fun a => w0 l a k) (b0 l k) (dists x i j)) * maskOf (dists x i j) := by
  refine (hmAll_apply X ⟨i.val, by omega⟩ ⟨j.val, by omega⟩ ⟨32 * l.val + k.val, by omega⟩).trans ?_
  refine (hmNew_apply _ _ _).trans ?_
  rw [if_pos (by show (384 * (i.val % 16) + j.val) % 384 < 286; omega)]
  have d := dist_read R i j
  dsimp only at d ⊢
  rw [d, show (X (i.val / 16)).x3 = Y.x3 by rw [R.same _ (by omega)], show (X (i.val / 16)).x4 = Y.x4 by rw [R.same _ (by omega)]]
  rw [R.b0_eq, show (fun a : Fin 3 => Y.x3 (ix2 a ⟨32 * l.val + k.val, by omega⟩)) = (fun a => w0 l a k) from funext fun a => R.w0_eq l a k]

/-- A hidden entry of an atom and the padding. -/
theorem hm_pad (l : Fin 3) (i : Fin 286) (j : Fin 384) (k : Fin 32) (hj : 286 ≤ j.val) :
    hmAll X (ix2 ⟨384 * i.val + j.val, by omega⟩ ⟨32 * l.val + k.val, by omega⟩) = 0 := by
  refine (hmAll_apply X ⟨i.val, by omega⟩ j ⟨32 * l.val + k.val, by omega⟩).trans ?_
  refine (hmNew_apply _ _ _).trans ?_
  rw [if_neg (by show ¬ (384 * (i.val % 16) + j.val) % 384 < 286; omega), mul_zero]

/-- The inverse count of an atom. -/
theorem inv_read (i : Fin 286) : invAll X (ix2 ⟨i.val, by omega⟩ 0) = Ideal.div 1 (nbrs (dists x i)) := by
  show invNew (X (i.val / 16)) (ix2 (⟨i.val % 16, _⟩ : Fin 16) 0) = _
  unfold invNew
  rw [pay15_apply]
  refine congrArg (fun t => Ideal.div 1 (max t 1)) ?_
  rw [sum_pad]
  · refine Finset.sum_congr rfl fun j _ => ?_
    have d := dist_read R i j
    have e1 : (⟨i.val % 16 * 384 + j.val, by omega⟩ : Fin 6144) = ⟨384 * (i.val % 16) + j.val, by omega⟩ := Fin.ext (by show i.val % 16 * 384 + j.val = 384 * (i.val % 16) + j.val; omega)
    dsimp only at d ⊢
    rw [e1, mask_apply, if_pos (by show (384 * (i.val % 16) + j.val) % 384 < 286; omega), d]
  · intro j hj
    rw [mask_apply, if_neg (by show ¬ (i.val % 16 * 384 + j.val) % 384 < 286; omega)]

/-- The embeddings. -/
theorem feat0_read (j : Fin 286) (c : Fin 4) : feat0 Y (ix2 ⟨j.val, by omega⟩ ⟨c.val, by omega⟩) = e (z j) c := by
  refine (pay3_apply Y.x1 Y.x2 ⟨j.val, by omega⟩ c).trans ?_
  rw [Finset.sum_eq_single (z j)]
  · rw [if_pos (R.species j), R.table]
  · intro b _ hb
    rw [if_neg]
    rw [R.species j]
    intro h
    have := congrArg BitVec.toNat h
    simp only [BitVec.toNat_ofNat] at this
    have h1 := (z j).isLt
    have h2 := b.isLt
    exact hb (Fin.ext (by omega))
  · intro h; exact absurd (Finset.mem_univ _) h

/-- The first layer. -/
theorem rows0_read (i : Fin 286) (o : Fin 8) :
    rows0 X Y ⟨i.val, by omega⟩ o = convOf (dists x) (w0 0) (b0 0) wa (fun j => e (z j)) i o := by
  unfold rows0 rowC4
  refine conv_tiled (d := 4) (fun j k => hmAll X (ix2 ⟨384 * i.val + j.val, by omega⟩ ⟨k.val, by omega⟩)) _ (fun k q => Y.x5 (ix2 k q))
    (fun q => Y.x6 (ix2 q o)) (fun j q => feat0 Y (ix2 j ⟨q.val / 8, by omega⟩)) (dists x) (w0 0) (b0 0) wa _ i o
    (fun j k => ?_) (fun j k hj => ?_) (inv_read R i) (fun k c o => R.wa_eq k c o) (fun q => R.sa q o) (fun j c o => ?_)
  · refine Eq.trans (congrArg (fun t => hmAll X (ix2 _ t)) (Fin.ext ?_)) (hm_read R 0 i j k)
    show k.val = 32 * 0 + k.val; omega
  · refine Eq.trans (congrArg (fun t => hmAll X (ix2 _ t)) (Fin.ext ?_)) (hm_pad R 0 i j k hj)
    show k.val = 32 * 0 + k.val; omega
  · refine Eq.trans (congrArg (fun t => feat0 Y (ix2 _ t)) (Fin.ext ?_)) (feat0_read R j c)
    show (o.val + 8 * c.val) / 8 = c.val; omega

/-- The second layer. -/
theorem rows1_read (i : Fin 286) (o : Fin 8) :
    rows1 X Y ⟨i.val, by omega⟩ o = convOf (dists x) (w0 1) (b0 1) wb (convOf (dists x) (w0 0) (b0 0) wa (fun j => e (z j))) i o := by
  unfold rows1 rowC8
  refine conv_tiled (d := 8) (fun j k => hmAll X (ix2 ⟨384 * i.val + j.val, by omega⟩ ⟨32 + k.val, by omega⟩)) _ (fun k q => Y.x7 (ix2 k q))
    (fun q => Y.x8 (ix2 q o)) (fun j q => feat1 X Y (ix2 j ⟨q.val / 8, by omega⟩)) (dists x) (w0 1) (b0 1) wb _ i o
    (fun j k => ?_) (fun j k hj => ?_) (inv_read R i) (fun k c o => R.wb_eq k c o) (fun q => R.sb q o) (fun j c o => ?_)
  · exact hm_read R 1 i j k
  · exact hm_pad R 1 i j k hj
  · refine Eq.trans (congrArg (fun t => feat1 X Y (ix2 _ t)) (Fin.ext (?_ : _ = c.val))) (Eq.trans ?_ (rows0_read R j c))
    · show (o.val + 8 * c.val) / 8 = c.val; omega
    · unfold feat1
      exact dif_pos (show j.val < 288 by omega)

/-- The third layer. -/
theorem rows2_read (i : Fin 286) (o : Fin 8) :
    rows2 X Y ⟨i.val, by omega⟩ o = convOf (dists x) (w0 2) (b0 2) wc
      (convOf (dists x) (w0 1) (b0 1) wb (convOf (dists x) (w0 0) (b0 0) wa (fun j => e (z j)))) i o := by
  unfold rows2 rowC8
  refine conv_tiled (d := 8) (fun j k => hmAll X (ix2 ⟨384 * i.val + j.val, by omega⟩ ⟨64 + k.val, by omega⟩)) _ (fun k q => Y.x9 (ix2 k q))
    (fun q => Y.x10 (ix2 q o)) (fun j q => feat2 X Y (ix2 j ⟨q.val / 8, by omega⟩)) (dists x) (w0 2) (b0 2) wc _ i o
    (fun j k => ?_) (fun j k hj => ?_) (inv_read R i) (fun k c o => R.wc_eq k c o) (fun q => R.sc q o) (fun j c o => ?_)
  · exact hm_read R 2 i j k
  · exact hm_pad R 2 i j k hj
  · refine Eq.trans (congrArg (fun t => feat2 X Y (ix2 _ t)) (Fin.ext (?_ : _ = c.val))) (Eq.trans ?_ (rows1_read R j c))
    · show (o.val + 8 * c.val) / 8 = c.val; omega
    · unfold feat2
      exact dif_pos (show j.val < 288 by omega)

/-- The row a batch writes out. -/
theorem outRow_read (q : Fin 24) :
    outRow X (ix3 0 0 q) = Ideal.sqrt (∑ i : Fin 286, layersOf (dists x) w0 b0 wa wb wc (fun j => e (z j)) i q
      * layersOf (dists x) w0 b0 wa wb wc (fun j => e (z j)) i q) := by
  rw [outRow_apply X Y R.same]
  refine congrArg Ideal.sqrt ?_
  unfold layersOf
  by_cases h : q.val < 8
  · simp only [dif_pos h, rows0_read R]
  · by_cases h' : q.val - 8 < 8
    · simp only [dif_neg h, dif_pos h', rows1_read R]
    · simp only [dif_neg h, dif_neg h', rows2_read R]
end

end Cert.KernelIdeal.Enc
-- ==== Proof.Value.HostK.lean ====
/- What the host operations before the encoder leave in its input arrays, read at an index: the coordinates padded and
   laid out pair by pair, the species padded, the weights side by side or with their columns reordered, and the matrices
   that pick a column. -/
module

public import proofs.«01_k».proof.Proof.Gen.KernelIdeal.Launch
public import Idealize.ShloMosaic.Lib.StableHlo.ReadAt
public import Idealize.ShloMosaic.Lib.Pointwise

@[expose] public section

set_option maxRecDepth 16384

noncomputable section

namespace Cert.KernelIdeal.Enc

open Idealize.ShloMosaic Idealize.SL.Sem
open Cert.KernelIdeal Cert.KernelIdeal.Gen

/-- The entries of the unit matrix, as the host compares two counters. -/
theorem eye_entry (q : ℕ) (o : Fin 8) :
    (FloatOps.uitofp (F := Ideal) .f32 (IntOp.cmpi .eq (IntOp.addi (BitVec.ofNat 32 (q % 8)) 0#32) (BitVec.ofNat 32 o.val)) : EReal)
      = if q % 8 = o.val then (1 : EReal) else 0 := by
  have hq : q % 8 < 8 := Nat.mod_lt _ (by omega)
  have ho := o.isLt
  generalize q % 8 = r at hq ⊢
  by_cases h : r = o.val
  · rw [if_pos h, h]
    simp [IntOp.cmpi, IntOp.addi]
    show (((1#1 : BitVec 1).toNat : ℝ) : EReal) = 1
    simp
  · rw [if_neg h]
    have hne : BitVec.ofNat 32 r ≠ BitVec.ofNat 32 o.val := fun e => h (by
      have := congrArg BitVec.toNat e
      simp only [BitVec.toNat_ofNat] at this
      omega)
    simp [IntOp.cmpi, IntOp.addi, beq_eq_false_iff_ne.mpr hne]
    show (((0#1 : BitVec 1).toNat : ℝ) : EReal) = 0
    simp

/-- The coordinates padded to 288 rows. -/
theorem v0_read (V : Valuation τ sig (Elt Ideal)) (b : Fin 8) (i : Fin 286) (k : Fin 3) :
    (StableHlo.after hostOps0_1 V (Proc.devRef .tc main_v0) : S8x288x3.Idx → EReal) (ix3 b ⟨i.val, by omega⟩ k)
      = (V (Proc.devRef .tc main_arg0) : S8x286x3.Idx → EReal) (ix3 b i k) := by
  after_reads_at

/-- The coordinates padded to 384 rows. -/
theorem v1_read (V : Valuation τ sig (Elt Ideal)) (b : Fin 8) (i : Fin 286) (k : Fin 3) :
    (StableHlo.after hostOps0_3 V (Proc.devRef .tc main_v1) : S8x384x3.Idx → EReal) (ix3 b ⟨i.val, by omega⟩ k)
      = (V (Proc.devRef .tc main_arg0) : S8x286x3.Idx → EReal) (ix3 b i k) := by
  after_reads_at

/-- A pair's first three columns: the row's atom. -/
theorem v10_i (V : Valuation τ sig (Elt Ideal)) (b : Fin 8) (s : Fin 18) (p : Fin 6144) (k : Fin 3) :
    (StableHlo.after hostOps0_4 V (Proc.devRef .tc main_v10) : S144x6144x8.Idx → EReal) (ix3 ⟨18 * b.val + s.val, by omega⟩ p ⟨k.val, by omega⟩)
      = (V (Proc.devRef .tc main_v0) : S8x288x3.Idx → EReal) (ix3 b ⟨16 * s.val + p.val / 384, by omega⟩ k) := by
  after_reads_at
  after_reads_at
  exact congrArg (fun t => (V (Proc.devRef .tc main_v0) : S8x288x3.Idx → EReal) (ix3 b t k)) (Fin.ext (by simp only []; omega))

/-- A pair's next three columns: the neighbour. -/
theorem v10_j (V : Valuation τ sig (Elt Ideal)) (b : Fin 8) (s : Fin 18) (p : Fin 6144) (k : Fin 3) :
    (StableHlo.after hostOps0_4 V (Proc.devRef .tc main_v10) : S144x6144x8.Idx → EReal) (ix3 ⟨18 * b.val + s.val, by omega⟩ p ⟨3 + k.val, by omega⟩)
      = (V (Proc.devRef .tc main_v1) : S8x384x3.Idx → EReal) (ix3 b ⟨p.val % 384, by omega⟩ k) := by
  after_reads_at
  after_reads_at
  exact congrArg (fun t => (V (Proc.devRef .tc main_v1) : S8x384x3.Idx → EReal) (ix3 b t k)) (Fin.ext (by simp only []; omega))

/-- The species as a matrix. -/
theorem v11_read (V : Valuation τ sig (Elt Ideal)) (b : Fin 8) (i : Fin 286) :
    (StableHlo.after hostOps0_4 V (Proc.devRef .tc main_v11) : S8x286.Idx → BitVec 32) (ix2 b i)
      = (V (Proc.devRef .tc main_arg1) : S8x286x1.Idx → BitVec 32) (ix3 b i 0) := by
  after_reads_at

/-- The species padded. -/
theorem v12_read (V : Valuation τ sig (Elt Ideal)) (b : Fin 8) (i : Fin 286) :
    (StableHlo.after hostOps0_5 V (Proc.devRef .tc main_v12) : S8x384.Idx → BitVec 32) (ix2 b ⟨i.val, by omega⟩)
      = (V (Proc.devRef .tc main_v11) : S8x286.Idx → BitVec 32) (ix2 b i) := by
  after_reads_at

/-- The species as the encoder takes them. -/
theorem v13_read (V : Valuation τ sig (Elt Ideal)) (b : Fin 8) (i : Fin 384) :
    (StableHlo.after hostOps0_6 V (Proc.devRef .tc main_v13) : S8x384x1.Idx → BitVec 32) (ix3 b i 0)
      = (V (Proc.devRef .tc main_v12) : S8x384.Idx → BitVec 32) (ix2 b i) := by
  after_reads_at

/-- A radial network's second weights, columns reordered. -/
theorem v23_read (V : Valuation τ sig (Elt Ideal)) (k : Fin 32) (c : Fin 4) (o : Fin 8) :
    (StableHlo.after hostOps0_6 V (Proc.devRef .tc main_v23) : S32x32.Idx → EReal) (ix2 k ⟨o.val + 8 * c.val, by omega⟩)
      = (V (Proc.devRef .tc main_arg5) : S32x32.Idx → EReal) (ix2 k ⟨4 * o.val + c.val, by omega⟩) := by
  after_reads_at
  exact congrArg (fun t => (V (Proc.devRef .tc main_arg5) : S32x32.Idx → EReal) (ix2 k t)) (Fin.ext (by simp only []; omega))

/-- A radial network's second weights, columns reordered. -/
theorem v37_read (V : Valuation τ sig (Elt Ideal)) (k : Fin 32) (c : Fin 8) (o : Fin 8) :
    (StableHlo.after hostOps0_6 V (Proc.devRef .tc main_v37) : S32x64.Idx → EReal) (ix2 k ⟨o.val + 8 * c.val, by omega⟩)
      = (V (Proc.devRef .tc main_arg9) : S32x64.Idx → EReal) (ix2 k ⟨8 * o.val + c.val, by omega⟩) := by
  after_reads_at
  exact congrArg (fun t => (V (Proc.devRef .tc main_arg9) : S32x64.Idx → EReal) (ix2 k t)) (Fin.ext (by simp only []; omega))

/-- A radial network's second weights, columns reordered. -/
theorem v51_read (V : Valuation τ sig (Elt Ideal)) (k : Fin 32) (c : Fin 8) (o : Fin 8) :
    (StableHlo.after hostOps0_6 V (Proc.devRef .tc main_v51) : S32x64.Idx → EReal) (ix2 k ⟨o.val + 8 * c.val, by omega⟩)
      = (V (Proc.devRef .tc main_arg13) : S32x64.Idx → EReal) (ix2 k ⟨8 * o.val + c.val, by omega⟩) := by
  after_reads_at
  exact congrArg (fun t => (V (Proc.devRef .tc main_arg13) : S32x64.Idx → EReal) (ix2 k t)) (Fin.ext (by simp only []; omega))

/-- The matrix that picks a column. -/
theorem v32_read (V : Valuation τ sig (Elt Ideal)) (q : Fin 32) (o : Fin 8) :
    (StableHlo.after hostOps0_6 V (Proc.devRef .tc main_v32) : S32x8.Idx → EReal) (ix2 q o)
      = (if q.val % 8 = o.val then (1 : EReal) else 0 : EReal) := by
  after_reads_at
  exact eye_entry q.val o

/-- The matrix that picks a column. -/
theorem v46_read (V : Valuation τ sig (Elt Ideal)) (q : Fin 64) (o : Fin 8) :
    (StableHlo.after hostOps0_6 V (Proc.devRef .tc main_v46) : S64x8.Idx → EReal) (ix2 q o)
      = (if q.val % 8 = o.val then (1 : EReal) else 0 : EReal) := by
  after_reads_at
  exact eye_entry q.val o

/-- The matrix that picks a column. -/
theorem v60_read (V : Valuation τ sig (Elt Ideal)) (q : Fin 64) (o : Fin 8) :
    (StableHlo.after hostOps0_6 V (Proc.devRef .tc main_v60) : S64x8.Idx → EReal) (ix2 q o)
      = (if q.val % 8 = o.val then (1 : EReal) else 0 : EReal) := by
  after_reads_at
  exact eye_entry q.val o

/-- The first weights side by side. -/
theorem v16_read0 (V : Valuation τ sig (Elt Ideal)) (a : Fin 3) (k : Fin 32) :
    (StableHlo.after hostOps0_6 V (Proc.devRef .tc main_v16) : S3x96.Idx → EReal) (ix2 a ⟨32 * 0 + k.val, by omega⟩)
      = (V (Proc.devRef .tc main_arg3) : S3x32.Idx → EReal) (ix2 a k) := by
  after_reads_at
  after_reads_at

/-- The first biases side by side. -/
theorem v18_read0 (V : Valuation τ sig (Elt Ideal)) (k : Fin 32) :
    (StableHlo.after hostOps0_6 V (Proc.devRef .tc main_v18) : S1x96.Idx → EReal) (ix2 0 ⟨32 * 0 + k.val, by omega⟩)
      = (V (Proc.devRef .tc main_arg4) : S32.Idx → EReal) (ix1 k) := by
  after_reads_at
  after_reads_at

/-- The first weights side by side. -/
theorem v16_read1 (V : Valuation τ sig (Elt Ideal)) (a : Fin 3) (k : Fin 32) :
    (StableHlo.after hostOps0_6 V (Proc.devRef .tc main_v16) : S3x96.Idx → EReal) (ix2 a ⟨32 * 1 + k.val, by omega⟩)
      = (V (Proc.devRef .tc main_arg7) : S3x32.Idx → EReal) (ix2 a k) := by
  after_reads_at
  after_reads_at

/-- The first biases side by side. -/
theorem v18_read1 (V : Valuation τ sig (Elt Ideal)) (k : Fin 32) :
    (StableHlo.after hostOps0_6 V (Proc.devRef .tc main_v18) : S1x96.Idx → EReal) (ix2 0 ⟨32 * 1 + k.val, by omega⟩)
      = (V (Proc.devRef .tc main_arg8) : S32.Idx → EReal) (ix1 k) := by
  after_reads_at
  after_reads_at

/-- The first weights side by side. -/
theorem v16_read2 (V : Valuation τ sig (Elt Ideal)) (a : Fin 3) (k : Fin 32) :
    (StableHlo.after hostOps0_6 V (Proc.devRef .tc main_v16) : S3x96.Idx → EReal) (ix2 a ⟨32 * 2 + k.val, by omega⟩)
      = (V (Proc.devRef .tc main_arg11) : S3x32.Idx → EReal) (ix2 a k) := by
  after_reads_at
  after_reads_at
  rw [dif_neg (by omega), dif_neg (by omega)]
  exact congrArg (fun t => (V (Proc.devRef .tc main_arg11) : S3x32.Idx → EReal) (ix2 a t)) (Fin.ext (by simp only []; omega))

/-- The first biases side by side. -/
theorem v18_read2 (V : Valuation τ sig (Elt Ideal)) (k : Fin 32) :
    (StableHlo.after hostOps0_6 V (Proc.devRef .tc main_v18) : S1x96.Idx → EReal) (ix2 0 ⟨32 * 2 + k.val, by omega⟩)
      = (V (Proc.devRef .tc main_arg12) : S32.Idx → EReal) (ix1 k) := by
  after_reads_at
  after_reads_at
  rw [dif_neg (by omega), dif_neg (by omega)]
  exact congrArg (fun t => (V (Proc.devRef .tc main_arg12) : S32.Idx → EReal) (ix1 t)) (Fin.ext (by simp only []; omega))

/-- The pooled rows as a matrix. -/
theorem v62_read (V : Valuation τ sig (Elt Ideal)) (b : Fin 8) (q : Fin 24) :
    (StableHlo.after hostOps1 V (Proc.devRef .tc main_v62) : S8x24.Idx → EReal) (ix2 b q)
      = (V (Proc.devRef .tc main_v61) : S8x1x24.Idx → EReal) (ix3 b 0 q) := by
  after_reads_at

/-- The head's weights. -/
theorem v64_read (V : Valuation τ sig (Elt Ideal)) (k : Fin 24) (q : Fin 24) :
    (StableHlo.after hostOps1 V (Proc.devRef .tc main_v64) : S24x24.Idx → EReal) (ix2 k q)
      = (V (Proc.devRef .tc main_arg15) : S24x24.Idx → EReal) (ix2 k q) := by
  after_reads_at

/-- The head's weights. -/
theorem v69_read (V : Valuation τ sig (Elt Ideal)) (k : Fin 24) (q : Fin 48) :
    (StableHlo.after hostOps1 V (Proc.devRef .tc main_v69) : S24x48.Idx → EReal) (ix2 k q)
      = (V (Proc.devRef .tc main_arg19) : S24x48.Idx → EReal) (ix2 k q) := by
  after_reads_at

/-- A row of the head. -/
theorem v65_read (V : Valuation τ sig (Elt Ideal)) (q : Fin 24) :
    (StableHlo.after hostOps1 V (Proc.devRef .tc main_v65) : S1x24.Idx → EReal) (ix2 0 q)
      = (V (Proc.devRef .tc main_arg16) : S24.Idx → EReal) (ix1 q) := by
  after_reads_at

/-- A row of the head. -/
theorem v66_read (V : Valuation τ sig (Elt Ideal)) (q : Fin 24) :
    (StableHlo.after hostOps1 V (Proc.devRef .tc main_v66) : S1x24.Idx → EReal) (ix2 0 q)
      = (V (Proc.devRef .tc main_arg17) : S24.Idx → EReal) (ix1 q) := by
  after_reads_at

/-- A row of the head. -/
theorem v67_read (V : Valuation τ sig (Elt Ideal)) (q : Fin 24) :
    (StableHlo.after hostOps1 V (Proc.devRef .tc main_v67) : S1x24.Idx → EReal) (ix2 0 q)
      = (V (Proc.devRef .tc main_arg18) : S24.Idx → EReal) (ix1 q) := by
  after_reads_at

/-- A row of the head. -/
theorem v70_read (V : Valuation τ sig (Elt Ideal)) (q : Fin 48) :
    (StableHlo.after hostOps1 V (Proc.devRef .tc main_v70) : S1x48.Idx → EReal) (ix2 0 q)
      = (V (Proc.devRef .tc main_arg20) : S48.Idx → EReal) (ix1 q) := by
  after_reads_at

/-- A row of the head. -/
theorem v71_read (V : Valuation τ sig (Elt Ideal)) (q : Fin 48) :
    (StableHlo.after hostOps1 V (Proc.devRef .tc main_v71) : S1x48.Idx → EReal) (ix2 0 q)
      = (V (Proc.devRef .tc main_arg21) : S48.Idx → EReal) (ix1 q) := by
  after_reads_at

/-- A row of the head. -/
theorem v72_read (V : Valuation τ sig (Elt Ideal)) (q : Fin 48) :
    (StableHlo.after hostOps1 V (Proc.devRef .tc main_v72) : S1x48.Idx → EReal) (ix2 0 q)
      = (V (Proc.devRef .tc main_arg22) : S48.Idx → EReal) (ix1 q) := by
  after_reads_at

end Cert.KernelIdeal.Enc
-- ==== Proof.Value.BlocksK.lean ====
/- The encoder's blocks at coordinates: what each input block of a grid point reads of its array, and the array of pooled
   rows after the call. -/
module

public import proofs.«01_k».proof.Proof.KernelIdeal.Dat0
public import Idealize.ShloMosaic.Lib.Pipeline.ValueKit
public import Idealize.ShloMosaic.Lib.Pointwise

@[expose] public section

set_option maxRecDepth 16384

noncomputable section

namespace Cert.KernelIdeal.Enc

open Idealize.ShloMosaic Idealize.ShloMosaic.TcCoe Idealize.SL Idealize.SL.Sem
open Cert.KernelIdeal Cert.KernelIdeal.Gen

variable (V : (c : Dev nD) → (b : Ref sig .tc) → Buf (Elt Ideal) ((c : Thread nD τ).loc b))

/-- The geometry window follows the chunk, then stays at its batch's last. -/
theorem idx0_0 : ∀ t : Fin cfg0.N, win0_0.index t = ![18 * (t.val / 73) + min (t.val % 73) 17, 0, 0] :=
  (by decide +kernel : ∀ t : Fin grid0.N, _)
/-- The species window follows the batch. -/
theorem idx0_1 : ∀ t : Fin cfg0.N, win0_1.index t = ![t.val / 73, 0, 0] :=
  (by decide +kernel : ∀ t : Fin grid0.N, _)
/-- The output window follows the batch. -/
theorem idx0_11 : ∀ t : Fin cfg0.N, win0_11.index t = ![t.val / 73, 0, 0] :=
  (by decide +kernel : ∀ t : Fin grid0.N, _)

/-- The geometry block at a point: chunk `min s 17` of its batch. -/
theorem blk0_0 (c : Dev nD) (t : Fin cfg0.N) (p : Fin 6144) (k : Fin 8) :
    iblk0 V c 0 t (ix3 0 p k) = (V c main_v10 : S144x6144x8.Idx → EReal)
      (ix3 ⟨18 * (t.val / 73) + min (t.val % 73) 17, by have h : t.val < 584 := lt_of_lt_of_eq t.isLt N_0; omega⟩ p k) := by
  have e := idx0_0 t
  unfold iblk0
  refine congrArg (V c main_v10 : S144x6144x8.Idx → EReal) ?_
  blk_ext [e]
/-- The species block at a point: its batch's. -/
theorem blk0_1 (c : Dev nD) (t : Fin cfg0.N) (p : Fin 384) :
    iblk0 V c 1 t (ix3 0 p 0) = (V c main_v13 : S8x384x1.Idx → BitVec 32)
      (ix3 ⟨t.val / 73, by have h : t.val < 584 := lt_of_lt_of_eq t.isLt N_0; omega⟩ p 0) := by
  have e := idx0_1 t
  unfold iblk0
  refine congrArg (V c main_v13 : S8x384x1.Idx → BitVec 32) ?_
  blk_ext [e]

/-- Window 2 stays at its array's start. -/
theorem idx0_2 : ∀ t : Fin cfg0.N, win0_2.index t = ![0, 0] := (by decide +kernel : ∀ t : Fin grid0.N, _)
/-- Window 2's block is its array at every point. -/
theorem blk0_2 (c : Dev nD) (t : Fin cfg0.N) : iblk0 V c 2 t = (V c main_arg2 : S6x4.Idx → EReal) := by
  have e := idx0_2 t
  funext y
  unfold iblk0
  refine congrArg (V c main_arg2 : S6x4.Idx → EReal) ?_
  blk_ext [e]

/-- Window 3 stays at its array's start. -/
theorem idx0_3 : ∀ t : Fin cfg0.N, win0_3.index t = ![0, 0] := (by decide +kernel : ∀ t : Fin grid0.N, _)
/-- Window 3's block is its array at every point. -/
theorem blk0_3 (c : Dev nD) (t : Fin cfg0.N) : iblk0 V c 3 t = (V c main_v16 : S3x96.Idx → EReal) := by
  have e := idx0_3 t
  funext y
  unfold iblk0
  refine congrArg (V c main_v16 : S3x96.Idx → EReal) ?_
  blk_ext [e]

/-- Window 4 stays at its array's start. -/
theorem idx0_4 : ∀ t : Fin cfg0.N, win0_4.index t = ![0, 0] := (by decide +kernel : ∀ t : Fin grid0.N, _)
/-- Window 4's block is its array at every point. -/
theorem blk0_4 (c : Dev nD) (t : Fin cfg0.N) : iblk0 V c 4 t = (V c main_v18 : S1x96.Idx → EReal) := by
  have e := idx0_4 t
  funext y
  unfold iblk0
  refine congrArg (V c main_v18 : S1x96.Idx → EReal) ?_
  blk_ext [e]

/-- Window 5 stays at its array's start. -/
theorem idx0_5 : ∀ t : Fin cfg0.N, win0_5.index t = ![0, 0] := (by decide +kernel : ∀ t : Fin grid0.N, _)
/-- Window 5's block is its array at every point. -/
theorem blk0_5 (c : Dev nD) (t : Fin cfg0.N) : iblk0 V c 5 t = (V c main_v23 : S32x32.Idx → EReal) := by
  have e := idx0_5 t
  funext y
  unfold iblk0
  refine congrArg (V c main_v23 : S32x32.Idx → EReal) ?_
  blk_ext [e]

/-- Window 6 stays at its array's start. -/
theorem idx0_6 : ∀ t : Fin cfg0.N, win0_6.index t = ![0, 0] := (by decide +kernel : ∀ t : Fin grid0.N, _)
/-- Window 6's block is its array at every point. -/
theorem blk0_6 (c : Dev nD) (t : Fin cfg0.N) : iblk0 V c 6 t = (V c main_v32 : S32x8.Idx → EReal) := by
  have e := idx0_6 t
  funext y
  unfold iblk0
  refine congrArg (V c main_v32 : S32x8.Idx → EReal) ?_
  blk_ext [e]

/-- Window 7 stays at its array's start. -/
theorem idx0_7 : ∀ t : Fin cfg0.N, win0_7.index t = ![0, 0] := (by decide +kernel : ∀ t : Fin grid0.N, _)
/-- Window 7's block is its array at every point. -/
theorem blk0_7 (c : Dev nD) (t : Fin cfg0.N) : iblk0 V c 7 t = (V c main_v37 : S32x64.Idx → EReal) := by
  have e := idx0_7 t
  funext y
  unfold iblk0
  refine congrArg (V c main_v37 : S32x64.Idx → EReal) ?_
  blk_ext [e]

/-- Window 8 stays at its array's start. -/
theorem idx0_8 : ∀ t : Fin cfg0.N, win0_8.index t = ![0, 0] := (by decide +kernel : ∀ t : Fin grid0.N, _)
/-- Window 8's block is its array at every point. -/
theorem blk0_8 (c : Dev nD) (t : Fin cfg0.N) : iblk0 V c 8 t = (V c main_v46 : S64x8.Idx → EReal) := by
  have e := idx0_8 t
  funext y
  unfold iblk0
  refine congrArg (V c main_v46 : S64x8.Idx → EReal) ?_
  blk_ext [e]

/-- Window 9 stays at its array's start. -/
theorem idx0_9 : ∀ t : Fin cfg0.N, win0_9.index t = ![0, 0] := (by decide +kernel : ∀ t : Fin grid0.N, _)
/-- Window 9's block is its array at every point. -/
theorem blk0_9 (c : Dev nD) (t : Fin cfg0.N) : iblk0 V c 9 t = (V c main_v51 : S32x64.Idx → EReal) := by
  have e := idx0_9 t
  funext y
  unfold iblk0
  refine congrArg (V c main_v51 : S32x64.Idx → EReal) ?_
  blk_ext [e]

/-- Window 10 stays at its array's start. -/
theorem idx0_10 : ∀ t : Fin cfg0.N, win0_10.index t = ![0, 0] := (by decide +kernel : ∀ t : Fin grid0.N, _)
/-- Window 10's block is its array at every point. -/
theorem blk0_10 (c : Dev nD) (t : Fin cfg0.N) : iblk0 V c 10 t = (V c main_v60 : S64x8.Idx → EReal) := by
  have e := idx0_10 t
  funext y
  unfold iblk0
  refine congrArg (V c main_v60 : S64x8.Idx → EReal) ?_
  blk_ext [e]

/-- The pooled rows after the call: each batch's own row. -/
theorem pooled_arr (c : Dev nD) :
    (dat0 V c).arrAt 11 cfg0.N = (fun i => outRow (insBat V c (i 0).val) (ix3 0 0 (i 2)) : S8x1x24.Idx → EReal) := by
  refine (dat0 V c).arrAt_eq_of_covers 11 _ (by decide +kernel) fun t hf y => ?_
  have e := idx0_11 t
  blk_simp [e]
  show outRow (insBat V c (t.val / 73)) (y : S1x1x24.Idx) = _
  refine congrArg (outRow (insBat V c (t.val / 73))) ?_
  blk_ext [e]

end Cert.KernelIdeal.Enc
-- ==== Proof.Value.ReadsOf.lean ====
/- The encoder's input blocks of one batch, from what its arrays hold. -/
module

public import proofs.«01_k».proof.Proof.Value.NetK
public import proofs.«01_k».proof.Proof.Value.BlocksK

@[expose] public section

set_option maxRecDepth 16384

noncomputable section

namespace Cert.KernelIdeal.Enc

open Idealize.ShloMosaic Idealize.ShloMosaic.TcCoe Idealize.SL Idealize.SL.Sem
open Cert.KernelIdeal Cert.KernelIdeal.Gen
open Cert.Value

variable (V : (c : Dev nD) → (b : Ref sig .tc) → Buf (Elt Ideal) ((c : Thread nD τ).loc b)) (c : Dev nD)

/-- Point `s` of batch `b`. -/
theorem pt_val (b : Fin 8) (s : ℕ) (hs : s < 73) : (ptOf (73 * b.val + s)).val = 73 * b.val + s :=
  Nat.mod_eq_of_lt (by omega)

/-- The species block is the same at every point of a batch. -/
theorem species_same (b : Fin 8) (s : ℕ) (hs : s < 73) : iblk0 V c 1 (ptOf (73 * b.val + s)) = iblk0 V c 1 (ptOf (73 * b.val)) := by
  funext y
  obtain ⟨a, p, q, rfl⟩ : ∃ (a : Fin 1) (p : Fin 384) (q : Fin 1), y = ix3 a p q := ⟨y 0, y 1, y 2, eq_ix3 y⟩
  obtain rfl := Subsingleton.elim a 0
  obtain rfl := Subsingleton.elim q 0
  refine (blk0_1 V c _ p).trans (Eq.trans ?_ (blk0_1 V c _ p).symm)
  refine congrArg (fun t => (V c main_v13 : S8x384x1.Idx → BitVec 32) (ix3 t p 0)) (Fin.ext ?_)
  have h0 := pt_val b 0 (by omega)
  rw [Nat.add_zero] at h0
  simp only [pt_val b s hs, h0]
  omega

/-- Every point of a batch reads the same blocks but for the geometry. -/
theorem insBat_same (b : Fin 8) : SameIns (insBat V c b.val) (insAt V c (ptOf (73 * b.val))) := by
  intro s hs
  unfold insBat insAt
  rw [species_same V c b s hs, blk0_2, blk0_2, blk0_3, blk0_3, blk0_4, blk0_4, blk0_5, blk0_5, blk0_6, blk0_6, blk0_7, blk0_7, blk0_8, blk0_8, blk0_9, blk0_9, blk0_10, blk0_10]

/-- The geometry block of chunk `s` of a batch. -/
theorem insBat_x0 (b : Fin 8) (s : Fin 18) (p : Fin 6144) (k : Fin 8) :
    (insBat V c b.val s.val).x0 (ix3 0 p k) = (V c main_v10 : S144x6144x8.Idx → EReal) (ix3 ⟨18 * b.val + s.val, by omega⟩ p k) := by
  have hp := pt_val b s.val (by omega)
  refine (blk0_0 V c (ptOf (73 * b.val + s.val)) p k).trans (congrArg (fun t => (V c main_v10 : S144x6144x8.Idx → EReal) (ix3 t p k)) (Fin.ext ?_))
  simp only [hp]
  omega

/-- The species block of a batch. -/
theorem insBat_z (b : Fin 8) (j : Fin 384) :
    (insAt V c (ptOf (73 * b.val))).x1 (ix3 0 j 0) = (V c main_v13 : S8x384x1.Idx → BitVec 32) (ix3 b j 0) := by
  refine (blk0_1 V c (ptOf (73 * b.val)) j).trans (congrArg (fun t => (V c main_v13 : S8x384x1.Idx → BitVec 32) (ix3 t j 0)) (Fin.ext ?_))
  have h0 := pt_val b 0 (by omega)
  rw [Nat.add_zero] at h0
  simp only [h0]
  omega

/-- Input 2 of a point is window 2's block. -/
theorem insAt_x2 (t : Fin cfg0.N) : (insAt V c t).x2 = iblk0 V c 2 t := rfl
/-- Input 3 of a point is window 3's block. -/
theorem insAt_x3 (t : Fin cfg0.N) : (insAt V c t).x3 = iblk0 V c 3 t := rfl
/-- Input 4 of a point is window 4's block. -/
theorem insAt_x4 (t : Fin cfg0.N) : (insAt V c t).x4 = iblk0 V c 4 t := rfl
/-- Input 5 of a point is window 5's block. -/
theorem insAt_x5 (t : Fin cfg0.N) : (insAt V c t).x5 = iblk0 V c 5 t := rfl
/-- Input 6 of a point is window 6's block. -/
theorem insAt_x6 (t : Fin cfg0.N) : (insAt V c t).x6 = iblk0 V c 6 t := rfl
/-- Input 7 of a point is window 7's block. -/
theorem insAt_x7 (t : Fin cfg0.N) : (insAt V c t).x7 = iblk0 V c 7 t := rfl
/-- Input 8 of a point is window 8's block. -/
theorem insAt_x8 (t : Fin cfg0.N) : (insAt V c t).x8 = iblk0 V c 8 t := rfl
/-- Input 9 of a point is window 9's block. -/
theorem insAt_x9 (t : Fin cfg0.N) : (insAt V c t).x9 = iblk0 V c 9 t := rfl
/-- Input 10 of a point is window 10's block. -/
theorem insAt_x10 (t : Fin cfg0.N) : (insAt V c t).x10 = iblk0 V c 10 t := rfl

/-- What a batch's blocks hold, from what the arrays hold. -/
theorem reads_of (b : Fin 8) (x : Fin 286 → Fin 3 → EReal) (z : Fin 286 → Fin 6) (e : Fin 6 → Fin 4 → EReal)
    (w0 : Fin 3 → Fin 3 → Fin 32 → EReal) (b0 : Fin 3 → Fin 32 → EReal)
    (wa : Fin 32 → Fin 8 → Fin 4 → EReal) (wb wc : Fin 32 → Fin 8 → Fin 8 → EReal)
    (hi : ∀ (s : Fin 18) (p : Fin 6144) (k : Fin 3) (hi : 16 * s.val + p.val / 384 < 286),
      (V c main_v10 : S144x6144x8.Idx → EReal) (ix3 ⟨18 * b.val + s.val, by omega⟩ p ⟨k.val, by omega⟩) = x ⟨16 * s.val + p.val / 384, hi⟩ k)
    (hj : ∀ (s : Fin 18) (p : Fin 6144) (k : Fin 3) (hj : p.val % 384 < 286),
      (V c main_v10 : S144x6144x8.Idx → EReal) (ix3 ⟨18 * b.val + s.val, by omega⟩ p ⟨3 + k.val, by omega⟩) = x ⟨p.val % 384, hj⟩ k)
    (hz : ∀ j : Fin 286, (V c main_v13 : S8x384x1.Idx → BitVec 32) (ix3 b ⟨j.val, by omega⟩ 0) = BitVec.ofNat 32 (z j).val)
    (he : ∀ a q, (V c main_arg2 : S6x4.Idx → EReal) (ix2 a q) = e a q)
    (hw0 : ∀ (l : Fin 3) (a : Fin 3) (k : Fin 32), (V c main_v16 : S3x96.Idx → EReal) (ix2 a ⟨32 * l.val + k.val, by omega⟩) = w0 l a k)
    (hb0 : ∀ (l : Fin 3) (k : Fin 32), (V c main_v18 : S1x96.Idx → EReal) (ix2 0 ⟨32 * l.val + k.val, by omega⟩) = b0 l k)
    (hwa : ∀ k (a : Fin 4) (o : Fin 8), (V c main_v23 : S32x32.Idx → EReal) (ix2 k ⟨o.val + 8 * a.val, by omega⟩) = wa k o a)
    (hwb : ∀ k (a : Fin 8) (o : Fin 8), (V c main_v37 : S32x64.Idx → EReal) (ix2 k ⟨o.val + 8 * a.val, by omega⟩) = wb k o a)
    (hwc : ∀ k (a : Fin 8) (o : Fin 8), (V c main_v51 : S32x64.Idx → EReal) (ix2 k ⟨o.val + 8 * a.val, by omega⟩) = wc k o a)
    (hsa : ∀ (q : Fin 32) (o : Fin 8), (V c main_v32 : S32x8.Idx → EReal) (ix2 q o) = (if q.val % 8 = o.val then (1 : EReal) else 0 : EReal))
    (hsb : ∀ (q : Fin 64) (o : Fin 8), (V c main_v46 : S64x8.Idx → EReal) (ix2 q o) = (if q.val % 8 = o.val then (1 : EReal) else 0 : EReal))
    (hsc : ∀ (q : Fin 64) (o : Fin 8), (V c main_v60 : S64x8.Idx → EReal) (ix2 q o) = (if q.val % 8 = o.val then (1 : EReal) else 0 : EReal)) :
    Reads (insBat V c b.val) (insAt V c (ptOf (73 * b.val))) x z e w0 b0 wa wb wc where
  same := insBat_same V c b
  xi := by
    intro i j k
    refine (insBat_x0 V c b ⟨i.val / 16, by omega⟩ _ _).trans ((hi ⟨i.val / 16, by omega⟩ ⟨384 * (i.val % 16) + j.val, by omega⟩ k
      (by show 16 * (i.val / 16) + (384 * (i.val % 16) + j.val) / 384 < 286; omega)).trans ?_)
    refine congrArg (fun t => x t k) (Fin.ext ?_)
    show 16 * (i.val / 16) + (384 * (i.val % 16) + j.val) / 384 = i.val
    omega
  xj := by
    intro i j k
    refine (insBat_x0 V c b ⟨i.val / 16, by omega⟩ _ _).trans ((hj ⟨i.val / 16, by omega⟩ ⟨384 * (i.val % 16) + j.val, by omega⟩ k
      (by show (384 * (i.val % 16) + j.val) % 384 < 286; omega)).trans ?_)
    refine congrArg (fun t => x t k) (Fin.ext ?_)
    show (384 * (i.val % 16) + j.val) % 384 = j.val
    omega
  species := fun j => (insBat_z V c b ⟨j.val, by omega⟩).trans (hz j)
  table := fun a q => by rw [insAt_x2, blk0_2]; exact he a q
  w0_eq := fun l a k => by rw [insAt_x3, blk0_3]; exact hw0 l a k
  b0_eq := fun l k => by rw [insAt_x4, blk0_4]; exact hb0 l k
  wa_eq := fun k a o => by rw [insAt_x5, blk0_5]; exact hwa k a o
  wb_eq := fun k a o => by rw [insAt_x7, blk0_7]; exact hwb k a o
  wc_eq := fun k a o => by rw [insAt_x9, blk0_9]; exact hwc k a o
  sa := fun q o => by rw [insAt_x6, blk0_6]; exact hsa q o
  sb := fun q o => by rw [insAt_x8, blk0_8]; exact hsb q o
  sc := fun q o => by rw [insAt_x10, blk0_10]; exact hsc q o

end Cert.KernelIdeal.Enc
-- ==== Proof.Value.ReadK.lean ====
/- The encoder's input blocks of one batch in terms of the arguments, and the pooled rows after the call as the plain
   network's. -/
module

public import proofs.«01_k».proof.Proof.KernelIdeal.Run
public import proofs.«01_k».proof.Proof.Value.NetK
public import proofs.«01_k».proof.Proof.Value.HostK
public import proofs.«01_k».proof.Proof.Value.ReadsOf

@[expose] public section

set_option maxRecDepth 16384

noncomputable section

namespace Cert.KernelIdeal.Enc

open Idealize.ShloMosaic Idealize.ShloMosaic.TcCoe Idealize.SL Idealize.SL.Sem
open Cert.KernelIdeal Cert.KernelIdeal.Gen
open Cert.Value

variable (m : (ℓ : Loc nD τ sig) → Buf (Elt Ideal) ℓ) (ρ : Dev nD → PrngReg) (c : Dev nD)

/-- Argument `main_arg0` as launched. -/
abbrev xs : S8x286x3.Idx → EReal := m ((c : Thread nD τ).loc main_arg0)

/-- Argument `main_arg1` as launched. -/
abbrev zs : S8x286x1.Idx → BitVec 32 := m ((c : Thread nD τ).loc main_arg1)

/-- Argument `main_arg2` as launched. -/
abbrev emb : S6x4.Idx → EReal := m ((c : Thread nD τ).loc main_arg2)

/-- Argument `main_arg3` as launched. -/
abbrev wa0 : S3x32.Idx → EReal := m ((c : Thread nD τ).loc main_arg3)

/-- Argument `main_arg4` as launched. -/
abbrev ba0 : S32.Idx → EReal := m ((c : Thread nD τ).loc main_arg4)

/-- Argument `main_arg5` as launched. -/
abbrev wa1 : S32x32.Idx → EReal := m ((c : Thread nD τ).loc main_arg5)

/-- Argument `main_arg7` as launched. -/
abbrev wb0 : S3x32.Idx → EReal := m ((c : Thread nD τ).loc main_arg7)

/-- Argument `main_arg8` as launched. -/
abbrev bb0 : S32.Idx → EReal := m ((c : Thread nD τ).loc main_arg8)

/-- Argument `main_arg9` as launched. -/
abbrev wb1 : S32x64.Idx → EReal := m ((c : Thread nD τ).loc main_arg9)

/-- Argument `main_arg11` as launched. -/
abbrev wc0 : S3x32.Idx → EReal := m ((c : Thread nD τ).loc main_arg11)

/-- Argument `main_arg12` as launched. -/
abbrev bc0 : S32.Idx → EReal := m ((c : Thread nD τ).loc main_arg12)

/-- Argument `main_arg13` as launched. -/
abbrev wc1 : S32x64.Idx → EReal := m ((c : Thread nD τ).loc main_arg13)

/-- The row's atom in the laid-out coordinates. -/
theorem x_i (b : Fin 8) (s : Fin 18) (p : Fin 6144) (k : Fin 3) (hi : 16 * s.val + p.val / 384 < 286) :
    (W7 m ρ c (Proc.devRef .tc main_v10) : S144x6144x8.Idx → EReal) (ix3 ⟨18 * b.val + s.val, by omega⟩ p ⟨k.val, by omega⟩) = xs m c (ix3 b ⟨16 * s.val + p.val / 384, hi⟩ k) := by
  rw [(W7_of m ρ c main_v10 (by decide)).trans (W6_of m ρ c main_v10 (by decide))]
  refine (v10_i (W4 m ρ c) b s p k).trans ?_
  rw [(W4_of m ρ c main_v0 (by decide)).trans (W3_of m ρ c main_v0 (by decide))]
  refine (v0_read (W1 m ρ c) b ⟨16 * s.val + p.val / 384, hi⟩ k).trans ?_
  exact congrFun (W1_args m ρ c main_arg0 (by decide)) _

/-- The neighbour in the laid-out coordinates. -/
theorem x_j (b : Fin 8) (s : Fin 18) (p : Fin 6144) (k : Fin 3) (hj : p.val % 384 < 286) :
    (W7 m ρ c (Proc.devRef .tc main_v10) : S144x6144x8.Idx → EReal) (ix3 ⟨18 * b.val + s.val, by omega⟩ p ⟨3 + k.val, by omega⟩) = xs m c (ix3 b ⟨p.val % 384, hj⟩ k) := by
  rw [(W7_of m ρ c main_v10 (by decide)).trans (W6_of m ρ c main_v10 (by decide))]
  refine (v10_j (W4 m ρ c) b s p k).trans ?_
  refine (v1_read (W3 m ρ c) b ⟨p.val % 384, hj⟩ k).trans ?_
  exact congrFun (W3_args m ρ c main_arg0 (by decide)) _

/-- The species as the encoder takes them. -/
theorem z_j (b : Fin 8) (j : Fin 286) :
    (W7 m ρ c (Proc.devRef .tc main_v13) : S8x384x1.Idx → BitVec 32) (ix3 b ⟨j.val, by omega⟩ 0) = zs m c (ix3 b j 0) := by
  refine (v13_read (W6 m ρ c) b ⟨j.val, by omega⟩).trans ?_
  refine (v12_read (W5 m ρ c) b j).trans ?_
  refine (v11_read (W4 m ρ c) b j).trans ?_
  exact congrFun (W4_args m ρ c main_arg1 (by decide)) _

/-- The first weights, layer by layer. -/
def w0s (l : Fin 3) (a : Fin 3) (k : Fin 32) : EReal :=
  match l with | 0 => wa0 m c (ix2 a k) | 1 => wb0 m c (ix2 a k) | 2 => wc0 m c (ix2 a k)
/-- The first biases, layer by layer. -/
def b0s (l : Fin 3) (k : Fin 32) : EReal :=
  match l with | 0 => ba0 m c (ix1 k) | 1 => bb0 m c (ix1 k) | 2 => bc0 m c (ix1 k)

/-- The joined first weights, layer by layer. -/
theorem w0s_eq (l a : Fin 3) (k : Fin 32) : (W7 m ρ c (Proc.devRef .tc main_v16) : S3x96.Idx → EReal) (ix2 a ⟨32 * l.val + k.val, by omega⟩) = w0s m c l a k := by
  match l with
  | 0 => exact (v16_read0 (W6 m ρ c) a k).trans (congrFun (W6_args m ρ c main_arg3 (by decide)) _)
  | 1 => exact (v16_read1 (W6 m ρ c) a k).trans (congrFun (W6_args m ρ c main_arg7 (by decide)) _)
  | 2 => exact (v16_read2 (W6 m ρ c) a k).trans (congrFun (W6_args m ρ c main_arg11 (by decide)) _)
/-- The joined first biases, layer by layer. -/
theorem b0s_eq (l : Fin 3) (k : Fin 32) : (W7 m ρ c (Proc.devRef .tc main_v18) : S1x96.Idx → EReal) (ix2 0 ⟨32 * l.val + k.val, by omega⟩) = b0s m c l k := by
  match l with
  | 0 => exact (v18_read0 (W6 m ρ c) k).trans (congrFun (W6_args m ρ c main_arg4 (by decide)) _)
  | 1 => exact (v18_read1 (W6 m ρ c) k).trans (congrFun (W6_args m ρ c main_arg8 (by decide)) _)
  | 2 => exact (v18_read2 (W6 m ρ c) k).trans (congrFun (W6_args m ρ c main_arg12 (by decide)) _)

/-- What batch `b`'s blocks hold, its species being rows of the table. -/
theorem reads (b : Fin 8) (z : Fin 286 → Fin 6) (hz : ∀ j, zs m c (ix3 b j 0) = BitVec.ofNat 32 (z j).val) :
    Reads (insBat (V7 m ρ) c b.val) (insAt (V7 m ρ) c (ptOf (73 * b.val)))
      (fun i k => xs m c (ix3 b i k)) z (fun a q => emb m c (ix2 a q)) (w0s m c) (b0s m c)
      (fun k o a => wa1 m c (ix2 k ⟨4 * o.val + a.val, by omega⟩))
      (fun k o a => wb1 m c (ix2 k ⟨8 * o.val + a.val, by omega⟩))
      (fun k o a => wc1 m c (ix2 k ⟨8 * o.val + a.val, by omega⟩)) :=
  reads_of (V7 m ρ) c b _ z _ _ _ _ _ _
    (fun s p k hi => x_i m ρ c b s p k hi)
    (fun s p k hj => x_j m ρ c b s p k hj)
    (fun j => (z_j m ρ c b j).trans (hz j))
    (fun a q => congrFun (W7_args m ρ c main_arg2 (by decide)) _)
    (fun l a k => w0s_eq m ρ c l a k) (fun l k => b0s_eq m ρ c l k)
    (fun k a o => (v23_read (W6 m ρ c) k a o).trans (congrFun (W6_args m ρ c main_arg5 (by decide)) _))
    (fun k a o => (v37_read (W6 m ρ c) k a o).trans (congrFun (W6_args m ρ c main_arg9 (by decide)) _))
    (fun k a o => (v51_read (W6 m ρ c) k a o).trans (congrFun (W6_args m ρ c main_arg13 (by decide)) _))
    (v32_read (W6 m ρ c)) (v46_read (W6 m ρ c)) (v60_read (W6 m ρ c))

/-- Batch `b`'s pooled features: the root of the three layers' summed squares. -/
def pooledOf (z : Fin 8 → Fin 286 → Fin 6) (b : Fin 8) (q : Fin 24) : EReal :=
  Ideal.sqrt (∑ i : Fin 286,
    layersOf (dists fun i k => xs m c (ix3 b i k)) (w0s m c) (b0s m c) (fun k o a => wa1 m c (ix2 k ⟨4 * o.val + a.val, by omega⟩))
      (fun k o a => wb1 m c (ix2 k ⟨8 * o.val + a.val, by omega⟩)) (fun k o a => wc1 m c (ix2 k ⟨8 * o.val + a.val, by omega⟩))
      (fun j q => emb m c (ix2 (z b j) q)) i q
    * layersOf (dists fun i k => xs m c (ix3 b i k)) (w0s m c) (b0s m c) (fun k o a => wa1 m c (ix2 k ⟨4 * o.val + a.val, by omega⟩))
      (fun k o a => wb1 m c (ix2 k ⟨8 * o.val + a.val, by omega⟩)) (fun k o a => wc1 m c (ix2 k ⟨8 * o.val + a.val, by omega⟩))
      (fun j q => emb m c (ix2 (z b j) q)) i q)

/-- The encoder's output array holds the pooled features. -/
theorem pooled_read (z : Fin 8 → Fin 286 → Fin 6) (hz : ∀ b j, zs m c (ix3 b j 0) = BitVec.ofNat 32 (z b j).val) (b : Fin 8) (q : Fin 24) :
    (W8 m ρ c (Proc.devRef .tc main_v61) : S8x1x24.Idx → EReal) (ix3 b 0 q) = pooledOf m c z b q := by
  refine (congrFun (W8_arr m ρ c 11) (ix3 b 0 q)).trans ?_
  refine (congrFun (pooled_arr (V7 m ρ) c) (ix3 b 0 q)).trans ?_
  exact outRow_read (reads m ρ c b (z b) (hz b)) q

end Cert.KernelIdeal.Enc
-- ==== Proof.Value.ResultK.lean ====
/- The kernel's result read at coordinates: the head of the pooled features. -/
module

public import proofs.«01_k».proof.Proof.Value.HeadPayK
public import proofs.«01_k».proof.Proof.Value.HeadBlkK
public import proofs.«01_k».proof.Proof.Value.ReadK

@[expose] public section

set_option maxRecDepth 16384

noncomputable section

namespace Cert.KernelIdeal.Enc

open Idealize.ShloMosaic Idealize.ShloMosaic.TcCoe Idealize.SL Idealize.SL.Sem
open Cert.KernelIdeal Cert.KernelIdeal.Gen
open Cert.Value

/-- The head's output array from what its input arrays hold. -/
theorem head_of (V : (c : Dev nD) → (b : Ref sig .tc) → Buf (Elt Ideal) ((c : Thread nD τ).loc b)) (c : Dev nD)
    (x : Fin 8 → Fin 24 → EReal) (w0 : Fin 24 → Fin 24 → EReal) (b0 g0 s0 : Fin 24 → EReal) (w1 : Fin 24 → Fin 48 → EReal) (b1 g1 s1 : Fin 48 → EReal)
    (hx : ∀ k q, (V c main_v62 : S8x24.Idx → EReal) (ix2 k q) = x k q)
    (hw0 : ∀ k q, (V c main_v64 : S24x24.Idx → EReal) (ix2 k q) = w0 k q)
    (hb0 : ∀ q, (V c main_v65 : S1x24.Idx → EReal) (ix2 0 q) = b0 q)
    (hg0 : ∀ q, (V c main_v66 : S1x24.Idx → EReal) (ix2 0 q) = g0 q)
    (hs0 : ∀ q, (V c main_v67 : S1x24.Idx → EReal) (ix2 0 q) = s0 q)
    (hw1 : ∀ k q, (V c main_v69 : S24x48.Idx → EReal) (ix2 k q) = w1 k q)
    (hb1 : ∀ q, (V c main_v70 : S1x48.Idx → EReal) (ix2 0 q) = b1 q)
    (hg1 : ∀ q, (V c main_v71 : S1x48.Idx → EReal) (ix2 0 q) = g1 q)
    (hs1 : ∀ q, (V c main_v72 : S1x48.Idx → EReal) (ix2 0 q) = s1 q) (p : Fin 8) (q : Fin 48) :
    ((dat1 V c).arrAt 9 cfg1.N : S8x48.Idx → EReal) (ix2 p q) = headOf x w0 b0 g0 s0 w1 b1 g1 s1 p q := by
  refine (congrFun (head_arr V c) (ix2 p q)).trans ?_
  rw [out1_9_eq]
  refine (k1_pay4_apply _ _ _ _ _ _ _ _ _ p q).trans ?_
  simp only [hx, hw0, hb0, hg0, hs0, hw1, hb1, hg1, hs1]

variable (m : (ℓ : Loc nD τ sig) → Buf (Elt Ideal) ℓ) (ρ : Dev nD → PrngReg) (c : Dev nD)

/-- The kernel's result array holds the head of the pooled features. -/
theorem result_read (z : Fin 8 → Fin 286 → Fin 6) (hz : ∀ b j, zs m c (ix3 b j 0) = BitVec.ofNat 32 (z b j).val) (p : Fin 8) (q : Fin 48) :
    (W10 m ρ c (Proc.devRef .tc main_v73) : S8x48.Idx → EReal) (ix2 p q)
      = headOf (pooledOf m c z) (fun k q => (m ((c : Thread nD τ).loc main_arg15) : S24x24.Idx → EReal) (ix2 k q)) (fun q => (m ((c : Thread nD τ).loc main_arg16) : S24.Idx → EReal) (ix1 q)) (fun q => (m ((c : Thread nD τ).loc main_arg17) : S24.Idx → EReal) (ix1 q)) (fun q => (m ((c : Thread nD τ).loc main_arg18) : S24.Idx → EReal) (ix1 q))
        (fun k q => (m ((c : Thread nD τ).loc main_arg19) : S24x48.Idx → EReal) (ix2 k q)) (fun q => (m ((c : Thread nD τ).loc main_arg20) : S48.Idx → EReal) (ix1 q)) (fun q => (m ((c : Thread nD τ).loc main_arg21) : S48.Idx → EReal) (ix1 q)) (fun q => (m ((c : Thread nD τ).loc main_arg22) : S48.Idx → EReal) (ix1 q)) p q := by
  refine (congrFun (W10_arr m ρ c 9) (ix2 p q)).trans ?_
  exact head_of (V9 m ρ) c _ _ _ _ _ _ _ _ _
    (fun b q => (v62_read (W8 m ρ c) b q).trans (pooled_read m ρ c z hz b q))
    (fun k q => ((v64_read (W8 m ρ c) k q).trans (congrFun (W8_args m ρ c main_arg15 (by decide)) _)))
    (fun q => ((v65_read (W8 m ρ c) q).trans (congrFun (W8_args m ρ c main_arg16 (by decide)) _)))
    (fun q => ((v66_read (W8 m ρ c) q).trans (congrFun (W8_args m ρ c main_arg17 (by decide)) _)))
    (fun q => ((v67_read (W8 m ρ c) q).trans (congrFun (W8_args m ρ c main_arg18 (by decide)) _)))
    (fun k q => ((v69_read (W8 m ρ c) k q).trans (congrFun (W8_args m ρ c main_arg19 (by decide)) _)))
    (fun q => ((v70_read (W8 m ρ c) q).trans (congrFun (W8_args m ρ c main_arg20 (by decide)) _)))
    (fun q => ((v71_read (W8 m ρ c) q).trans (congrFun (W8_args m ρ c main_arg21 (by decide)) _)))
    (fun q => ((v72_read (W8 m ρ c) q).trans (congrFun (W8_args m ρ c main_arg22 (by decide)) _))) p q

end Cert.KernelIdeal.Enc
-- ==== Proof.Value.RefHead.lean ====
/- The reference's head read at coordinates: affine layers, normalisation over the molecules, leaky rectifier. -/
module

public import proofs.«01_k».proof.Proof.Gen.ReferenceIdeal.Run
public import proofs.«01_k».proof.Proof.Value.HeadSpec
public import Idealize.ShloMosaic.Lib.Pointwise
public import Idealize.ShloMosaic.Lib.Tactic.CleanTypes

@[expose] public section

set_option maxRecDepth 16384

noncomputable section

namespace Cert.ReferenceIdeal.Plain

open Idealize.ShloMosaic Idealize.ShloMosaic.TcCoe Idealize.SL.Sem
open Cert.ReferenceIdeal Cert.ReferenceIdeal.Gen Cert.ReferenceIdeal.Value Cert.Value

variable (V : Valuation τ sig (Elt Ideal))

/-- The first affine layer. -/
abbrev yv165 (p : Fin 8) (q : Fin 24) : EReal := (res_main_v165 (F := Ideal) V : S8x24.Idx → EReal) (ix2 p q)
/-- The second affine layer. -/
abbrev yv189 (p : Fin 8) (q : Fin 48) : EReal := (res_main_v189 (F := Ideal) V : S8x48.Idx → EReal) (ix2 p q)
/-- Eight is positive. -/
theorem eight_pos : (0 : EReal) < eight := by
  have h : Ideal.ofBits .f32 0x41000000#32 = ((8 : ℝ) : EReal) := by
    simp [Ideal.ofBits, Ideal.ieee, -EReal.coe_mul]; norm_num
  show (0 : EReal) < Ideal.ofBits .f32 0x41000000#32
  rw [h]
  exact_mod_cast (by norm_num : (0 : ℝ) < 8)
/-- The word zero as a float. -/
theorem word_zero : FloatOps.sitofp (F := Ideal) .f32 (0#32) = (0 : EReal) := by
  show (((0#32 : BitVec 32).toInt : ℝ) : EReal) = 0
  simp
/-- Taking the word zero from the eight molecules leaves eight. -/
theorem count7 : (res_main_call7_v8 (F := Ideal) V : S_.Idx → EReal) ix0 = eight := by
  unfold res_main_call7_v8
  clean_types
  pointwise [eight]
  rw [word_zero]
  exact sub_zero (_ : EReal)
/-- The same of the second normalisation. -/
theorem count9 : (res_main_call9_v8 (F := Ideal) V : S_.Idx → EReal) ix0 = eight := by
  unfold res_main_call9_v8
  clean_types
  pointwise [eight]
  rw [word_zero]
  exact sub_zero (_ : EReal)

/-- The columns centred. -/
theorem cen7 (p : Fin 8) (q : Fin 24) : (res_main_call7_v5 (F := Ideal) V : S8x24.Idx → EReal) (ix2 p q)
    = yv165 V p q - meanOf (yv165 V) q := by
  unfold res_main_call7_v5
  clean_types
  pointwise [meanOf]
  rfl
/-- The columns normalised. -/
theorem norm7 (p : Fin 8) (q : Fin 24) : (res_main_v184 (F := Ideal) V : S8x24.Idx → EReal) (ix2 p q)
    = normOf (yv165 V) (fun q => (V (Proc.devRef .tc main_arg17) : S24.Idx → EReal) (ix1 q)) (fun q => (V (Proc.devRef .tc main_arg18) : S24.Idx → EReal) (ix1 q)) p q := by
  unfold res_main_v184
  clean_types
  pointwise [cen7, count7, normOf, varOf, meanOf, id, eight_pos]
  rfl

/-- The columns centred. -/
theorem cen9 (p : Fin 8) (q : Fin 48) : (res_main_call9_v5 (F := Ideal) V : S8x48.Idx → EReal) (ix2 p q)
    = yv189 V p q - meanOf (yv189 V) q := by
  unfold res_main_call9_v5
  clean_types
  pointwise [meanOf]
  rfl
/-- The columns normalised. -/
theorem norm9 (p : Fin 8) (q : Fin 48) : (res_main_v208 (F := Ideal) V : S8x48.Idx → EReal) (ix2 p q)
    = normOf (yv189 V) (fun q => (V (Proc.devRef .tc main_arg21) : S48.Idx → EReal) (ix1 q)) (fun q => (V (Proc.devRef .tc main_arg22) : S48.Idx → EReal) (ix1 q)) p q := by
  unfold res_main_v208
  clean_types
  pointwise [cen9, count9, normOf, varOf, meanOf, id, eight_pos]
  rfl

/-- The three layers' columns side by side. -/
abbrev layR (p : Fin 8) (i : Fin 286) (q : Fin 24) : EReal := (res_main_v158 (F := Ideal) V : S8x286x24.Idx → EReal) (ix3 p i q)
/-- The pooled norms: each column's root of the sum of squares over the atoms. -/
abbrev poolR (p : Fin 8) (q : Fin 24) : EReal :=
  Ideal.sqrt (∑ i : Fin 286, layR V p i q * layR V p i q)
/-- The first affine layer reads the pooled norms. -/
theorem aff0 (p : Fin 8) (q : Fin 24) : yv165 V p q = affOf (poolR V) (fun k q => (V (Proc.devRef .tc main_arg15) : S24x24.Idx → EReal) (ix2 k q)) (fun q => (V (Proc.devRef .tc main_arg16) : S24.Idx → EReal) (ix1 q)) p q := by
  unfold yv165 res_main_v165
  clean_types
  pointwise [affOf]
/-- The second affine layer reads the rectified first. -/
theorem aff1 (p : Fin 8) (q : Fin 48) : yv189 V p q
    = affOf (fun p q => leakOf (normOf (yv165 V) (fun q => (V (Proc.devRef .tc main_arg17) : S24.Idx → EReal) (ix1 q)) (fun q => (V (Proc.devRef .tc main_arg18) : S24.Idx → EReal) (ix1 q)) p q)) (fun k q => (V (Proc.devRef .tc main_arg19) : S24x48.Idx → EReal) (ix2 k q)) (fun q => (V (Proc.devRef .tc main_arg20) : S48.Idx → EReal) (ix1 q)) p q := by
  unfold yv189 res_main_v189
  clean_types
  pointwise [affOf, norm7, leakOf, id]
  rfl
/-- The second normalised layer. -/
abbrev y208 : FVec Ideal S8x48 .f32 := res_main_v208 (F := Ideal) V
/-- The second normalised layer at coordinates. -/
theorem y208_read (p : Fin 8) (q : Fin 48) : y208 V (ix2 p q)
    = normOf (yv189 V) (fun q => (V (Proc.devRef .tc main_arg21) : S48.Idx → EReal) (ix1 q)) (fun q => (V (Proc.devRef .tc main_arg22) : S48.Idx → EReal) (ix1 q)) p q := norm9 V p q
/-- The reference's result entry: the head of the pooled norms. -/
theorem head_read (p : Fin 8) (q : Fin 48) :
    (select (cmpf .oge (y208 V) (broadcastInDim S8x48 ![] bcast_S_S8x48 (constant S_ .f32 0x00000000#32))) (y208 V) (mulf (broadcastInDim S8x48 ![] bcast_S_S8x48 (id (constant S_ .f32 0x3E4CCCCD#32))) (y208 V)) : FVec Ideal S8x48 .f32) (ix2 p q)
      = headOf (poolR V) (fun k q => (V (Proc.devRef .tc main_arg15) : S24x24.Idx → EReal) (ix2 k q)) (fun q => (V (Proc.devRef .tc main_arg16) : S24.Idx → EReal) (ix1 q)) (fun q => (V (Proc.devRef .tc main_arg17) : S24.Idx → EReal) (ix1 q)) (fun q => (V (Proc.devRef .tc main_arg18) : S24.Idx → EReal) (ix1 q)) (fun k q => (V (Proc.devRef .tc main_arg19) : S24x48.Idx → EReal) (ix2 k q)) (fun q => (V (Proc.devRef .tc main_arg20) : S48.Idx → EReal) (ix1 q)) (fun q => (V (Proc.devRef .tc main_arg21) : S48.Idx → EReal) (ix1 q)) (fun q => (V (Proc.devRef .tc main_arg22) : S48.Idx → EReal) (ix1 q)) p q := by
  have e0 : yv165 V = affOf (poolR V) (fun k q => (V (Proc.devRef .tc main_arg15) : S24x24.Idx → EReal) (ix2 k q)) (fun q => (V (Proc.devRef .tc main_arg16) : S24.Idx → EReal) (ix1 q)) := funext fun p => funext fun q => aff0 V p q
  have e1 : yv189 V = affOf (fun p q => leakOf (normOf (yv165 V) (fun q => (V (Proc.devRef .tc main_arg17) : S24.Idx → EReal) (ix1 q)) (fun q => (V (Proc.devRef .tc main_arg18) : S24.Idx → EReal) (ix1 q)) p q)) (fun k q => (V (Proc.devRef .tc main_arg19) : S24x48.Idx → EReal) (ix2 k q)) (fun q => (V (Proc.devRef .tc main_arg20) : S48.Idx → EReal) (ix1 q)) := funext fun p => funext fun q => aff1 V p q
  unfold headOf
  rw [← e0, ← e1]
  pointwise [y208_read, leakOf, id]
  rfl

end Cert.ReferenceIdeal.Plain
-- ==== Proof.Value.RefGeo.lean ====
/- The reference's distances, cutoff masks, cosine bases and hidden units, each layer's, read at coordinates. -/
module

public import proofs.«01_k».proof.Proof.Gen.ReferenceIdeal.Run
public import proofs.«01_k».proof.Proof.Value.HeadSpec
public import Idealize.ShloMosaic.Lib.Pointwise
public import Idealize.ShloMosaic.Lib.Tactic.CleanTypes

@[expose] public section

set_option maxRecDepth 16384

noncomputable section

namespace Cert.ReferenceIdeal.Plain

open Idealize.ShloMosaic Idealize.ShloMosaic.TcCoe Idealize.SL.Sem
open Cert.ReferenceIdeal Cert.ReferenceIdeal.Gen Cert.ReferenceIdeal.Value Cert.Value

variable (V : Valuation τ sig (Elt Ideal))

/-- The positions, batch by batch. -/
abbrev posOf (b : Fin 8) (i : Fin 286) (k : Fin 3) : EReal := (V (Proc.devRef .tc main_arg0) : S8x286x3.Idx → EReal) (ix3 b i k)
/-- The distances within a batch. -/
abbrev rOf (b : Fin 8) (i j : Fin 286) : EReal := distOf (posOf V b i) (posOf V b j)
/-- A truth bit as a float is one or zero. -/
theorem bit_mask (p : Prop) [Decidable p] : FloatOps.uitofp (F := Ideal) .f32 (BitVec.ofBool (decide p)) = if p then (1 : EReal) else 0 := by
  by_cases h : p
  · rw [if_pos h, decide_eq_true h]
    show (((1#1 : BitVec 1).toNat : ℝ) : EReal) = 1
    simp
  · rw [if_neg h, decide_eq_false h]
    show (((0#1 : BitVec 1).toNat : ℝ) : EReal) = 0
    simp
/-- The printed radii are the multiples of the spacing. -/
theorem radius (k : Fin 3) : (res_main_cst (F := Ideal) V : S3.Idx → EReal) (ix1 k) = FloatOps.sitofp (F := Ideal) .f32 (BitVec.ofNat 32 k.val) * step := by
  have h0 : Ideal.ofBits .f32 0x3FC00000#32 = ((3 / 2 : ℝ) : EReal) := by
    simp [Ideal.ofBits, Ideal.ieee, -EReal.coe_mul]; norm_num
  have h1 : Ideal.ofBits .f32 0x40400000#32 = ((3 : ℝ) : EReal) := by
    simp [Ideal.ofBits, Ideal.ieee, -EReal.coe_mul]; norm_num
  have e : ∀ k : Fin 3, (S3.rowMajor (ix1 k)).val = k.val := fun k => by fin_cases k <;> rfl
  have l : ∀ j : Fin 3, lit0 j = if j.val = 0 then 0x00000000#32 else if j.val = 1 then 0x3FC00000#32 else 0x40400000#32 := by decide
  have key : ∀ i : Fin 3, i.val = k.val → Ideal.ofBits .f32 (lit0 i) = (((BitVec.ofNat 32 k.val).toInt : ℝ) : EReal) * Ideal.ofBits .f32 0x3FC00000#32 := by
    intro i hi
    rw [h0, l, hi]
    have hk := k.isLt
    obtain h | h | h : k.val = 0 ∨ k.val = 1 ∨ k.val = 2 := by omega
    · rw [h]; simp
    · rw [h]; simp [h0]
    · rw [h]; simp [h1, -EReal.coe_mul, ← EReal.coe_mul]; norm_num
  exact key _ (e k)

/-- Layer 1's distances. -/
theorem dist0 (b : Fin 8) (i j : Fin 286) : (res_main_v11 (F := Ideal) V : S8x286x286.Idx → EReal) (ix3 b i j) = rOf V b i j := by
  unfold res_main_v11
  clean_types
  pointwise [res_main_v11, res_main_v6, distOf]
  simp only [Fin.sum_univ_three]
/-- Layer 1's cutoff mask. -/
theorem mask0 (b : Fin 8) (i j : Fin 286) : (res_main_v14 (F := Ideal) V : S8x286x286.Idx → EReal) (ix3 b i j) = maskOf (rOf V b i j) := by
  unfold res_main_v14
  clean_types
  pointwise [res_main_v14, dist0, maskOf]
  exact bit_mask _
/-- Layer 1's distances relative to the basis centres. -/
theorem rel0 (b : Fin 8) (i j : Fin 286) (k : Fin 3) : (res_main_v21 (F := Ideal) V : S8x286x286x3.Idx → EReal) (ix4 b i j k) = relOf (rOf V b i j) k := by
  unfold res_main_v21
  clean_types
  pointwise [res_main_v21, dist0, radius, relOf]
/-- Layer 1's hidden units before the softplus. -/
theorem pre0 (b : Fin 8) (i j : Fin 286) (k : Fin 32) : (res_main_v35 (F := Ideal) V : S8x286x286x32.Idx → EReal) (ix4 b i j k)
    = preOf (fun a => (V (Proc.devRef .tc main_arg3) : S3x32.Idx → EReal) (ix2 a k)) ((V (Proc.devRef .tc main_arg4) : S32.Idx → EReal) (ix1 k)) (rOf V b i j) := by
  unfold res_main_v35
  clean_types
  pointwise [res_main_v35, res_main_v27, rel0, preOf, basisOf, id]

/-- Layer 2's distances. -/
theorem dist1 (b : Fin 8) (i j : Fin 286) : (res_main_v63 (F := Ideal) V : S8x286x286.Idx → EReal) (ix3 b i j) = rOf V b i j := by
  unfold res_main_v63
  clean_types
  pointwise [res_main_v63, res_main_v58, distOf]
  simp only [Fin.sum_univ_three]
/-- Layer 2's cutoff mask. -/
theorem mask1 (b : Fin 8) (i j : Fin 286) : (res_main_v66 (F := Ideal) V : S8x286x286.Idx → EReal) (ix3 b i j) = maskOf (rOf V b i j) := by
  unfold res_main_v66
  clean_types
  pointwise [res_main_v66, dist1, maskOf]
  exact bit_mask _
/-- Layer 2's distances relative to the basis centres. -/
theorem rel1 (b : Fin 8) (i j : Fin 286) (k : Fin 3) : (res_main_v73 (F := Ideal) V : S8x286x286x3.Idx → EReal) (ix4 b i j k) = relOf (rOf V b i j) k := by
  unfold res_main_v73
  clean_types
  pointwise [res_main_v73, dist1, radius, relOf]
/-- Layer 2's hidden units before the softplus. -/
theorem pre1 (b : Fin 8) (i j : Fin 286) (k : Fin 32) : (res_main_v87 (F := Ideal) V : S8x286x286x32.Idx → EReal) (ix4 b i j k)
    = preOf (fun a => (V (Proc.devRef .tc main_arg7) : S3x32.Idx → EReal) (ix2 a k)) ((V (Proc.devRef .tc main_arg8) : S32.Idx → EReal) (ix1 k)) (rOf V b i j) := by
  unfold res_main_v87
  clean_types
  pointwise [res_main_v87, res_main_v79, rel1, preOf, basisOf, id]

/-- Layer 3's distances. -/
theorem dist2 (b : Fin 8) (i j : Fin 286) : (res_main_v115 (F := Ideal) V : S8x286x286.Idx → EReal) (ix3 b i j) = rOf V b i j := by
  unfold res_main_v115
  clean_types
  pointwise [res_main_v115, res_main_v110, distOf]
  simp only [Fin.sum_univ_three]
/-- Layer 3's cutoff mask. -/
theorem mask2 (b : Fin 8) (i j : Fin 286) : (res_main_v118 (F := Ideal) V : S8x286x286.Idx → EReal) (ix3 b i j) = maskOf (rOf V b i j) := by
  unfold res_main_v118
  clean_types
  pointwise [res_main_v118, dist2, maskOf]
  exact bit_mask _
/-- Layer 3's distances relative to the basis centres. -/
theorem rel2 (b : Fin 8) (i j : Fin 286) (k : Fin 3) : (res_main_v125 (F := Ideal) V : S8x286x286x3.Idx → EReal) (ix4 b i j k) = relOf (rOf V b i j) k := by
  unfold res_main_v125
  clean_types
  pointwise [res_main_v125, dist2, radius, relOf]
/-- Layer 3's hidden units before the softplus. -/
theorem pre2 (b : Fin 8) (i j : Fin 286) (k : Fin 32) : (res_main_v139 (F := Ideal) V : S8x286x286x32.Idx → EReal) (ix4 b i j k)
    = preOf (fun a => (V (Proc.devRef .tc main_arg11) : S3x32.Idx → EReal) (ix2 a k)) ((V (Proc.devRef .tc main_arg12) : S32.Idx → EReal) (ix1 k)) (rOf V b i j) := by
  unfold res_main_v139
  clean_types
  pointwise [res_main_v139, res_main_v131, rel2, preOf, basisOf, id]

end Cert.ReferenceIdeal.Plain
-- ==== Proof.Value.RefConv.lean ====
/- The reference's softplus, table rows and three convolutions read at coordinates. -/
module

public import proofs.«01_k».proof.Proof.Gen.ReferenceIdeal.Run
public import proofs.«01_k».proof.Proof.Value.RefGeo
public import Idealize.ShloMosaic.Lib.Pointwise
public import Idealize.ShloMosaic.Lib.Tactic.CleanTypes

@[expose] public section

set_option maxRecDepth 16384

noncomputable section

namespace Cert.ReferenceIdeal.Plain

open Idealize.ShloMosaic Idealize.ShloMosaic.TcCoe Idealize.SL.Sem
open Cert.ReferenceIdeal Cert.ReferenceIdeal.Gen Cert.ReferenceIdeal.Value Cert.Value

/-- Row reads of a table through rank-three start indices: the row named, when it is in range. -/
theorem table_row {α : Type} (x : S6x4.Idx → α) (idx : IVec S8x286x1 32) (b : Fin 8) (j : Fin 286) (c : Fin 4) (k : Fin 6)
    (h : idx (ix3 b j 0) = BitVec.ofNat 32 k.val) :
    Host.gather gather_S6x4_S8x286x1_S8x286x4_2_0_n_n_0_2_14 x idx (ix3 b j c) = x (ix2 k c) := by
  unfold Host.gather
  refine congrArg x (funext fun a => Fin.ext ?_)
  show GatherDims.start _ (ix3 b j c) idx a + GatherDims.batchCoord _ (ix3 b j c) a + GatherDims.offCoord _ (ix3 b j c) a = _
  have h01 : a = (0 : Fin 2) ∨ a = (1 : Fin 2) := by
    match a with
    | ⟨0, _⟩ => exact Or.inl rfl
    | ⟨1, _⟩ => exact Or.inr rfl
  rcases h01 with rfl | rfl
  · rw [GatherDims.batchCoord_eq_zero _ _ _ (by decide), GatherDims.offCoord_eq_zero _ _ _ (by decide)]
    simp only [Nat.add_zero]
    unfold GatherDims.start
    rw [dif_pos (by decide)]
    have hsi : gather_S6x4_S8x286x1_S8x286x4_2_0_n_n_0_2_14.siIdx (ix3 b j c) ⟨List.idxOf (0 : Fin 2) gather_S6x4_S8x286x1_S8x286x4_2_0_n_n_0_2_14.startIndexMap,
        List.idxOf_lt_length_iff.2 (by decide)⟩ = ix3 b j 0 := by
      funext q; refine Fin.ext ?_
      match q with
      | ⟨0, _⟩ => rfl
      | ⟨1, _⟩ => rfl
      | ⟨2, _⟩ => rfl
    rw [hsi, h]
    have hk : ∀ k : Fin 6, min (BitVec.ofNat 32 k.val).toInt.toNat 5 = k.val := by decide
    exact hk k
  · rw [GatherDims.batchCoord_eq_zero _ _ _ (by decide)]
    have hs : GatherDims.start gather_S6x4_S8x286x1_S8x286x4_2_0_n_n_0_2_14 (ix3 b j c) idx (1 : Fin 2) = 0 := by
      unfold GatherDims.start; rw [dif_neg (by decide)]
    rw [hs]
    unfold GatherDims.offCoord
    rw [dif_pos (by decide)]
    simp only [Nat.zero_add]
    rfl

/-- The third convolution's array. -/
def third {F : FTy → Type} [FloatOps F] (V : Valuation τ sig (Elt F)) : (⟨S8x286x8, .f32⟩ : BufTy).Contents (Elt F) :=
  (Host.divf (Host.dotGeneral dot_S8x286x286x8x8_S8x286x8_S8x286x8_42_21_13_n_0_0 none (mulf (shapeCast _ (addf (Host.dotGeneral dot_S8x286x286x32_S32x64_S8x286x286x64_3_0_012_1_n_n none (Host.divf (select (cmpf .une (res_main_call6_v3 V) (res_main_call6_v3 V)) (addf (res_main_v139 V) (broadcastInDim S8x286x286x32 ![] bcast_S_S8x286x286x32 (res_main_call6_cst V))) (addf (maximumf (res_main_v139 V) (broadcastInDim S8x286x286x32 ![] bcast_S_S8x286x286x32 (res_main_call6_cst V))) (Host.log1p (Host.exp (Host.negf (Host.absf (res_main_call6_v3 V))))))) (broadcastInDim S8x286x286x32 ![] bcast_S_S8x286x286x32 (constant S_ .f32 0x40A00000#32))) (V (Proc.devRef .tc main_arg13))) (broadcastInDim S8x286x286x64 ![0, 1, 2, 3] bcast_S1x1x1x64_S8x286x286x64_0_1_2_3 (broadcastInDim S1x1x1x64 ![3] bcast_S64_S1x1x1x64_3 (V (Proc.devRef .tc main_arg14))))) shapeCasts_S8x286x286x64_S8x286x286x8x8) (broadcastInDim S8x286x286x8x8 ![0, 1, 2, 3, 4] bcast_S8x286x286x1x1_S8x286x286x8x8_0_1_2_3_4 (broadcastInDim S8x286x286x1x1 ![0, 1, 2] bcast_S8x286x286_S8x286x286x1x1_0_1_2 (res_main_v118 V)))) (res_main_v105 V)) (broadcastInDim S8x286x8 ![0, 1, 2] bcast_S8x286x1_S8x286x8_0_1_2 (broadcastInDim S8x286x1 ![0, 1] bcast_S8x286_S8x286x1_0_1 (maximumf (Host.reduceAdd (res_main_v118 V) (constant S_ .f32 0x00000000#32) reducesTo_S8x286x286_S8x286_d2 h_S_) (broadcastInDim S8x286 ![] bcast_S_S8x286 (constant S_ .f32 0x3F800000#32))))))

variable (V : Valuation τ sig (Elt Ideal))

/-- The wrapped species is the species, when it is a row of the table. -/
theorem wrapped (z : Fin 8 → Fin 286 → Fin 6) (hz : ∀ b j, (V (Proc.devRef .tc main_arg1) : S8x286x1.Idx → BitVec 32) (ix3 b j 0) = BitVec.ofNat 32 (z b j).val)
    (b : Fin 8) (j : Fin 286) (q : Fin 1) : (res_main_call0_v5 (F := Ideal) V : S8x286x1.Idx → BitVec 32) (ix3 b j q) = BitVec.ofNat 32 (z b j).val := by
  have h : ∀ k : Fin 6, Scalar.select (IntOp.cmpi .slt (BitVec.ofNat 32 k.val) 0#32) (IntOp.addi (BitVec.ofNat 32 k.val) 6#32) (BitVec.ofNat 32 k.val) = BitVec.ofNat 32 k.val := by
    decide
  unfold res_main_call0_v5 res_main_v0
  clean_types
  pointwise [hz]
  exact h _
/-- The table's row at an in-range species. -/
theorem feat (z : Fin 8 → Fin 286 → Fin 6) (hz : ∀ b j, (V (Proc.devRef .tc main_arg1) : S8x286x1.Idx → BitVec 32) (ix3 b j 0) = BitVec.ofNat 32 (z b j).val)
    (b : Fin 8) (j : Fin 286) (c : Fin 4) :
    Scalar.select
        (Finset.fold IntOp.andi (1#1)
          (fun x : Fin 1 => IntOp.andi (IntOp.cmpi .sge ((res_main_call0_v5 (F := Ideal) V : S8x286x1.Idx → BitVec 32) (ix3 b j x)) 0#32)
            (IntOp.cmpi .sle ((res_main_call0_v5 (F := Ideal) V : S8x286x1.Idx → BitVec 32) (ix3 b j x)) 5#32)) Finset.univ)
        (Host.gather gather_S6x4_S8x286x1_S8x286x4_2_0_n_n_0_2_14 (V (Proc.devRef .tc main_arg2) : S6x4.Idx → EReal) (res_main_call0_v5 (F := Ideal) V : S8x286x1.Idx → BitVec 32) (ix3 b j c))
        (Ideal.ofBits .f32 0x7FC00000#32)
      = (V (Proc.devRef .tc main_arg2) : S6x4.Idx → EReal) (ix2 (z b j) c) := by
  have h : ∀ k : Fin 6, IntOp.andi (IntOp.andi (IntOp.cmpi .sge (BitVec.ofNat 32 k.val) 0#32) (IntOp.cmpi .sle (BitVec.ofNat 32 k.val) 5#32)) 1#1 = 1#1 := by
    decide
  rw [table_row _ _ b j c (z b j) (wrapped V z hz b j 0)]
  simp only [wrapped V z hz]
  rw [Finset.univ_unique, Finset.fold_singleton, h]
  rfl

/-- Layer 1's softplus. -/
theorem soft0 (b : Fin 8) (i j : Fin 286) (k : Fin 32) (p : EReal)
    (hp : (res_main_v35 (F := Ideal) V : S8x286x286x32.Idx → EReal) (ix4 b i j k) = p) :
    Ideal.div
      (if (res_main_call2_v3 (F := Ideal) V : S8x286x286x32.Idx → EReal) (ix4 b i j k) ≠ (res_main_call2_v3 (F := Ideal) V : S8x286x286x32.Idx → EReal) (ix4 b i j k)
        then p + (res_main_call2_cst (F := Ideal) V : S_.Idx → EReal) ix0
        else max p ((res_main_call2_cst (F := Ideal) V : S_.Idx → EReal) ix0)
          + Ideal.log1p (Ideal.exp (-FloatOps.absf (F := Ideal) (φ := .f32) ((res_main_call2_v3 (F := Ideal) V : S8x286x286x32.Idx → EReal) (ix4 b i j k)))))
      (Ideal.ofBits .f32 0x40A00000#32) = softOf p := by
  have hc : (res_main_call2_cst (F := Ideal) V : S_.Idx → EReal) ix0 = (0 : EReal) := Ideal.ofBits_zero_f32
  have hv : (res_main_call2_v3 (F := Ideal) V : S8x286x286x32.Idx → EReal) (ix4 b i j k) = p - 0 := by
    rw [← hp, ← hc]; rfl
  rw [if_neg (fun h => h rfl), hv, hc, sub_zero]
  unfold softOf
  rw [zero_sub]
/-- Layer 1's convolution. -/
theorem conv0 (z : Fin 8 → Fin 286 → Fin 6) (hz : ∀ b j, (V (Proc.devRef .tc main_arg1) : S8x286x1.Idx → BitVec 32) (ix3 b j 0) = BitVec.ofNat 32 (z b j).val) (hb : ∀ q, (V (Proc.devRef .tc main_arg6) : S32.Idx → EReal) (ix1 q) = (0 : EReal))
    (b : Fin 8) (i : Fin 286) (o : Fin 8) : (res_main_v53 (F := Ideal) V : S8x286x8.Idx → EReal) (ix3 b i o)
      = convOf (rOf V b) (fun a k => (V (Proc.devRef .tc main_arg3) : S3x32.Idx → EReal) (ix2 a k)) (fun k => (V (Proc.devRef .tc main_arg4) : S32.Idx → EReal) (ix1 k)) (fun k o c => (V (Proc.devRef .tc main_arg5) : S32x32.Idx → EReal) (ix2 k ⟨o.val * 4 + c.val, by omega⟩)) (fun j c => (V (Proc.devRef .tc main_arg2) : S6x4.Idx → EReal) (ix2 (z b j) c)) i o := by
  unfold res_main_v53
  clean_types
  pointwise [pre0, mask0]
  simp only [soft0 V b i _ _ _ (pre0 V b i _ _), hb, add_zero, feat V z hz]
  unfold convOf nbrs
  rw [Finset.sum_comm]

/-- Layer 2's softplus. -/
theorem soft1 (b : Fin 8) (i j : Fin 286) (k : Fin 32) (p : EReal)
    (hp : (res_main_v87 (F := Ideal) V : S8x286x286x32.Idx → EReal) (ix4 b i j k) = p) :
    Ideal.div
      (if (res_main_call4_v3 (F := Ideal) V : S8x286x286x32.Idx → EReal) (ix4 b i j k) ≠ (res_main_call4_v3 (F := Ideal) V : S8x286x286x32.Idx → EReal) (ix4 b i j k)
        then p + (res_main_call4_cst (F := Ideal) V : S_.Idx → EReal) ix0
        else max p ((res_main_call4_cst (F := Ideal) V : S_.Idx → EReal) ix0)
          + Ideal.log1p (Ideal.exp (-FloatOps.absf (F := Ideal) (φ := .f32) ((res_main_call4_v3 (F := Ideal) V : S8x286x286x32.Idx → EReal) (ix4 b i j k)))))
      (Ideal.ofBits .f32 0x40A00000#32) = softOf p := by
  have hc : (res_main_call4_cst (F := Ideal) V : S_.Idx → EReal) ix0 = (0 : EReal) := Ideal.ofBits_zero_f32
  have hv : (res_main_call4_v3 (F := Ideal) V : S8x286x286x32.Idx → EReal) (ix4 b i j k) = p - 0 := by
    rw [← hp, ← hc]; rfl
  rw [if_neg (fun h => h rfl), hv, hc, sub_zero]
  unfold softOf
  rw [zero_sub]
/-- Layer 2's convolution. -/
theorem conv1  (hb : ∀ q, (V (Proc.devRef .tc main_arg10) : S64.Idx → EReal) (ix1 q) = (0 : EReal))
    (b : Fin 8) (i : Fin 286) (o : Fin 8) : (res_main_v105 (F := Ideal) V : S8x286x8.Idx → EReal) (ix3 b i o)
      = convOf (rOf V b) (fun a k => (V (Proc.devRef .tc main_arg7) : S3x32.Idx → EReal) (ix2 a k)) (fun k => (V (Proc.devRef .tc main_arg8) : S32.Idx → EReal) (ix1 k)) (fun k o c => (V (Proc.devRef .tc main_arg9) : S32x64.Idx → EReal) (ix2 k ⟨o.val * 8 + c.val, by omega⟩)) (fun j c => (res_main_v53 (F := Ideal) V : S8x286x8.Idx → EReal) (ix3 b j c)) i o := by
  unfold res_main_v105
  clean_types
  pointwise [pre1, mask1]
  simp only [soft1 V b i _ _ _ (pre1 V b i _ _), hb, add_zero]
  unfold convOf nbrs
  rw [Finset.sum_comm]

/-- Layer 3's softplus. -/
theorem soft2 (b : Fin 8) (i j : Fin 286) (k : Fin 32) (p : EReal)
    (hp : (res_main_v139 (F := Ideal) V : S8x286x286x32.Idx → EReal) (ix4 b i j k) = p) :
    Ideal.div
      (if (res_main_call6_v3 (F := Ideal) V : S8x286x286x32.Idx → EReal) (ix4 b i j k) ≠ (res_main_call6_v3 (F := Ideal) V : S8x286x286x32.Idx → EReal) (ix4 b i j k)
        then p + (res_main_call6_cst (F := Ideal) V : S_.Idx → EReal) ix0
        else max p ((res_main_call6_cst (F := Ideal) V : S_.Idx → EReal) ix0)
          + Ideal.log1p (Ideal.exp (-FloatOps.absf (F := Ideal) (φ := .f32) ((res_main_call6_v3 (F := Ideal) V : S8x286x286x32.Idx → EReal) (ix4 b i j k)))))
      (Ideal.ofBits .f32 0x40A00000#32) = softOf p := by
  have hc : (res_main_call6_cst (F := Ideal) V : S_.Idx → EReal) ix0 = (0 : EReal) := Ideal.ofBits_zero_f32
  have hv : (res_main_call6_v3 (F := Ideal) V : S8x286x286x32.Idx → EReal) (ix4 b i j k) = p - 0 := by
    rw [← hp, ← hc]; rfl
  rw [if_neg (fun h => h rfl), hv, hc, sub_zero]
  unfold softOf
  rw [zero_sub]
/-- Layer 3's convolution. -/
theorem conv2  (hb : ∀ q, (V (Proc.devRef .tc main_arg14) : S64.Idx → EReal) (ix1 q) = (0 : EReal))
    (b : Fin 8) (i : Fin 286) (o : Fin 8) : (third (F := Ideal) V : S8x286x8.Idx → EReal) (ix3 b i o)
      = convOf (rOf V b) (fun a k => (V (Proc.devRef .tc main_arg11) : S3x32.Idx → EReal) (ix2 a k)) (fun k => (V (Proc.devRef .tc main_arg12) : S32.Idx → EReal) (ix1 k)) (fun k o c => (V (Proc.devRef .tc main_arg13) : S32x64.Idx → EReal) (ix2 k ⟨o.val * 8 + c.val, by omega⟩)) (fun j c => (res_main_v105 (F := Ideal) V : S8x286x8.Idx → EReal) (ix3 b j c)) i o := by
  unfold third
  clean_types
  pointwise [pre2, mask2]
  simp only [soft2 V b i _ _ _ (pre2 V b i _ _), hb, add_zero]
  unfold convOf nbrs
  rw [Finset.sum_comm]

/-- The networks' three layers, weights and biases of the radial networks by layer. -/
abbrev w0R (l a : Fin 3) (k : Fin 32) : EReal :=
  match l with
  | 0 => (V (Proc.devRef .tc main_arg3) : S3x32.Idx → EReal) (ix2 a k)
  | 1 => (V (Proc.devRef .tc main_arg7) : S3x32.Idx → EReal) (ix2 a k)
  | 2 => (V (Proc.devRef .tc main_arg11) : S3x32.Idx → EReal) (ix2 a k)
/-- The radial networks' first biases by layer. -/
abbrev b0R (l : Fin 3) (k : Fin 32) : EReal :=
  match l with
  | 0 => (V (Proc.devRef .tc main_arg4) : S32.Idx → EReal) (ix1 k)
  | 1 => (V (Proc.devRef .tc main_arg8) : S32.Idx → EReal) (ix1 k)
  | 2 => (V (Proc.devRef .tc main_arg12) : S32.Idx → EReal) (ix1 k)
/-- The reference's three layers side by side are the plain network's. -/
theorem layers (z : Fin 8 → Fin 286 → Fin 6) (hz : ∀ b j, (V (Proc.devRef .tc main_arg1) : S8x286x1.Idx → BitVec 32) (ix3 b j 0) = BitVec.ofNat 32 (z b j).val)
    (h6 : ∀ q, (V (Proc.devRef .tc main_arg6) : S32.Idx → EReal) (ix1 q) = (0 : EReal))
    (h10 : ∀ q, (V (Proc.devRef .tc main_arg10) : S64.Idx → EReal) (ix1 q) = (0 : EReal))
    (h14 : ∀ q, (V (Proc.devRef .tc main_arg14) : S64.Idx → EReal) (ix1 q) = (0 : EReal))
    (b : Fin 8) (i : Fin 286) (q : Fin 24) : (res_main_v158 (F := Ideal) V : S8x286x24.Idx → EReal) (ix3 b i q)
      = layersOf (rOf V b) (w0R V) (b0R V) (fun k o c => (V (Proc.devRef .tc main_arg5) : S32x32.Idx → EReal) (ix2 k ⟨o.val * 4 + c.val, by omega⟩))
          (fun k o c => (V (Proc.devRef .tc main_arg9) : S32x64.Idx → EReal) (ix2 k ⟨o.val * 8 + c.val, by omega⟩))
          (fun k o c => (V (Proc.devRef .tc main_arg13) : S32x64.Idx → EReal) (ix2 k ⟨o.val * 8 + c.val, by omega⟩))
          (fun j c => (V (Proc.devRef .tc main_arg2) : S6x4.Idx → EReal) (ix2 (z b j) c)) i q := by
  have e : (res_main_v158 (F := Ideal) V : S8x286x24.Idx → EReal)
      = concatenate S8x286x24 2 [⟨S8x286x8, (res_main_v53 (F := Ideal) V : S8x286x8.Idx → EReal)⟩, ⟨S8x286x8, (res_main_v105 (F := Ideal) V : S8x286x8.Idx → EReal)⟩, ⟨S8x286x8, (third (F := Ideal) V : S8x286x8.Idx → EReal)⟩] concatenates_S8x286x8_S8x286x8_S8x286x8_S8x286x24_d2 := rfl
  have f1 := funext fun j => funext fun c => conv0 V z hz h6 b j c
  have f2 := funext fun j => funext fun c => conv1 V h10 b j c
  rw [e]
  unfold layersOf
  pointwise []
  by_cases h : q.val < 8
  · rw [dif_pos h, dif_pos h]
    exact conv0 V z hz h6 b i _
  · rw [dif_neg h, dif_neg h]
    by_cases h' : q.val - 8 < 8
    · rw [dif_pos h', dif_pos h']
      refine (conv1 V h10 b i _).trans ?_
      rw [f1]
    · rw [dif_neg h', dif_neg h']
      refine (conv2 V h14 b i _).trans ?_
      rw [f2, f1]
      exact congrArg _ (Fin.ext (by show q.val - 8 - 8 = q.val - 16; omega))

end Cert.ReferenceIdeal.Plain
-- ==== Proof.Value.Net.lean ====
/- The whole network in plain extended-real arithmetic: the layers' pooled norms, then the head. -/
module

public import proofs.«01_k».proof.Proof.Value.HeadSpec

@[expose] public section

noncomputable section

namespace Cert.Value

open Idealize.ShloMosaic

/-- A molecule's pooled features: for each column of the three layers, the root of its summed squares over the atoms. -/
def poolOf (x : Fin 8 → Fin 286 → Fin 3 → EReal) (z : Fin 8 → Fin 286 → Fin 6) (e : Fin 6 → Fin 4 → EReal)
    (w0 : Fin 3 → Fin 3 → Fin 32 → EReal) (b0 : Fin 3 → Fin 32 → EReal) (wa : Fin 32 → Fin 32 → EReal) (wb wc : Fin 32 → Fin 64 → EReal)
    (b : Fin 8) (q : Fin 24) : EReal :=
  Ideal.sqrt (∑ i : Fin 286,
    layersOf (fun i j => distOf (x b i) (x b j)) w0 b0 (fun k o c => wa k ⟨4 * o.val + c.val, by omega⟩)
        (fun k o c => wb k ⟨8 * o.val + c.val, by omega⟩) (fun k o c => wc k ⟨8 * o.val + c.val, by omega⟩) (fun j c => e (z b j) c) i q
      * layersOf (fun i j => distOf (x b i) (x b j)) w0 b0 (fun k o c => wa k ⟨4 * o.val + c.val, by omega⟩)
        (fun k o c => wb k ⟨8 * o.val + c.val, by omega⟩) (fun k o c => wc k ⟨8 * o.val + c.val, by omega⟩) (fun j c => e (z b j) c) i q)
/-- The network's output entry. -/
def netOf (x : Fin 8 → Fin 286 → Fin 3 → EReal) (z : Fin 8 → Fin 286 → Fin 6) (e : Fin 6 → Fin 4 → EReal)
    (w0 : Fin 3 → Fin 3 → Fin 32 → EReal) (b0 : Fin 3 → Fin 32 → EReal) (wa : Fin 32 → Fin 32 → EReal) (wb wc : Fin 32 → Fin 64 → EReal)
    (u0 : Fin 24 → Fin 24 → EReal) (c0 g0 s0 : Fin 24 → EReal) (u1 : Fin 24 → Fin 48 → EReal) (c1 g1 s1 : Fin 48 → EReal)
    (p : Fin 8) (q : Fin 48) : EReal :=
  headOf (poolOf x z e w0 b0 wa wb wc) u0 c0 g0 s0 u1 c1 g1 s1 p q

end Cert.Value
-- ==== Proof.Value.NetR.lean ====
/- The reference's result read at coordinates: the plain network of the argument arrays. -/
module

public import proofs.«01_k».proof.Proof.Gen.ReferenceIdeal.Run
public import proofs.«01_k».proof.Proof.Value.RefHead
public import proofs.«01_k».proof.Proof.Value.RefConv
public import proofs.«01_k».proof.Proof.Value.Net
public import Idealize.ShloMosaic.Lib.Pointwise
public import Idealize.ShloMosaic.Lib.Tactic.CleanTypes

@[expose] public section

set_option maxRecDepth 16384

noncomputable section

namespace Cert.ReferenceIdeal.Plain

open Idealize.ShloMosaic Idealize.ShloMosaic.TcCoe Idealize.SL.Sem
open Cert.ReferenceIdeal Cert.ReferenceIdeal.Gen Cert.ReferenceIdeal.Value Cert.Value

variable (V : Valuation τ sig (Elt Ideal))

/-- The reference's pooled norms are the plain network's. -/
theorem pool_ref (z : Fin 8 → Fin 286 → Fin 6) (hz : ∀ b j, (V (Proc.devRef .tc main_arg1) : S8x286x1.Idx → BitVec 32) (ix3 b j 0) = BitVec.ofNat 32 (z b j).val)
    (h6 : ∀ q, (V (Proc.devRef .tc main_arg6) : S32.Idx → EReal) (ix1 q) = (0 : EReal))
    (h10 : ∀ q, (V (Proc.devRef .tc main_arg10) : S64.Idx → EReal) (ix1 q) = (0 : EReal))
    (h14 : ∀ q, (V (Proc.devRef .tc main_arg14) : S64.Idx → EReal) (ix1 q) = (0 : EReal)) (b : Fin 8) (q : Fin 24) :
    poolR V b q = poolOf (fun b i k => (V (Proc.devRef .tc main_arg0) : S8x286x3.Idx → EReal) (ix3 b i k)) z (fun k q => (V (Proc.devRef .tc main_arg2) : S6x4.Idx → EReal) (ix2 k q)) (w0R V) (b0R V)
      (fun k q => (V (Proc.devRef .tc main_arg5) : S32x32.Idx → EReal) (ix2 k q)) (fun k q => (V (Proc.devRef .tc main_arg9) : S32x64.Idx → EReal) (ix2 k q)) (fun k q => (V (Proc.devRef .tc main_arg13) : S32x64.Idx → EReal) (ix2 k q)) b q := by
  have e4 : ∀ (o : Fin 8) (c : Fin 4), (⟨o.val * 4 + c.val, by omega⟩ : Fin 32) = ⟨4 * o.val + c.val, by omega⟩ := fun o c => Fin.ext (by show o.val * 4 + c.val = 4 * o.val + c.val; omega)
  have e8 : ∀ (o : Fin 8) (c : Fin 8), (⟨o.val * 8 + c.val, by omega⟩ : Fin 64) = ⟨8 * o.val + c.val, by omega⟩ := fun o c => Fin.ext (by show o.val * 8 + c.val = 8 * o.val + c.val; omega)
  have l := layers V z hz h6 h10 h14 b
  simp only [e4, e8] at l
  unfold poolOf
  refine congrArg Ideal.sqrt (Finset.sum_congr rfl fun i _ => ?_)
  exact congrArg₂ (· * ·) (l i q) (l i q)
/-- The reference's result entry is the plain network's, its argument arrays given at coordinates. -/
theorem net_ref (z : Fin 8 → Fin 286 → Fin 6) (hz : ∀ b j, (V (Proc.devRef .tc main_arg1) : S8x286x1.Idx → BitVec 32) (ix3 b j 0) = BitVec.ofNat 32 (z b j).val)
    (h6 : ∀ q, (V (Proc.devRef .tc main_arg6) : S32.Idx → EReal) (ix1 q) = (0 : EReal))
    (h10 : ∀ q, (V (Proc.devRef .tc main_arg10) : S64.Idx → EReal) (ix1 q) = (0 : EReal))
    (h14 : ∀ q, (V (Proc.devRef .tc main_arg14) : S64.Idx → EReal) (ix1 q) = (0 : EReal))
    (x : Fin 8 → Fin 286 → Fin 3 → EReal) (hx : ∀ b i k, (V (Proc.devRef .tc main_arg0) : S8x286x3.Idx → EReal) (ix3 b i k) = x b i k)
    (e : Fin 6 → Fin 4 → EReal) (he : ∀ k q, (V (Proc.devRef .tc main_arg2) : S6x4.Idx → EReal) (ix2 k q) = e k q)
    (wa : Fin 32 → Fin 32 → EReal) (hwa : ∀ k q, (V (Proc.devRef .tc main_arg5) : S32x32.Idx → EReal) (ix2 k q) = wa k q)
    (wb : Fin 32 → Fin 64 → EReal) (hwb : ∀ k q, (V (Proc.devRef .tc main_arg9) : S32x64.Idx → EReal) (ix2 k q) = wb k q)
    (wc : Fin 32 → Fin 64 → EReal) (hwc : ∀ k q, (V (Proc.devRef .tc main_arg13) : S32x64.Idx → EReal) (ix2 k q) = wc k q)
    (u0 : Fin 24 → Fin 24 → EReal) (hu0 : ∀ k q, (V (Proc.devRef .tc main_arg15) : S24x24.Idx → EReal) (ix2 k q) = u0 k q)
    (c0 : Fin 24 → EReal) (hc0 : ∀ q, (V (Proc.devRef .tc main_arg16) : S24.Idx → EReal) (ix1 q) = c0 q)
    (g0 : Fin 24 → EReal) (hg0 : ∀ q, (V (Proc.devRef .tc main_arg17) : S24.Idx → EReal) (ix1 q) = g0 q)
    (s0 : Fin 24 → EReal) (hs0 : ∀ q, (V (Proc.devRef .tc main_arg18) : S24.Idx → EReal) (ix1 q) = s0 q)
    (u1 : Fin 24 → Fin 48 → EReal) (hu1 : ∀ k q, (V (Proc.devRef .tc main_arg19) : S24x48.Idx → EReal) (ix2 k q) = u1 k q)
    (c1 : Fin 48 → EReal) (hc1 : ∀ q, (V (Proc.devRef .tc main_arg20) : S48.Idx → EReal) (ix1 q) = c1 q)
    (g1 : Fin 48 → EReal) (hg1 : ∀ q, (V (Proc.devRef .tc main_arg21) : S48.Idx → EReal) (ix1 q) = g1 q)
    (s1 : Fin 48 → EReal) (hs1 : ∀ q, (V (Proc.devRef .tc main_arg22) : S48.Idx → EReal) (ix1 q) = s1 q)
    (w0 : Fin 3 → Fin 3 → Fin 32 → EReal) (hw0 : ∀ l a k, w0R V l a k = w0 l a k) (b0 : Fin 3 → Fin 32 → EReal) (hb0 : ∀ l k, b0R V l k = b0 l k)
    (p : Fin 8) (q : Fin 48) :
    (select (cmpf .oge (y208 V) (broadcastInDim S8x48 ![] bcast_S_S8x48 (constant S_ .f32 0x00000000#32))) (y208 V) (mulf (broadcastInDim S8x48 ![] bcast_S_S8x48 (id (constant S_ .f32 0x3E4CCCCD#32))) (y208 V)) : FVec Ideal S8x48 .f32) (ix2 p q)
      = netOf x z e w0 b0 wa wb wc u0 c0 g0 s0 u1 c1 g1 s1 p q := by
  obtain rfl : (fun b i k => (V (Proc.devRef .tc main_arg0) : S8x286x3.Idx → EReal) (ix3 b i k)) = x := funext fun b => funext fun i => funext fun k => hx b i k
  obtain rfl : (fun k q => (V (Proc.devRef .tc main_arg2) : S6x4.Idx → EReal) (ix2 k q)) = e := funext fun k => funext fun q => he k q
  obtain rfl : (fun k q => (V (Proc.devRef .tc main_arg5) : S32x32.Idx → EReal) (ix2 k q)) = wa := funext fun k => funext fun q => hwa k q
  obtain rfl : (fun k q => (V (Proc.devRef .tc main_arg9) : S32x64.Idx → EReal) (ix2 k q)) = wb := funext fun k => funext fun q => hwb k q
  obtain rfl : (fun k q => (V (Proc.devRef .tc main_arg13) : S32x64.Idx → EReal) (ix2 k q)) = wc := funext fun k => funext fun q => hwc k q
  obtain rfl : (fun k q => (V (Proc.devRef .tc main_arg15) : S24x24.Idx → EReal) (ix2 k q)) = u0 := funext fun k => funext fun q => hu0 k q
  obtain rfl : (fun q => (V (Proc.devRef .tc main_arg16) : S24.Idx → EReal) (ix1 q)) = c0 := funext fun q => hc0 q
  obtain rfl : (fun q => (V (Proc.devRef .tc main_arg17) : S24.Idx → EReal) (ix1 q)) = g0 := funext fun q => hg0 q
  obtain rfl : (fun q => (V (Proc.devRef .tc main_arg18) : S24.Idx → EReal) (ix1 q)) = s0 := funext fun q => hs0 q
  obtain rfl : (fun k q => (V (Proc.devRef .tc main_arg19) : S24x48.Idx → EReal) (ix2 k q)) = u1 := funext fun k => funext fun q => hu1 k q
  obtain rfl : (fun q => (V (Proc.devRef .tc main_arg20) : S48.Idx → EReal) (ix1 q)) = c1 := funext fun q => hc1 q
  obtain rfl : (fun q => (V (Proc.devRef .tc main_arg21) : S48.Idx → EReal) (ix1 q)) = g1 := funext fun q => hg1 q
  obtain rfl : (fun q => (V (Proc.devRef .tc main_arg22) : S48.Idx → EReal) (ix1 q)) = s1 := funext fun q => hs1 q
  obtain rfl : w0R V = w0 := funext fun l => funext fun a => funext fun k => hw0 l a k
  obtain rfl : b0R V = b0 := funext fun l => funext fun k => hb0 l k
  refine (head_read V p q).trans ?_
  unfold netOf
  rw [show poolR V = _ from funext fun b => funext fun q => pool_ref V z hz h6 h10 h14 b q]

end Cert.ReferenceIdeal.Plain
-- ==== Proof.Value.Same.lean ====
/- The two programs' results are one array: each is the plain network of the shared arguments. -/
module

public import proofs.«01_k».proof.Proof.Value.Pre
public import proofs.«01_k».proof.Proof.Value.ResultK
public import proofs.«01_k».proof.Proof.Value.NetR

@[expose] public section

set_option maxRecDepth 16384

noncomputable section

namespace Cert.Value

open Idealize.ShloMosaic Idealize.ShloMosaic.TcCoe Idealize.SL.Sem

/-- The kernel's result entry is the plain network's. -/
theorem net_ker (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) (z : Fin 8 → Fin 286 → Fin 6)
    (hz : ∀ b j, Cert.KernelIdeal.Enc.zs m c (ix3 b j 0) = BitVec.ofNat 32 (z b j).val) (p : Fin 8) (q : Fin 48) :
    (Cert.KernelIdeal.Enc.W10 m ρ c (Proc.devRef .tc Cert.KernelIdeal.main_v73) : Cert.KernelIdeal.S8x48.Idx → EReal) (ix2 p q)
      = netOf (fun b i k => Cert.KernelIdeal.Enc.xs m c (ix3 b i k)) z (fun k q => Cert.KernelIdeal.Enc.emb m c (ix2 k q))
        (Cert.KernelIdeal.Enc.w0s m c) (Cert.KernelIdeal.Enc.b0s m c)
        (fun k q => Cert.KernelIdeal.Enc.wa1 m c (ix2 k q)) (fun k q => Cert.KernelIdeal.Enc.wb1 m c (ix2 k q)) (fun k q => Cert.KernelIdeal.Enc.wc1 m c (ix2 k q))
        (fun k q => (m ((c.tc : Thread Cert.KernelIdeal.nD Cert.KernelIdeal.τ).loc Cert.KernelIdeal.main_arg15) : Cert.KernelIdeal.S24x24.Idx → EReal) (ix2 k q))
        (fun q => (m ((c.tc : Thread Cert.KernelIdeal.nD Cert.KernelIdeal.τ).loc Cert.KernelIdeal.main_arg16) : Cert.KernelIdeal.S24.Idx → EReal) (ix1 q))
        (fun q => (m ((c.tc : Thread Cert.KernelIdeal.nD Cert.KernelIdeal.τ).loc Cert.KernelIdeal.main_arg17) : Cert.KernelIdeal.S24.Idx → EReal) (ix1 q))
        (fun q => (m ((c.tc : Thread Cert.KernelIdeal.nD Cert.KernelIdeal.τ).loc Cert.KernelIdeal.main_arg18) : Cert.KernelIdeal.S24.Idx → EReal) (ix1 q))
        (fun k q => (m ((c.tc : Thread Cert.KernelIdeal.nD Cert.KernelIdeal.τ).loc Cert.KernelIdeal.main_arg19) : Cert.KernelIdeal.S24x48.Idx → EReal) (ix2 k q))
        (fun q => (m ((c.tc : Thread Cert.KernelIdeal.nD Cert.KernelIdeal.τ).loc Cert.KernelIdeal.main_arg20) : Cert.KernelIdeal.S48.Idx → EReal) (ix1 q))
        (fun q => (m ((c.tc : Thread Cert.KernelIdeal.nD Cert.KernelIdeal.τ).loc Cert.KernelIdeal.main_arg21) : Cert.KernelIdeal.S48.Idx → EReal) (ix1 q))
        (fun q => (m ((c.tc : Thread Cert.KernelIdeal.nD Cert.KernelIdeal.τ).loc Cert.KernelIdeal.main_arg22) : Cert.KernelIdeal.S48.Idx → EReal) (ix1 q)) p q :=
  Cert.KernelIdeal.Enc.result_read m ρ c z hz p q
/-- From memories agreeing on the arguments, the species being table rows and the filters' last biases zero, the two results are one array. -/
theorem same (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (h : Cert.Pre_species_and_zero_bias.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) = fun _ => 1#1)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (e7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (e8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (e9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (e10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (e11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (e12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (e13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (e14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (e15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (e16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (e17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17))
    (e18 : m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18))
    (e19 : m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19))
    (e20 : m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20))
    (e21 : m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21))
    (e22 : m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) :
    (select (cmpf .oge (Cert.ReferenceIdeal.Plain.y208 (StableHlo.launchContents m' c)) (broadcastInDim Cert.ReferenceIdeal.S8x48 ![] Cert.ReferenceIdeal.Facts₀.bcast_S_S8x48 (constant Cert.ReferenceIdeal.S_ .f32 0x00000000#32))) (Cert.ReferenceIdeal.Plain.y208 (StableHlo.launchContents m' c)) (mulf (broadcastInDim Cert.ReferenceIdeal.S8x48 ![] Cert.ReferenceIdeal.Facts₀.bcast_S_S8x48 (id (constant Cert.ReferenceIdeal.S_ .f32 0x3E4CCCCD#32))) (Cert.ReferenceIdeal.Plain.y208 (StableHlo.launchContents m' c))) : FVec Ideal Cert.ReferenceIdeal.S8x48 .f32)
      = (Cert.KernelIdeal.Enc.W10 m ρ c (Proc.devRef .tc Cert.KernelIdeal.main_v73) : Cert.KernelIdeal.S8x48.Idx → EReal) := by
  obtain ⟨hz, h6, h10, h14⟩ := pre_means _ _ _ _ _ _ _ _ _ _ _ _ _ _ _ _ _ _ _ _ _ _ _ h
  choose z hz using hz
  funext i
  obtain ⟨p, q, rfl⟩ : ∃ (p : Fin 8) (q : Fin 48), i = ix2 p q := ⟨i 0, i 1, eq_ix2 i⟩
  refine Eq.trans ?_ (net_ker m ρ c z (fun b j => hz b j) p q).symm
  exact Cert.ReferenceIdeal.Plain.net_ref (StableHlo.launchContents m' c) z (fun b j => (congrFun e1 (ix3 b j 0)).trans (hz b j))
    (fun q => (congrFun e6 (ix1 q)).trans (h6 q)) (fun q => (congrFun e10 (ix1 q)).trans (h10 q)) (fun q => (congrFun e14 (ix1 q)).trans (h14 q))
    _ (fun b i k => congrFun e0 (ix3 b i k))
    _ (fun k q => congrFun e2 (ix2 k q))
    _ (fun k q => congrFun e5 (ix2 k q))
    _ (fun k q => congrFun e9 (ix2 k q))
    _ (fun k q => congrFun e13 (ix2 k q))
    _ (fun k q => congrFun e15 (ix2 k q))
    _ (fun q => congrFun e16 (ix1 q))
    _ (fun q => congrFun e17 (ix1 q))
    _ (fun q => congrFun e18 (ix1 q))
    _ (fun k q => congrFun e19 (ix2 k q))
    _ (fun q => congrFun e20 (ix1 q))
    _ (fun q => congrFun e21 (ix1 q))
    _ (fun q => congrFun e22 (ix1 q))
    _ (fun l a k => match l with
      | 0 => congrFun e3 (ix2 a k)
      | 1 => congrFun e7 (ix2 a k)
      | 2 => congrFun e11 (ix2 a k))
    _ (fun l k => match l with
      | 0 => congrFun e4 (ix1 k)
      | 1 => congrFun e8 (ix1 k)
      | 2 => congrFun e12 (ix1 k)) p q

end Cert.Value
-- ==== Proof.lean ====
/- The certificate, assembled: the two frames of the kernel (Proof/Kernel/Run.lean, Proof/KernelIdeal/Run.lean), the
   reference's from its run, the rewrite of nothing, and the two results' equality (Proof/Value/Same.lean). -/
module

public import proofs.«01_k».proof.Defs
public import proofs.«01_k».proof.Proof.Kernel.Run
public import proofs.«01_k».proof.Proof.KernelIdeal.Run
public import proofs.«01_k».proof.Proof.Gen.ReferenceIdeal.Run
public import proofs.«01_k».proof.Proof.Value.Same
public import Idealize.ShloMosaic.Init

@[expose] public section

noncomputable section

namespace Cert.Proof

open Idealize.ShloMosaic Idealize.SL.Sem

/-- The kernel at bits: every execution ends, nothing faulting, the arguments unchanged and every counter zero. -/
theorem frame_p : Cert.quiescent_Kernel := fun m ρ _ => Cert.Kernel.Enc.frame m ρ
/-- The same over the extended reals. -/
theorem frame_pi : Cert.quiescent_KernelIdeal := fun m ρ _ => Cert.KernelIdeal.Enc.frame m ρ
/-- The reference over the extended reals: its run leaves the arguments alone, and it has no counters. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the extended reals the two programs, run from memories that agree on the arguments, end with one result. -/
theorem algebraic : Cert.algebraic_KernelIdeal_ReferenceIdeal_pre_species_and_zero_bias := fun m ρ m' ρ' h e => by
  refine ⟨fun c => Cert.KernelIdeal.Enc.W10 m ρ c (Proc.devRef .tc Cert.KernelIdeal.main_v73), Cert.KernelIdeal.Enc.result_runs m ρ, ?_⟩
  refine (θ_run Cert.ReferenceIdeal.defs _ _).mono (fun r hr c => ⟨(hr c).1.trans ?_, (hr c).2⟩)
    (Cert.ReferenceIdeal.Value.run (F := Ideal) m' ρ')
  obtain ⟨e0, e1, e2, e3, e4, e5, e6, e7, e8, e9, e10, e11, e12, e13, e14, e15, e16, e17, e18, e19, e20, e21, e22⟩ := e c
  exact Cert.Value.same m ρ m' c (h c) e0 e1 e2 e3 e4 e5 e6 e7 e8 e9 e10 e11 e12 e13 e14 e15 e16 e17 e18 e19 e20 e21 e22

/-- All the claims of the statement. -/
theorem claim : Cert.Claim := ⟨Cert.Kernel.Gen.facts, Cert.KernelIdeal.Gen.facts, Cert.ReferenceIdeal.Gen.facts, Cert.Value.preFacts,
  frame_p, frame_pi, fun m ρ _ => frame_pi m ρ trivial, frame_ri, fun m ρ _ => frame_ri m ρ trivial, trivial, algebraic⟩

end Cert.Proof
